-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_in_range [hPre_gamma_in_range : Cert.Pre_gamma_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_in_range [hPre_gamma_in_range : Cert.Pre_gamma_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_gamma_in_range [hKernelIdeal : Cert.KernelIdeal.Facts] [hPre_gamma_in_range : Cert.Pre_gamma_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_gamma_in_range [hReferenceIdeal : Cert.ReferenceIdeal.Facts] [hPre_gamma_in_range : Cert.Pre_gamma_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_d" .f32 0x38124925#32 ((1 / 28672 : ℝ) : EReal)
  ∧ IdealRules.bf16_pack.Statement Cert.KernelIdeal.S128x128

def algebraic_KernelIdeal_ReferenceIdeal_pre_gamma_in_range [hKernelIdeal : Cert.KernelIdeal.Facts] [hReferenceIdeal : Cert.ReferenceIdeal.Facts] [hPre_gamma_in_range : Cert.Pre_gamma_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_gamma_in_range : Cert.Pre_gamma_in_range.Facts),
    quiescent_Kernel (hKernel := hKernel)
    ∧ quiescent_KernelIdeal (hKernelIdeal := hKernelIdeal)
    ∧ quiescent_KernelIdeal_pre_gamma_in_range (hKernelIdeal := hKernelIdeal) (hPre_gamma_in_range := hPre_gamma_in_range)
    ∧ quiescent_ReferenceIdeal (hReferenceIdeal := hReferenceIdeal)
    ∧ quiescent_ReferenceIdeal_pre_gamma_in_range (hReferenceIdeal := hReferenceIdeal) (hPre_gamma_in_range := hPre_gamma_in_range)
    ∧ preserves_Kernel_KernelIdeal
    ∧ algebraic_KernelIdeal_ReferenceIdeal_pre_gamma_in_range (hKernelIdeal := hKernelIdeal) (hReferenceIdeal := hReferenceIdeal) (hPre_gamma_in_range := hPre_gamma_in_range)
-- ==== Pre_gamma_in_range.lean ====
abbrev S7x1024x28672 : Shape := ⟨3, ![7, 1024, 28672]⟩
abbrev S28672 : Shape := ⟨1, ![28672]⟩
abbrev S_ : Shape := ⟨0, ![]⟩

class Facts : Prop where
  bitsLt_bf16_f32 : FTy.bits .bf16 < FTy.bits .f32
  bcast_S_S28672 : S_.BroadcastsInDim S28672 (![] : Fin 0 → Fin S28672.rank)

variable [Facts]

def fn {F : FTy → Type} [FloatOps F] (main_arg0 : FVec F S7x1024x28672 .bf16) (main_arg1 : FVec F S28672 .bf16) : IVec S28672 1 :=
  let main_v0 : FVec F S28672 .f32 := (extf .f32 · bitsLt_bf16_f32) main_arg1
  let main_v1 : FVec F S28672 .f32 := Host.absf main_v0
  let main_cst : FVec F S_ .f32 := constant S_ .f32 0x7E800000#32
  let main_v2 : FVec F S28672 .f32 := broadcastInDim S28672 ![] bcast_S_S28672 main_cst
  let main_v3 : IVec S28672 1 := cmpf .ole main_v1 main_v2
  main_v3
-- ==== Kernel.lean ====
abbrev S7x1024x28672 : Shape := ⟨3, ![7, 1024, 28672]⟩
abbrev S28672 : Shape := ⟨1, ![28672]⟩
abbrev S7168x28672 : Shape := ⟨2, ![7168, 28672]⟩
abbrev S1x28672 : Shape := ⟨2, ![1, 28672]⟩
abbrev S224x7168 : Shape := ⟨2, ![224, 7168]⟩
abbrev S28672x7168 : Shape := ⟨2, ![28672, 7168]⟩
abbrev S7x224x8x128 : Shape := ⟨4, ![7, 224, 8, 128]⟩
abbrev S56x1x128 : Shape := ⟨3, ![56, 1, 128]⟩
abbrev S128x28672 : Shape := ⟨2, ![128, 28672]⟩
abbrev S224x128 : Shape := ⟨2, ![224, 128]⟩
abbrev S28672x128 : Shape := ⟨2, ![28672, 128]⟩
abbrev S1x224x8x128 : Shape := ⟨4, ![1, 224, 8, 128]⟩
abbrev S1x1x128 : Shape := ⟨3, ![1, 1, 128]⟩
abbrev S128x128 : Shape := ⟨2, ![128, 128]⟩
abbrev S1x128 : Shape := ⟨2, ![1, 128]⟩
abbrev S16x128 : Shape := ⟨2, ![16, 128]⟩
abbrev S8x128 : Shape := ⟨2, ![8, 128]⟩
abbrev S4x128 : Shape := ⟨2, ![4, 128]⟩
abbrev S2x128 : Shape := ⟨2, ![2, 128]⟩
abbrev S128 : Shape := ⟨1, ![128]⟩
abbrev S1x1x1x128 : Shape := ⟨4, ![1, 1, 1, 128]⟩

abbrev nBuf : Space → Nat
  | .hbm => 10
  | .vmem => 14
  | .smem => 0
  | _ => 0

abbrev bufTy : (tb : Table) → Fin (tcTables nBuf tb) → BufTy
  | .hbm, ⟨0, _⟩ => ⟨S7x1024x28672, .bf16⟩
  | .hbm, ⟨1, _⟩ => ⟨S28672, .bf16⟩
  | .hbm, ⟨2, _⟩ => ⟨S7168x28672, .bf16⟩
  | .hbm, ⟨3, _⟩ => ⟨S28672, .f32⟩
  | .hbm, ⟨4, _⟩ => ⟨S1x28672, .f32⟩
  | .hbm, ⟨5, _⟩ => ⟨S7168x28672, .fp8e4m3⟩
  | .hbm, ⟨6, _⟩ => ⟨S224x7168, .f32⟩
  | .hbm, ⟨7, _⟩ => ⟨S28672x7168, .fp8e4m3⟩
  | .hbm, ⟨8, _⟩ => ⟨S7x224x8x128, .f32⟩
  | .hbm, ⟨9, _⟩ => ⟨S56x1x128, .f32⟩
  | .local _ .vmem, ⟨0, _⟩ => ⟨S128x28672, .bf16⟩
  | .local _ .vmem, ⟨1, _⟩ => ⟨S128x28672, .bf16⟩
  | .local _ .vmem, ⟨2, _⟩ => ⟨S1x28672, .f32⟩
  | .local _ .vmem, ⟨3, _⟩ => ⟨S128x28672, .fp8e4m3⟩
  | .local _ .vmem, ⟨4, _⟩ => ⟨S128x28672, .fp8e4m3⟩
  | .local _ .vmem, ⟨5, _⟩ => ⟨S224x128, .f32⟩
  | .local _ .vmem, ⟨6, _⟩ => ⟨S224x128, .f32⟩
  | .local _ .vmem, ⟨7, _⟩ => ⟨S28672x128, .fp8e4m3⟩
  | .local _ .vmem, ⟨8, _⟩ => ⟨S28672x128, .fp8e4m3⟩
  | .local _ .vmem, ⟨9, _⟩ => ⟨S1x224x8x128, .f32⟩
  | .local _ .vmem, ⟨10, _⟩ => ⟨S1x224x8x128, .f32⟩
  | .local _ .vmem, ⟨11, _⟩ => ⟨S1x1x128, .f32⟩
  | .local _ .vmem, ⟨12, _⟩ => ⟨S1x1x128, .f32⟩
  | .local _ .vmem, ⟨13, _⟩ => ⟨S128x128, .f32⟩
  | _, _ => ⟨S7x1024x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![56], ![false]⟩

@[reducible] def k0_t1_loop : Scf.Loop 32 :=
  let c0_i32 : BitVec 32 := 0#32
  let c7_i32 : BitVec 32 := 7#32
  let v1 : BitVec 32 := Scalar.addi c0_i32 c7_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v18 : BitVec 32 := Scalar.muli arg9 c32_i32
  let c0_i32_10 : BitVec 32 := 0#32
  let v19 : BitVec 32 := Scalar.addi v18 c0_i32_10
  let c128_i32 : BitVec 32 := 128#32
  let v20 : BitVec 32 := Scalar.muli v19 c128_i32
  v20
def k0_off1 (k0_t1 : Fin k0_t1_loop.trips) (c0_i32_10 : BitVec 32) : Fin 2 → Nat :=
  let c0_11 : Index := 0#32
  let c0_i32 : BitVec 32 := 0#32
  let c1_i32 : BitVec 32 := 1#32
  let arg9 : BitVec 32 := Scf.iv c0_i32 c1_i32 k0_t1
  let c32_i32 : BitVec 32 := 32#32
  let v18 : BitVec 32 := Scalar.muli arg9 c32_i32
  let v19 : BitVec 32 := Scalar.addi v18 c0_i32_10
  let c128_i32 : BitVec 32 := 128#32
  let v20 : BitVec 32 := Scalar.muli v19 c128_i32
  let v21 : BitVec 32 := v20
  let v22 : Index := Scalar.indexCast v21
  ![0, v22.toNat]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_12 : BitVec 32 := 32#32
  let v27 : BitVec 32 := Scalar.muli arg9 c32_i32_12
  let c1_i32_13 : BitVec 32 := 1#32
  let v28 : BitVec 32 := Scalar.addi v27 c1_i32_13
  let c128_i32_14 : BitVec 32 := 128#32
  let v29 : BitVec 32 := Scalar.muli v28 c128_i32_14
  v29
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_16 : BitVec 32 := 32#32
  let v37 : BitVec 32 := Scalar.muli arg9 c32_i32_16
  let c2_i32 : BitVec 32 := 2#32
  let v38 : BitVec 32 := Scalar.addi v37 c2_i32
  let c128_i32_17 : BitVec 32 := 128#32
  let v39 : BitVec 32 := Scalar.muli v38 c128_i32_17
  v39
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_19 : BitVec 32 := 32#32
  let v47 : BitVec 32 := Scalar.muli arg9 c32_i32_19
  let c3_i32 : BitVec 32 := 3#32
  let v48 : BitVec 32 := Scalar.addi v47 c3_i32
  let c128_i32_20 : BitVec 32 := 128#32
  let v49 : BitVec 32 := Scalar.muli v48 c128_i32_20
  v49
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_22 : BitVec 32 := 32#32
  let v57 : BitVec 32 := Scalar.muli arg9 c32_i32_22
  let c4_i32 : BitVec 32 := 4#32
  let v58 : BitVec 32 := Scalar.addi v57 c4_i32
  let c128_i32_23 : BitVec 32 := 128#32
  let v59 : BitVec 32 := Scalar.muli v58 c128_i32_23
  v59
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_25 : BitVec 32 := 32#32
  let v67 : BitVec 32 := Scalar.muli arg9 c32_i32_25
  let c5_i32 : BitVec 32 := 5#32
  let v68 : BitVec 32 := Scalar.addi v67 c5_i32
  let c128_i32_26 : BitVec 32 := 128#32
  let v69 : BitVec 32 := Scalar.muli v68 c128_i32_26
  v69
def k0_mult7 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_28 : BitVec 32 := 32#32
  let v77 : BitVec 32 := Scalar.muli arg9 c32_i32_28
  let c6_i32 : BitVec 32 := 6#32
  let v78 : BitVec 32 := Scalar.addi v77 c6_i32
  let c128_i32_29 : BitVec 32 := 128#32
  let v79 : BitVec 32 := Scalar.muli v78 c128_i32_29
  v79
def k0_mult8 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_31 : BitVec 32 := 32#32
  let v87 : BitVec 32 := Scalar.muli arg9 c32_i32_31
  let c7_i32_32 : BitVec 32 := 7#32
  let v88 : BitVec 32 := Scalar.addi v87 c7_i32_32
  let c128_i32_33 : BitVec 32 := 128#32
  let v89 : BitVec 32 := Scalar.muli v88 c128_i32_33
  v89
def k0_mult9 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_35 : BitVec 32 := 32#32
  let v97 : BitVec 32 := Scalar.muli arg9 c32_i32_35
  let c8_i32 : BitVec 32 := 8#32
  let v98 : BitVec 32 := Scalar.addi v97 c8_i32
  let c128_i32_36 : BitVec 32 := 128#32
  let v99 : BitVec 32 := Scalar.muli v98 c128_i32_36
  v99
def k0_mult10 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_38 : BitVec 32 := 32#32
  let v107 : BitVec 32 := Scalar.muli arg9 c32_i32_38
  let c9_i32 : BitVec 32 := 9#32
  let v108 : BitVec 32 := Scalar.addi v107 c9_i32
  let c128_i32_39 : BitVec 32 := 128#32
  let v109 : BitVec 32 := Scalar.muli v108 c128_i32_39
  v109
def k0_mult11 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_41 : BitVec 32 := 32#32
  let v117 : BitVec 32 := Scalar.muli arg9 c32_i32_41
  let c10_i32 : BitVec 32 := 10#32
  let v118 : BitVec 32 := Scalar.addi v117 c10_i32
  let c128_i32_42 : BitVec 32 := 128#32
  let v119 : BitVec 32 := Scalar.muli v118 c128_i32_42
  v119
def k0_mult12 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_44 : BitVec 32 := 32#32
  let v127 : BitVec 32 := Scalar.muli arg9 c32_i32_44
  let c11_i32 : BitVec 32 := 11#32
  let v128 : BitVec 32 := Scalar.addi v127 c11_i32
  let c128_i32_45 : BitVec 32 := 128#32
  let v129 : BitVec 32 := Scalar.muli v128 c128_i32_45
  v129
def k0_mult13 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_47 : BitVec 32 := 32#32
  let v137 : BitVec 32 := Scalar.muli arg9 c32_i32_47
  let c12_i32 : BitVec 32 := 12#32
  let v138 : BitVec 32 := Scalar.addi v137 c12_i32
  let c128_i32_48 : BitVec 32 := 128#32
  let v139 : BitVec 32 := Scalar.muli v138 c128_i32_48
  v139
def k0_mult14 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_50 : BitVec 32 := 32#32
  let v147 : BitVec 32 := Scalar.muli arg9 c32_i32_50
  let c13_i32 : BitVec 32 := 13#32
  let v148 : BitVec 32 := Scalar.addi v147 c13_i32
  let c128_i32_51 : BitVec 32 := 128#32
  let v149 : BitVec 32 := Scalar.muli v148 c128_i32_51
  v149
def k0_mult15 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_53 : BitVec 32 := 32#32
  let v157 : BitVec 32 := Scalar.muli arg9 c32_i32_53
  let c14_i32 : BitVec 32 := 14#32
  let v158 : BitVec 32 := Scalar.addi v157 c14_i32
  let c128_i32_54 : BitVec 32 := 128#32
  let v159 : BitVec 32 := Scalar.muli v158 c128_i32_54
  v159
def k0_mult16 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_56 : BitVec 32 := 32#32
  let v167 : BitVec 32 := Scalar.muli arg9 c32_i32_56
  let c15_i32 : BitVec 32 := 15#32
  let v168 : BitVec 32 := Scalar.addi v167 c15_i32
  let c128_i32_57 : BitVec 32 := 128#32
  let v169 : BitVec 32 := Scalar.muli v168 c128_i32_57
  v169
def k0_mult17 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_59 : BitVec 32 := 32#32
  let v177 : BitVec 32 := Scalar.muli arg9 c32_i32_59
  let c16_i32 : BitVec 32 := 16#32
  let v178 : BitVec 32 := Scalar.addi v177 c16_i32
  let c128_i32_60 : BitVec 32 := 128#32
  let v179 : BitVec 32 := Scalar.muli v178 c128_i32_60
  v179
def k0_mult18 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_62 : BitVec 32 := 32#32
  let v187 : BitVec 32 := Scalar.muli arg9 c32_i32_62
  let c17_i32 : BitVec 32 := 17#32
  let v188 : BitVec 32 := Scalar.addi v187 c17_i32
  let c128_i32_63 : BitVec 32 := 128#32
  let v189 : BitVec 32 := Scalar.muli v188 c128_i32_63
  v189
def k0_mult19 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_65 : BitVec 32 := 32#32
  let v197 : BitVec 32 := Scalar.muli arg9 c32_i32_65
  let c18_i32 : BitVec 32 := 18#32
  let v198 : BitVec 32 := Scalar.addi v197 c18_i32
  let c128_i32_66 : BitVec 32 := 128#32
  let v199 : BitVec 32 := Scalar.muli v198 c128_i32_66
  v199
def k0_mult20 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_68 : BitVec 32 := 32#32
  let v207 : BitVec 32 := Scalar.muli arg9 c32_i32_68
  let c19_i32 : BitVec 32 := 19#32
  let v208 : BitVec 32 := Scalar.addi v207 c19_i32
  let c128_i32_69 : BitVec 32 := 128#32
  let v209 : BitVec 32 := Scalar.muli v208 c128_i32_69
  v209
def k0_mult21 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_71 : BitVec 32 := 32#32
  let v217 : BitVec 32 := Scalar.muli arg9 c32_i32_71
  let c20_i32 : BitVec 32 := 20#32
  let v218 : BitVec 32 := Scalar.addi v217 c20_i32
  let c128_i32_72 : BitVec 32 := 128#32
  let v219 : BitVec 32 := Scalar.muli v218 c128_i32_72
  v219
def k0_mult22 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_74 : BitVec 32 := 32#32
  let v227 : BitVec 32 := Scalar.muli arg9 c32_i32_74
  let c21_i32 : BitVec 32 := 21#32
  let v228 : BitVec 32 := Scalar.addi v227 c21_i32
  let c128_i32_75 : BitVec 32 := 128#32
  let v229 : BitVec 32 := Scalar.muli v228 c128_i32_75
  v229
def k0_mult23 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_77 : BitVec 32 := 32#32
  let v237 : BitVec 32 := Scalar.muli arg9 c32_i32_77
  let c22_i32 : BitVec 32 := 22#32
  let v238 : BitVec 32 := Scalar.addi v237 c22_i32
  let c128_i32_78 : BitVec 32 := 128#32
  let v239 : BitVec 32 := Scalar.muli v238 c128_i32_78
  v239
def k0_mult24 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_80 : BitVec 32 := 32#32
  let v247 : BitVec 32 := Scalar.muli arg9 c32_i32_80
  let c23_i32 : BitVec 32 := 23#32
  let v248 : BitVec 32 := Scalar.addi v247 c23_i32
  let c128_i32_81 : BitVec 32 := 128#32
  let v249 : BitVec 32 := Scalar.muli v248 c128_i32_81
  v249
def k0_mult25 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_83 : BitVec 32 := 32#32
  let v257 : BitVec 32 := Scalar.muli arg9 c32_i32_83
  let c24_i32 : BitVec 32 := 24#32
  let v258 : BitVec 32 := Scalar.addi v257 c24_i32
  let c128_i32_84 : BitVec 32 := 128#32
  let v259 : BitVec 32 := Scalar.muli v258 c128_i32_84
  v259
def k0_mult26 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_86 : BitVec 32 := 32#32
  let v267 : BitVec 32 := Scalar.muli arg9 c32_i32_86
  let c25_i32 : BitVec 32 := 25#32
  let v268 : BitVec 32 := Scalar.addi v267 c25_i32
  let c128_i32_87 : BitVec 32 := 128#32
  let v269 : BitVec 32 := Scalar.muli v268 c128_i32_87
  v269
def k0_mult27 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_89 : BitVec 32 := 32#32
  let v277 : BitVec 32 := Scalar.muli arg9 c32_i32_89
  let c26_i32 : BitVec 32 := 26#32
  let v278 : BitVec 32 := Scalar.addi v277 c26_i32
  let c128_i32_90 : BitVec 32 := 128#32
  let v279 : BitVec 32 := Scalar.muli v278 c128_i32_90
  v279
def k0_mult28 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_92 : BitVec 32 := 32#32
  let v287 : BitVec 32 := Scalar.muli arg9 c32_i32_92
  let c27_i32 : BitVec 32 := 27#32
  let v288 : BitVec 32 := Scalar.addi v287 c27_i32
  let c128_i32_93 : BitVec 32 := 128#32
  let v289 : BitVec 32 := Scalar.muli v288 c128_i32_93
  v289
def k0_mult29 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_95 : BitVec 32 := 32#32
  let v297 : BitVec 32 := Scalar.muli arg9 c32_i32_95
  let c28_i32 : BitVec 32 := 28#32
  let v298 : BitVec 32 := Scalar.addi v297 c28_i32
  let c128_i32_96 : BitVec 32 := 128#32
  let v299 : BitVec 32 := Scalar.muli v298 c128_i32_96
  v299
def k0_mult30 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_98 : BitVec 32 := 32#32
  let v307 : BitVec 32 := Scalar.muli arg9 c32_i32_98
  let c29_i32 : BitVec 32 := 29#32
  let v308 : BitVec 32 := Scalar.addi v307 c29_i32
  let c128_i32_99 : BitVec 32 := 128#32
  let v309 : BitVec 32 := Scalar.muli v308 c128_i32_99
  v309
def k0_mult31 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_101 : BitVec 32 := 32#32
  let v317 : BitVec 32 := Scalar.muli arg9 c32_i32_101
  let c30_i32 : BitVec 32 := 30#32
  let v318 : BitVec 32 := Scalar.addi v317 c30_i32
  let c128_i32_102 : BitVec 32 := 128#32
  let v319 : BitVec 32 := Scalar.muli v318 c128_i32_102
  v319
def k0_mult32 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_104 : BitVec 32 := 32#32
  let v327 : BitVec 32 := Scalar.muli arg9 c32_i32_104
  let c31_i32 : BitVec 32 := 31#32
  let v328 : BitVec 32 := Scalar.addi v327 c31_i32
  let c128_i32_105 : BitVec 32 := 128#32
  let v329 : BitVec 32 := Scalar.muli v328 c128_i32_105
  v329
def k0_mult33 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_107 : BitVec 32 := 32#32
  let v337 : BitVec 32 := Scalar.muli arg9 c32_i32_107
  let c0_i32_108 : BitVec 32 := 0#32
  let v338 : BitVec 32 := Scalar.addi v337 c0_i32_108
  let c128_i32_109 : BitVec 32 := 128#32
  let v339 : BitVec 32 := Scalar.muli v338 c128_i32_109
  v339
def k0_off2 (k0_t1 : Fin k0_t1_loop.trips) (c0_i32_108 : BitVec 32) : Fin 2 → Nat :=
  let c16 : Index := 16#32
  let c0_i32 : BitVec 32 := 0#32
  let c1_i32 : BitVec 32 := 1#32
  let arg9 : BitVec 32 := Scf.iv c0_i32 c1_i32 k0_t1
  let c32_i32_107 : BitVec 32 := 32#32
  let v337 : BitVec 32 := Scalar.muli arg9 c32_i32_107
  let v338 : BitVec 32 := Scalar.addi v337 c0_i32_108
  let c128_i32_109 : BitVec 32 := 128#32
  let v339 : BitVec 32 := Scalar.muli v338 c128_i32_109
  let v340 : BitVec 32 := v339
  let v341 : Index := Scalar.indexCast v340
  ![16, v341.toNat]
def k0_mult34 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_110 : BitVec 32 := 32#32
  let v346 : BitVec 32 := Scalar.muli arg9 c32_i32_110
  let c1_i32_111 : BitVec 32 := 1#32
  let v347 : BitVec 32 := Scalar.addi v346 c1_i32_111
  let c128_i32_112 : BitVec 32 := 128#32
  let v348 : BitVec 32 := Scalar.muli v347 c128_i32_112
  v348
def k0_mult35 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_114 : BitVec 32 := 32#32
  let v356 : BitVec 32 := Scalar.muli arg9 c32_i32_114
  let c2_i32_115 : BitVec 32 := 2#32
  let v357 : BitVec 32 := Scalar.addi v356 c2_i32_115
  let c128_i32_116 : BitVec 32 := 128#32
  let v358 : BitVec 32 := Scalar.muli v357 c128_i32_116
  v358
def k0_mult36 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_118 : BitVec 32 := 32#32
  let v366 : BitVec 32 := Scalar.muli arg9 c32_i32_118
  let c3_i32_119 : BitVec 32 := 3#32
  let v367 : BitVec 32 := Scalar.addi v366 c3_i32_119
  let c128_i32_120 : BitVec 32 := 128#32
  let v368 : BitVec 32 := Scalar.muli v367 c128_i32_120
  v368
def k0_mult37 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_122 : BitVec 32 := 32#32
  let v376 : BitVec 32 := Scalar.muli arg9 c32_i32_122
  let c4_i32_123 : BitVec 32 := 4#32
  let v377 : BitVec 32 := Scalar.addi v376 c4_i32_123
  let c128_i32_124 : BitVec 32 := 128#32
  let v378 : BitVec 32 := Scalar.muli v377 c128_i32_124
  v378
def k0_mult38 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_126 : BitVec 32 := 32#32
  let v386 : BitVec 32 := Scalar.muli arg9 c32_i32_126
  let c5_i32_127 : BitVec 32 := 5#32
  let v387 : BitVec 32 := Scalar.addi v386 c5_i32_127
  let c128_i32_128 : BitVec 32 := 128#32
  let v388 : BitVec 32 := Scalar.muli v387 c128_i32_128
  v388
def k0_mult39 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_130 : BitVec 32 := 32#32
  let v396 : BitVec 32 := Scalar.muli arg9 c32_i32_130
  let c6_i32_131 : BitVec 32 := 6#32
  let v397 : BitVec 32 := Scalar.addi v396 c6_i32_131
  let c128_i32_132 : BitVec 32 := 128#32
  let v398 : BitVec 32 := Scalar.muli v397 c128_i32_132
  v398
def k0_mult40 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_134 : BitVec 32 := 32#32
  let v406 : BitVec 32 := Scalar.muli arg9 c32_i32_134
  let c7_i32_135 : BitVec 32 := 7#32
  let v407 : BitVec 32 := Scalar.addi v406 c7_i32_135
  let c128_i32_136 : BitVec 32 := 128#32
  let v408 : BitVec 32 := Scalar.muli v407 c128_i32_136
  v408
def k0_mult41 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_138 : BitVec 32 := 32#32
  let v416 : BitVec 32 := Scalar.muli arg9 c32_i32_138
  let c8_i32_139 : BitVec 32 := 8#32
  let v417 : BitVec 32 := Scalar.addi v416 c8_i32_139
  let c128_i32_140 : BitVec 32 := 128#32
  let v418 : BitVec 32 := Scalar.muli v417 c128_i32_140
  v418
def k0_mult42 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_142 : BitVec 32 := 32#32
  let v426 : BitVec 32 := Scalar.muli arg9 c32_i32_142
  let c9_i32_143 : BitVec 32 := 9#32
  let v427 : BitVec 32 := Scalar.addi v426 c9_i32_143
  let c128_i32_144 : BitVec 32 := 128#32
  let v428 : BitVec 32 := Scalar.muli v427 c128_i32_144
  v428
def k0_mult43 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_146 : BitVec 32 := 32#32
  let v436 : BitVec 32 := Scalar.muli arg9 c32_i32_146
  let c10_i32_147 : BitVec 32 := 10#32
  let v437 : BitVec 32 := Scalar.addi v436 c10_i32_147
  let c128_i32_148 : BitVec 32 := 128#32
  let v438 : BitVec 32 := Scalar.muli v437 c128_i32_148
  v438
def k0_mult44 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_150 : BitVec 32 := 32#32
  let v446 : BitVec 32 := Scalar.muli arg9 c32_i32_150
  let c11_i32_151 : BitVec 32 := 11#32
  let v447 : BitVec 32 := Scalar.addi v446 c11_i32_151
  let c128_i32_152 : BitVec 32 := 128#32
  let v448 : BitVec 32 := Scalar.muli v447 c128_i32_152
  v448
def k0_mult45 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_154 : BitVec 32 := 32#32
  let v456 : BitVec 32 := Scalar.muli arg9 c32_i32_154
  let c12_i32_155 : BitVec 32 := 12#32
  let v457 : BitVec 32 := Scalar.addi v456 c12_i32_155
  let c128_i32_156 : BitVec 32 := 128#32
  let v458 : BitVec 32 := Scalar.muli v457 c128_i32_156
  v458
def k0_mult46 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_158 : BitVec 32 := 32#32
  let v466 : BitVec 32 := Scalar.muli arg9 c32_i32_158
  let c13_i32_159 : BitVec 32 := 13#32
  let v467 : BitVec 32 := Scalar.addi v466 c13_i32_159
  let c128_i32_160 : BitVec 32 := 128#32
  let v468 : BitVec 32 := Scalar.muli v467 c128_i32_160
  v468
def k0_mult47 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_162 : BitVec 32 := 32#32
  let v476 : BitVec 32 := Scalar.muli arg9 c32_i32_162
  let c14_i32_163 : BitVec 32 := 14#32
  let v477 : BitVec 32 := Scalar.addi v476 c14_i32_163
  let c128_i32_164 : BitVec 32 := 128#32
  let v478 : BitVec 32 := Scalar.muli v477 c128_i32_164
  v478
def k0_mult48 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_166 : BitVec 32 := 32#32
  let v486 : BitVec 32 := Scalar.muli arg9 c32_i32_166
  let c15_i32_167 : BitVec 32 := 15#32
  let v487 : BitVec 32 := Scalar.addi v486 c15_i32_167
  let c128_i32_168 : BitVec 32 := 128#32
  let v488 : BitVec 32 := Scalar.muli v487 c128_i32_168
  v488
def k0_mult49 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_170 : BitVec 32 := 32#32
  let v496 : BitVec 32 := Scalar.muli arg9 c32_i32_170
  let c16_i32_171 : BitVec 32 := 16#32
  let v497 : BitVec 32 := Scalar.addi v496 c16_i32_171
  let c128_i32_172 : BitVec 32 := 128#32
  let v498 : BitVec 32 := Scalar.muli v497 c128_i32_172
  v498
def k0_mult50 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_174 : BitVec 32 := 32#32
  let v506 : BitVec 32 := Scalar.muli arg9 c32_i32_174
  let c17_i32_175 : BitVec 32 := 17#32
  let v507 : BitVec 32 := Scalar.addi v506 c17_i32_175
  let c128_i32_176 : BitVec 32 := 128#32
  let v508 : BitVec 32 := Scalar.muli v507 c128_i32_176
  v508
def k0_mult51 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_178 : BitVec 32 := 32#32
  let v516 : BitVec 32 := Scalar.muli arg9 c32_i32_178
  let c18_i32_179 : BitVec 32 := 18#32
  let v517 : BitVec 32 := Scalar.addi v516 c18_i32_179
  let c128_i32_180 : BitVec 32 := 128#32
  let v518 : BitVec 32 := Scalar.muli v517 c128_i32_180
  v518
def k0_mult52 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_182 : BitVec 32 := 32#32
  let v526 : BitVec 32 := Scalar.muli arg9 c32_i32_182
  let c19_i32_183 : BitVec 32 := 19#32
  let v527 : BitVec 32 := Scalar.addi v526 c19_i32_183
  let c128_i32_184 : BitVec 32 := 128#32
  let v528 : BitVec 32 := Scalar.muli v527 c128_i32_184
  v528
def k0_mult53 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_186 : BitVec 32 := 32#32
  let v536 : BitVec 32 := Scalar.muli arg9 c32_i32_186
  let c20_i32_187 : BitVec 32 := 20#32
  let v537 : BitVec 32 := Scalar.addi v536 c20_i32_187
  let c128_i32_188 : BitVec 32 := 128#32
  let v538 : BitVec 32 := Scalar.muli v537 c128_i32_188
  v538
def k0_mult54 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_190 : BitVec 32 := 32#32
  let v546 : BitVec 32 := Scalar.muli arg9 c32_i32_190
  let c21_i32_191 : BitVec 32 := 21#32
  let v547 : BitVec 32 := Scalar.addi v546 c21_i32_191
  let c128_i32_192 : BitVec 32 := 128#32
  let v548 : BitVec 32 := Scalar.muli v547 c128_i32_192
  v548
def k0_mult55 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_194 : BitVec 32 := 32#32
  let v556 : BitVec 32 := Scalar.muli arg9 c32_i32_194
  let c22_i32_195 : BitVec 32 := 22#32
  let v557 : BitVec 32 := Scalar.addi v556 c22_i32_195
  let c128_i32_196 : BitVec 32 := 128#32
  let v558 : BitVec 32 := Scalar.muli v557 c128_i32_196
  v558
def k0_mult56 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_198 : BitVec 32 := 32#32
  let v566 : BitVec 32 := Scalar.muli arg9 c32_i32_198
  let c23_i32_199 : BitVec 32 := 23#32
  let v567 : BitVec 32 := Scalar.addi v566 c23_i32_199
  let c128_i32_200 : BitVec 32 := 128#32
  let v568 : BitVec 32 := Scalar.muli v567 c128_i32_200
  v568
def k0_mult57 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_202 : BitVec 32 := 32#32
  let v576 : BitVec 32 := Scalar.muli arg9 c32_i32_202
  let c24_i32_203 : BitVec 32 := 24#32
  let v577 : BitVec 32 := Scalar.addi v576 c24_i32_203
  let c128_i32_204 : BitVec 32 := 128#32
  let v578 : BitVec 32 := Scalar.muli v577 c128_i32_204
  v578
def k0_mult58 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_206 : BitVec 32 := 32#32
  let v586 : BitVec 32 := Scalar.muli arg9 c32_i32_206
  let c25_i32_207 : BitVec 32 := 25#32
  let v587 : BitVec 32 := Scalar.addi v586 c25_i32_207
  let c128_i32_208 : BitVec 32 := 128#32
  let v588 : BitVec 32 := Scalar.muli v587 c128_i32_208
  v588
def k0_mult59 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_210 : BitVec 32 := 32#32
  let v596 : BitVec 32 := Scalar.muli arg9 c32_i32_210
  let c26_i32_211 : BitVec 32 := 26#32
  let v597 : BitVec 32 := Scalar.addi v596 c26_i32_211
  let c128_i32_212 : BitVec 32 := 128#32
  let v598 : BitVec 32 := Scalar.muli v597 c128_i32_212
  v598
def k0_mult60 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_214 : BitVec 32 := 32#32
  let v606 : BitVec 32 := Scalar.muli arg9 c32_i32_214
  let c27_i32_215 : BitVec 32 := 27#32
  let v607 : BitVec 32 := Scalar.addi v606 c27_i32_215
  let c128_i32_216 : BitVec 32 := 128#32
  let v608 : BitVec 32 := Scalar.muli v607 c128_i32_216
  v608
def k0_mult61 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_218 : BitVec 32 := 32#32
  let v616 : BitVec 32 := Scalar.muli arg9 c32_i32_218
  let c28_i32_219 : BitVec 32 := 28#32
  let v617 : BitVec 32 := Scalar.addi v616 c28_i32_219
  let c128_i32_220 : BitVec 32 := 128#32
  let v618 : BitVec 32 := Scalar.muli v617 c128_i32_220
  v618
def k0_mult62 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_222 : BitVec 32 := 32#32
  let v626 : BitVec 32 := Scalar.muli arg9 c32_i32_222
  let c29_i32_223 : BitVec 32 := 29#32
  let v627 : BitVec 32 := Scalar.addi v626 c29_i32_223
  let c128_i32_224 : BitVec 32 := 128#32
  let v628 : BitVec 32 := Scalar.muli v627 c128_i32_224
  v628
def k0_mult63 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_226 : BitVec 32 := 32#32
  let v636 : BitVec 32 := Scalar.muli arg9 c32_i32_226
  let c30_i32_227 : BitVec 32 := 30#32
  let v637 : BitVec 32 := Scalar.addi v636 c30_i32_227
  let c128_i32_228 : BitVec 32 := 128#32
  let v638 : BitVec 32 := Scalar.muli v637 c128_i32_228
  v638
def k0_mult64 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_230 : BitVec 32 := 32#32
  let v646 : BitVec 32 := Scalar.muli arg9 c32_i32_230
  let c31_i32_231 : BitVec 32 := 31#32
  let v647 : BitVec 32 := Scalar.addi v646 c31_i32_231
  let c128_i32_232 : BitVec 32 := 128#32
  let v648 : BitVec 32 := Scalar.muli v647 c128_i32_232
  v648
def k0_mult65 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_234 : BitVec 32 := 32#32
  let v656 : BitVec 32 := Scalar.muli arg9 c32_i32_234
  let c0_i32_235 : BitVec 32 := 0#32
  let v657 : BitVec 32 := Scalar.addi v656 c0_i32_235
  let c128_i32_236 : BitVec 32 := 128#32
  let v658 : BitVec 32 := Scalar.muli v657 c128_i32_236
  v658
def k0_off3 (k0_t1 : Fin k0_t1_loop.trips) (c0_i32_235 : BitVec 32) : Fin 2 → Nat :=
  let c32 : Index := 32#32
  let c0_i32 : BitVec 32 := 0#32
  let c1_i32 : BitVec 32 := 1#32
  let arg9 : BitVec 32 := Scf.iv c0_i32 c1_i32 k0_t1
  let c32_i32_234 : BitVec 32 := 32#32
  let v656 : BitVec 32 := Scalar.muli arg9 c32_i32_234
  let v657 : BitVec 32 := Scalar.addi v656 c0_i32_235
  let c128_i32_236 : BitVec 32 := 128#32
  let v658 : BitVec 32 := Scalar.muli v657 c128_i32_236
  let v659 : BitVec 32 := v658
  let v660 : Index := Scalar.indexCast v659
  ![32, v660.toNat]
def k0_mult66 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_237 : BitVec 32 := 32#32
  let v665 : BitVec 32 := Scalar.muli arg9 c32_i32_237
  let c1_i32_238 : BitVec 32 := 1#32
  let v666 : BitVec 32 := Scalar.addi v665 c1_i32_238
  let c128_i32_239 : BitVec 32 := 128#32
  let v667 : BitVec 32 := Scalar.muli v666 c128_i32_239
  v667
def k0_mult67 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_241 : BitVec 32 := 32#32
  let v675 : BitVec 32 := Scalar.muli arg9 c32_i32_241
  let c2_i32_242 : BitVec 32 := 2#32
  let v676 : BitVec 32 := Scalar.addi v675 c2_i32_242
  let c128_i32_243 : BitVec 32 := 128#32
  let v677 : BitVec 32 := Scalar.muli v676 c128_i32_243
  v677
def k0_mult68 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_245 : BitVec 32 := 32#32
  let v685 : BitVec 32 := Scalar.muli arg9 c32_i32_245
  let c3_i32_246 : BitVec 32 := 3#32
  let v686 : BitVec 32 := Scalar.addi v685 c3_i32_246
  let c128_i32_247 : BitVec 32 := 128#32
  let v687 : BitVec 32 := Scalar.muli v686 c128_i32_247
  v687
def k0_mult69 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_249 : BitVec 32 := 32#32
  let v695 : BitVec 32 := Scalar.muli arg9 c32_i32_249
  let c4_i32_250 : BitVec 32 := 4#32
  let v696 : BitVec 32 := Scalar.addi v695 c4_i32_250
  let c128_i32_251 : BitVec 32 := 128#32
  let v697 : BitVec 32 := Scalar.muli v696 c128_i32_251
  v697
def k0_mult70 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_253 : BitVec 32 := 32#32
  let v705 : BitVec 32 := Scalar.muli arg9 c32_i32_253
  let c5_i32_254 : BitVec 32 := 5#32
  let v706 : BitVec 32 := Scalar.addi v705 c5_i32_254
  let c128_i32_255 : BitVec 32 := 128#32
  let v707 : BitVec 32 := Scalar.muli v706 c128_i32_255
  v707
def k0_mult71 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_257 : BitVec 32 := 32#32
  let v715 : BitVec 32 := Scalar.muli arg9 c32_i32_257
  let c6_i32_258 : BitVec 32 := 6#32
  let v716 : BitVec 32 := Scalar.addi v715 c6_i32_258
  let c128_i32_259 : BitVec 32 := 128#32
  let v717 : BitVec 32 := Scalar.muli v716 c128_i32_259
  v717
def k0_mult72 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_261 : BitVec 32 := 32#32
  let v725 : BitVec 32 := Scalar.muli arg9 c32_i32_261
  let c7_i32_262 : BitVec 32 := 7#32
  let v726 : BitVec 32 := Scalar.addi v725 c7_i32_262
  let c128_i32_263 : BitVec 32 := 128#32
  let v727 : BitVec 32 := Scalar.muli v726 c128_i32_263
  v727
def k0_mult73 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_265 : BitVec 32 := 32#32
  let v735 : BitVec 32 := Scalar.muli arg9 c32_i32_265
  let c8_i32_266 : BitVec 32 := 8#32
  let v736 : BitVec 32 := Scalar.addi v735 c8_i32_266
  let c128_i32_267 : BitVec 32 := 128#32
  let v737 : BitVec 32 := Scalar.muli v736 c128_i32_267
  v737
def k0_mult74 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_269 : BitVec 32 := 32#32
  let v745 : BitVec 32 := Scalar.muli arg9 c32_i32_269
  let c9_i32_270 : BitVec 32 := 9#32
  let v746 : BitVec 32 := Scalar.addi v745 c9_i32_270
  let c128_i32_271 : BitVec 32 := 128#32
  let v747 : BitVec 32 := Scalar.muli v746 c128_i32_271
  v747
def k0_mult75 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_273 : BitVec 32 := 32#32
  let v755 : BitVec 32 := Scalar.muli arg9 c32_i32_273
  let c10_i32_274 : BitVec 32 := 10#32
  let v756 : BitVec 32 := Scalar.addi v755 c10_i32_274
  let c128_i32_275 : BitVec 32 := 128#32
  let v757 : BitVec 32 := Scalar.muli v756 c128_i32_275
  v757
def k0_mult76 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_277 : BitVec 32 := 32#32
  let v765 : BitVec 32 := Scalar.muli arg9 c32_i32_277
  let c11_i32_278 : BitVec 32 := 11#32
  let v766 : BitVec 32 := Scalar.addi v765 c11_i32_278
  let c128_i32_279 : BitVec 32 := 128#32
  let v767 : BitVec 32 := Scalar.muli v766 c128_i32_279
  v767
def k0_mult77 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_281 : BitVec 32 := 32#32
  let v775 : BitVec 32 := Scalar.muli arg9 c32_i32_281
  let c12_i32_282 : BitVec 32 := 12#32
  let v776 : BitVec 32 := Scalar.addi v775 c12_i32_282
  let c128_i32_283 : BitVec 32 := 128#32
  let v777 : BitVec 32 := Scalar.muli v776 c128_i32_283
  v777
def k0_mult78 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_285 : BitVec 32 := 32#32
  let v785 : BitVec 32 := Scalar.muli arg9 c32_i32_285
  let c13_i32_286 : BitVec 32 := 13#32
  let v786 : BitVec 32 := Scalar.addi v785 c13_i32_286
  let c128_i32_287 : BitVec 32 := 128#32
  let v787 : BitVec 32 := Scalar.muli v786 c128_i32_287
  v787
def k0_mult79 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_289 : BitVec 32 := 32#32
  let v795 : BitVec 32 := Scalar.muli arg9 c32_i32_289
  let c14_i32_290 : BitVec 32 := 14#32
  let v796 : BitVec 32 := Scalar.addi v795 c14_i32_290
  let c128_i32_291 : BitVec 32 := 128#32
  let v797 : BitVec 32 := Scalar.muli v796 c128_i32_291
  v797
def k0_mult80 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_293 : BitVec 32 := 32#32
  let v805 : BitVec 32 := Scalar.muli arg9 c32_i32_293
  let c15_i32_294 : BitVec 32 := 15#32
  let v806 : BitVec 32 := Scalar.addi v805 c15_i32_294
  let c128_i32_295 : BitVec 32 := 128#32
  let v807 : BitVec 32 := Scalar.muli v806 c128_i32_295
  v807
def k0_mult81 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_297 : BitVec 32 := 32#32
  let v815 : BitVec 32 := Scalar.muli arg9 c32_i32_297
  let c16_i32_298 : BitVec 32 := 16#32
  let v816 : BitVec 32 := Scalar.addi v815 c16_i32_298
  let c128_i32_299 : BitVec 32 := 128#32
  let v817 : BitVec 32 := Scalar.muli v816 c128_i32_299
  v817
def k0_mult82 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_301 : BitVec 32 := 32#32
  let v825 : BitVec 32 := Scalar.muli arg9 c32_i32_301
  let c17_i32_302 : BitVec 32 := 17#32
  let v826 : BitVec 32 := Scalar.addi v825 c17_i32_302
  let c128_i32_303 : BitVec 32 := 128#32
  let v827 : BitVec 32 := Scalar.muli v826 c128_i32_303
  v827
def k0_mult83 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_305 : BitVec 32 := 32#32
  let v835 : BitVec 32 := Scalar.muli arg9 c32_i32_305
  let c18_i32_306 : BitVec 32 := 18#32
  let v836 : BitVec 32 := Scalar.addi v835 c18_i32_306
  let c128_i32_307 : BitVec 32 := 128#32
  let v837 : BitVec 32 := Scalar.muli v836 c128_i32_307
  v837
def k0_mult84 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_309 : BitVec 32 := 32#32
  let v845 : BitVec 32 := Scalar.muli arg9 c32_i32_309
  let c19_i32_310 : BitVec 32 := 19#32
  let v846 : BitVec 32 := Scalar.addi v845 c19_i32_310
  let c128_i32_311 : BitVec 32 := 128#32
  let v847 : BitVec 32 := Scalar.muli v846 c128_i32_311
  v847
def k0_mult85 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_313 : BitVec 32 := 32#32
  let v855 : BitVec 32 := Scalar.muli arg9 c32_i32_313
  let c20_i32_314 : BitVec 32 := 20#32
  let v856 : BitVec 32 := Scalar.addi v855 c20_i32_314
  let c128_i32_315 : BitVec 32 := 128#32
  let v857 : BitVec 32 := Scalar.muli v856 c128_i32_315
  v857
def k0_mult86 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_317 : BitVec 32 := 32#32
  let v865 : BitVec 32 := Scalar.muli arg9 c32_i32_317
  let c21_i32_318 : BitVec 32 := 21#32
  let v866 : BitVec 32 := Scalar.addi v865 c21_i32_318
  let c128_i32_319 : BitVec 32 := 128#32
  let v867 : BitVec 32 := Scalar.muli v866 c128_i32_319
  v867
def k0_mult87 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_321 : BitVec 32 := 32#32
  let v875 : BitVec 32 := Scalar.muli arg9 c32_i32_321
  let c22_i32_322 : BitVec 32 := 22#32
  let v876 : BitVec 32 := Scalar.addi v875 c22_i32_322
  let c128_i32_323 : BitVec 32 := 128#32
  let v877 : BitVec 32 := Scalar.muli v876 c128_i32_323
  v877
def k0_mult88 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_325 : BitVec 32 := 32#32
  let v885 : BitVec 32 := Scalar.muli arg9 c32_i32_325
  let c23_i32_326 : BitVec 32 := 23#32
  let v886 : BitVec 32 := Scalar.addi v885 c23_i32_326
  let c128_i32_327 : BitVec 32 := 128#32
  let v887 : BitVec 32 := Scalar.muli v886 c128_i32_327
  v887
def k0_mult89 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_329 : BitVec 32 := 32#32
  let v895 : BitVec 32 := Scalar.muli arg9 c32_i32_329
  let c24_i32_330 : BitVec 32 := 24#32
  let v896 : BitVec 32 := Scalar.addi v895 c24_i32_330
  let c128_i32_331 : BitVec 32 := 128#32
  let v897 : BitVec 32 := Scalar.muli v896 c128_i32_331
  v897
def k0_mult90 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_333 : BitVec 32 := 32#32
  let v905 : BitVec 32 := Scalar.muli arg9 c32_i32_333
  let c25_i32_334 : BitVec 32 := 25#32
  let v906 : BitVec 32 := Scalar.addi v905 c25_i32_334
  let c128_i32_335 : BitVec 32 := 128#32
  let v907 : BitVec 32 := Scalar.muli v906 c128_i32_335
  v907
def k0_mult91 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_337 : BitVec 32 := 32#32
  let v915 : BitVec 32 := Scalar.muli arg9 c32_i32_337
  let c26_i32_338 : BitVec 32 := 26#32
  let v916 : BitVec 32 := Scalar.addi v915 c26_i32_338
  let c128_i32_339 : BitVec 32 := 128#32
  let v917 : BitVec 32 := Scalar.muli v916 c128_i32_339
  v917
def k0_mult92 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_341 : BitVec 32 := 32#32
  let v925 : BitVec 32 := Scalar.muli arg9 c32_i32_341
  let c27_i32_342 : BitVec 32 := 27#32
  let v926 : BitVec 32 := Scalar.addi v925 c27_i32_342
  let c128_i32_343 : BitVec 32 := 128#32
  let v927 : BitVec 32 := Scalar.muli v926 c128_i32_343
  v927
def k0_mult93 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_345 : BitVec 32 := 32#32
  let v935 : BitVec 32 := Scalar.muli arg9 c32_i32_345
  let c28_i32_346 : BitVec 32 := 28#32
  let v936 : BitVec 32 := Scalar.addi v935 c28_i32_346
  let c128_i32_347 : BitVec 32 := 128#32
  let v937 : BitVec 32 := Scalar.muli v936 c128_i32_347
  v937
def k0_mult94 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_349 : BitVec 32 := 32#32
  let v945 : BitVec 32 := Scalar.muli arg9 c32_i32_349
  let c29_i32_350 : BitVec 32 := 29#32
  let v946 : BitVec 32 := Scalar.addi v945 c29_i32_350
  let c128_i32_351 : BitVec 32 := 128#32
  let v947 : BitVec 32 := Scalar.muli v946 c128_i32_351
  v947
def k0_mult95 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_353 : BitVec 32 := 32#32
  let v955 : BitVec 32 := Scalar.muli arg9 c32_i32_353
  let c30_i32_354 : BitVec 32 := 30#32
  let v956 : BitVec 32 := Scalar.addi v955 c30_i32_354
  let c128_i32_355 : BitVec 32 := 128#32
  let v957 : BitVec 32 := Scalar.muli v956 c128_i32_355
  v957
def k0_mult96 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_357 : BitVec 32 := 32#32
  let v965 : BitVec 32 := Scalar.muli arg9 c32_i32_357
  let c31_i32_358 : BitVec 32 := 31#32
  let v966 : BitVec 32 := Scalar.addi v965 c31_i32_358
  let c128_i32_359 : BitVec 32 := 128#32
  let v967 : BitVec 32 := Scalar.muli v966 c128_i32_359
  v967
def k0_mult97 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_361 : BitVec 32 := 32#32
  let v975 : BitVec 32 := Scalar.muli arg9 c32_i32_361
  let c0_i32_362 : BitVec 32 := 0#32
  let v976 : BitVec 32 := Scalar.addi v975 c0_i32_362
  let c128_i32_363 : BitVec 32 := 128#32
  let v977 : BitVec 32 := Scalar.muli v976 c128_i32_363
  v977
def k0_off4 (k0_t1 : Fin k0_t1_loop.trips) (c0_i32_362 : BitVec 32) : Fin 2 → Nat :=
  let c48 : Index := 48#32
  let c0_i32 : BitVec 32 := 0#32
  let c1_i32 : BitVec 32 := 1#32
  let arg9 : BitVec 32 := Scf.iv c0_i32 c1_i32 k0_t1
  let c32_i32_361 : BitVec 32 := 32#32
  let v975 : BitVec 32 := Scalar.muli arg9 c32_i32_361
  let v976 : BitVec 32 := Scalar.addi v975 c0_i32_362
  let c128_i32_363 : BitVec 32 := 128#32
  let v977 : BitVec 32 := Scalar.muli v976 c128_i32_363
  let v978 : BitVec 32 := v977
  let v979 : Index := Scalar.indexCast v978
  ![48, v979.toNat]
def k0_mult98 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_364 : BitVec 32 := 32#32
  let v984 : BitVec 32 := Scalar.muli arg9 c32_i32_364
  let c1_i32_365 : BitVec 32 := 1#32
  let v985 : BitVec 32 := Scalar.addi v984 c1_i32_365
  let c128_i32_366 : BitVec 32 := 128#32
  let v986 : BitVec 32 := Scalar.muli v985 c128_i32_366
  v986
def k0_mult99 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_368 : BitVec 32 := 32#32
  let v994 : BitVec 32 := Scalar.muli arg9 c32_i32_368
  let c2_i32_369 : BitVec 32 := 2#32
  let v995 : BitVec 32 := Scalar.addi v994 c2_i32_369
  let c128_i32_370 : BitVec 32 := 128#32
  let v996 : BitVec 32 := Scalar.muli v995 c128_i32_370
  v996
def k0_mult100 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_372 : BitVec 32 := 32#32
  let v1004 : BitVec 32 := Scalar.muli arg9 c32_i32_372
  let c3_i32_373 : BitVec 32 := 3#32
  let v1005 : BitVec 32 := Scalar.addi v1004 c3_i32_373
  let c128_i32_374 : BitVec 32 := 128#32
  let v1006 : BitVec 32 := Scalar.muli v1005 c128_i32_374
  v1006
def k0_mult101 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_376 : BitVec 32 := 32#32
  let v1014 : BitVec 32 := Scalar.muli arg9 c32_i32_376
  let c4_i32_377 : BitVec 32 := 4#32
  let v1015 : BitVec 32 := Scalar.addi v1014 c4_i32_377
  let c128_i32_378 : BitVec 32 := 128#32
  let v1016 : BitVec 32 := Scalar.muli v1015 c128_i32_378
  v1016
def k0_mult102 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_380 : BitVec 32 := 32#32
  let v1024 : BitVec 32 := Scalar.muli arg9 c32_i32_380
  let c5_i32_381 : BitVec 32 := 5#32
  let v1025 : BitVec 32 := Scalar.addi v1024 c5_i32_381
  let c128_i32_382 : BitVec 32 := 128#32
  let v1026 : BitVec 32 := Scalar.muli v1025 c128_i32_382
  v1026
def k0_mult103 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_384 : BitVec 32 := 32#32
  let v1034 : BitVec 32 := Scalar.muli arg9 c32_i32_384
  let c6_i32_385 : BitVec 32 := 6#32
  let v1035 : BitVec 32 := Scalar.addi v1034 c6_i32_385
  let c128_i32_386 : BitVec 32 := 128#32
  let v1036 : BitVec 32 := Scalar.muli v1035 c128_i32_386
  v1036
def k0_mult104 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_388 : BitVec 32 := 32#32
  let v1044 : BitVec 32 := Scalar.muli arg9 c32_i32_388
  let c7_i32_389 : BitVec 32 := 7#32
  let v1045 : BitVec 32 := Scalar.addi v1044 c7_i32_389
  let c128_i32_390 : BitVec 32 := 128#32
  let v1046 : BitVec 32 := Scalar.muli v1045 c128_i32_390
  v1046
def k0_mult105 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_392 : BitVec 32 := 32#32
  let v1054 : BitVec 32 := Scalar.muli arg9 c32_i32_392
  let c8_i32_393 : BitVec 32 := 8#32
  let v1055 : BitVec 32 := Scalar.addi v1054 c8_i32_393
  let c128_i32_394 : BitVec 32 := 128#32
  let v1056 : BitVec 32 := Scalar.muli v1055 c128_i32_394
  v1056
def k0_mult106 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_396 : BitVec 32 := 32#32
  let v1064 : BitVec 32 := Scalar.muli arg9 c32_i32_396
  let c9_i32_397 : BitVec 32 := 9#32
  let v1065 : BitVec 32 := Scalar.addi v1064 c9_i32_397
  let c128_i32_398 : BitVec 32 := 128#32
  let v1066 : BitVec 32 := Scalar.muli v1065 c128_i32_398
  v1066
def k0_mult107 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_400 : BitVec 32 := 32#32
  let v1074 : BitVec 32 := Scalar.muli arg9 c32_i32_400
  let c10_i32_401 : BitVec 32 := 10#32
  let v1075 : BitVec 32 := Scalar.addi v1074 c10_i32_401
  let c128_i32_402 : BitVec 32 := 128#32
  let v1076 : BitVec 32 := Scalar.muli v1075 c128_i32_402
  v1076
def k0_mult108 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_404 : BitVec 32 := 32#32
  let v1084 : BitVec 32 := Scalar.muli arg9 c32_i32_404
  let c11_i32_405 : BitVec 32 := 11#32
  let v1085 : BitVec 32 := Scalar.addi v1084 c11_i32_405
  let c128_i32_406 : BitVec 32 := 128#32
  let v1086 : BitVec 32 := Scalar.muli v1085 c128_i32_406
  v1086
def k0_mult109 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_408 : BitVec 32 := 32#32
  let v1094 : BitVec 32 := Scalar.muli arg9 c32_i32_408
  let c12_i32_409 : BitVec 32 := 12#32
  let v1095 : BitVec 32 := Scalar.addi v1094 c12_i32_409
  let c128_i32_410 : BitVec 32 := 128#32
  let v1096 : BitVec 32 := Scalar.muli v1095 c128_i32_410
  v1096
def k0_mult110 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_412 : BitVec 32 := 32#32
  let v1104 : BitVec 32 := Scalar.muli arg9 c32_i32_412
  let c13_i32_413 : BitVec 32 := 13#32
  let v1105 : BitVec 32 := Scalar.addi v1104 c13_i32_413
  let c128_i32_414 : BitVec 32 := 128#32
  let v1106 : BitVec 32 := Scalar.muli v1105 c128_i32_414
  v1106
def k0_mult111 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_416 : BitVec 32 := 32#32
  let v1114 : BitVec 32 := Scalar.muli arg9 c32_i32_416
  let c14_i32_417 : BitVec 32 := 14#32
  let v1115 : BitVec 32 := Scalar.addi v1114 c14_i32_417
  let c128_i32_418 : BitVec 32 := 128#32
  let v1116 : BitVec 32 := Scalar.muli v1115 c128_i32_418
  v1116
def k0_mult112 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_420 : BitVec 32 := 32#32
  let v1124 : BitVec 32 := Scalar.muli arg9 c32_i32_420
  let c15_i32_421 : BitVec 32 := 15#32
  let v1125 : BitVec 32 := Scalar.addi v1124 c15_i32_421
  let c128_i32_422 : BitVec 32 := 128#32
  let v1126 : BitVec 32 := Scalar.muli v1125 c128_i32_422
  v1126
def k0_mult113 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_424 : BitVec 32 := 32#32
  let v1134 : BitVec 32 := Scalar.muli arg9 c32_i32_424
  let c16_i32_425 : BitVec 32 := 16#32
  let v1135 : BitVec 32 := Scalar.addi v1134 c16_i32_425
  let c128_i32_426 : BitVec 32 := 128#32
  let v1136 : BitVec 32 := Scalar.muli v1135 c128_i32_426
  v1136
def k0_mult114 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_428 : BitVec 32 := 32#32
  let v1144 : BitVec 32 := Scalar.muli arg9 c32_i32_428
  let c17_i32_429 : BitVec 32 := 17#32
  let v1145 : BitVec 32 := Scalar.addi v1144 c17_i32_429
  let c128_i32_430 : BitVec 32 := 128#32
  let v1146 : BitVec 32 := Scalar.muli v1145 c128_i32_430
  v1146
def k0_mult115 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_432 : BitVec 32 := 32#32
  let v1154 : BitVec 32 := Scalar.muli arg9 c32_i32_432
  let c18_i32_433 : BitVec 32 := 18#32
  let v1155 : BitVec 32 := Scalar.addi v1154 c18_i32_433
  let c128_i32_434 : BitVec 32 := 128#32
  let v1156 : BitVec 32 := Scalar.muli v1155 c128_i32_434
  v1156
def k0_mult116 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_436 : BitVec 32 := 32#32
  let v1164 : BitVec 32 := Scalar.muli arg9 c32_i32_436
  let c19_i32_437 : BitVec 32 := 19#32
  let v1165 : BitVec 32 := Scalar.addi v1164 c19_i32_437
  let c128_i32_438 : BitVec 32 := 128#32
  let v1166 : BitVec 32 := Scalar.muli v1165 c128_i32_438
  v1166
def k0_mult117 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_440 : BitVec 32 := 32#32
  let v1174 : BitVec 32 := Scalar.muli arg9 c32_i32_440
  let c20_i32_441 : BitVec 32 := 20#32
  let v1175 : BitVec 32 := Scalar.addi v1174 c20_i32_441
  let c128_i32_442 : BitVec 32 := 128#32
  let v1176 : BitVec 32 := Scalar.muli v1175 c128_i32_442
  v1176
def k0_mult118 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_444 : BitVec 32 := 32#32
  let v1184 : BitVec 32 := Scalar.muli arg9 c32_i32_444
  let c21_i32_445 : BitVec 32 := 21#32
  let v1185 : BitVec 32 := Scalar.addi v1184 c21_i32_445
  let c128_i32_446 : BitVec 32 := 128#32
  let v1186 : BitVec 32 := Scalar.muli v1185 c128_i32_446
  v1186
def k0_mult119 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_448 : BitVec 32 := 32#32
  let v1194 : BitVec 32 := Scalar.muli arg9 c32_i32_448
  let c22_i32_449 : BitVec 32 := 22#32
  let v1195 : BitVec 32 := Scalar.addi v1194 c22_i32_449
  let c128_i32_450 : BitVec 32 := 128#32
  let v1196 : BitVec 32 := Scalar.muli v1195 c128_i32_450
  v1196
def k0_mult120 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_452 : BitVec 32 := 32#32
  let v1204 : BitVec 32 := Scalar.muli arg9 c32_i32_452
  let c23_i32_453 : BitVec 32 := 23#32
  let v1205 : BitVec 32 := Scalar.addi v1204 c23_i32_453
  let c128_i32_454 : BitVec 32 := 128#32
  let v1206 : BitVec 32 := Scalar.muli v1205 c128_i32_454
  v1206
def k0_mult121 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_456 : BitVec 32 := 32#32
  let v1214 : BitVec 32 := Scalar.muli arg9 c32_i32_456
  let c24_i32_457 : BitVec 32 := 24#32
  let v1215 : BitVec 32 := Scalar.addi v1214 c24_i32_457
  let c128_i32_458 : BitVec 32 := 128#32
  let v1216 : BitVec 32 := Scalar.muli v1215 c128_i32_458
  v1216
def k0_mult122 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_460 : BitVec 32 := 32#32
  let v1224 : BitVec 32 := Scalar.muli arg9 c32_i32_460
  let c25_i32_461 : BitVec 32 := 25#32
  let v1225 : BitVec 32 := Scalar.addi v1224 c25_i32_461
  let c128_i32_462 : BitVec 32 := 128#32
  let v1226 : BitVec 32 := Scalar.muli v1225 c128_i32_462
  v1226
def k0_mult123 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_464 : BitVec 32 := 32#32
  let v1234 : BitVec 32 := Scalar.muli arg9 c32_i32_464
  let c26_i32_465 : BitVec 32 := 26#32
  let v1235 : BitVec 32 := Scalar.addi v1234 c26_i32_465
  let c128_i32_466 : BitVec 32 := 128#32
  let v1236 : BitVec 32 := Scalar.muli v1235 c128_i32_466
  v1236
def k0_mult124 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_468 : BitVec 32 := 32#32
  let v1244 : BitVec 32 := Scalar.muli arg9 c32_i32_468
  let c27_i32_469 : BitVec 32 := 27#32
  let v1245 : BitVec 32 := Scalar.addi v1244 c27_i32_469
  let c128_i32_470 : BitVec 32 := 128#32
  let v1246 : BitVec 32 := Scalar.muli v1245 c128_i32_470
  v1246
def k0_mult125 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_472 : BitVec 32 := 32#32
  let v1254 : BitVec 32 := Scalar.muli arg9 c32_i32_472
  let c28_i32_473 : BitVec 32 := 28#32
  let v1255 : BitVec 32 := Scalar.addi v1254 c28_i32_473
  let c128_i32_474 : BitVec 32 := 128#32
  let v1256 : BitVec 32 := Scalar.muli v1255 c128_i32_474
  v1256
def k0_mult126 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_476 : BitVec 32 := 32#32
  let v1264 : BitVec 32 := Scalar.muli arg9 c32_i32_476
  let c29_i32_477 : BitVec 32 := 29#32
  let v1265 : BitVec 32 := Scalar.addi v1264 c29_i32_477
  let c128_i32_478 : BitVec 32 := 128#32
  let v1266 : BitVec 32 := Scalar.muli v1265 c128_i32_478
  v1266
def k0_mult127 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_480 : BitVec 32 := 32#32
  let v1274 : BitVec 32 := Scalar.muli arg9 c32_i32_480
  let c30_i32_481 : BitVec 32 := 30#32
  let v1275 : BitVec 32 := Scalar.addi v1274 c30_i32_481
  let c128_i32_482 : BitVec 32 := 128#32
  let v1276 : BitVec 32 := Scalar.muli v1275 c128_i32_482
  v1276
def k0_mult128 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_484 : BitVec 32 := 32#32
  let v1284 : BitVec 32 := Scalar.muli arg9 c32_i32_484
  let c31_i32_485 : BitVec 32 := 31#32
  let v1285 : BitVec 32 := Scalar.addi v1284 c31_i32_485
  let c128_i32_486 : BitVec 32 := 128#32
  let v1286 : BitVec 32 := Scalar.muli v1285 c128_i32_486
  v1286
def k0_mult129 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_488 : BitVec 32 := 32#32
  let v1294 : BitVec 32 := Scalar.muli arg9 c32_i32_488
  let c0_i32_489 : BitVec 32 := 0#32
  let v1295 : BitVec 32 := Scalar.addi v1294 c0_i32_489
  let c128_i32_490 : BitVec 32 := 128#32
  let v1296 : BitVec 32 := Scalar.muli v1295 c128_i32_490
  v1296
def k0_off5 (k0_t1 : Fin k0_t1_loop.trips) (c0_i32_489 : BitVec 32) : Fin 2 → Nat :=
  let c64 : Index := 64#32
  let c0_i32 : BitVec 32 := 0#32
  let c1_i32 : BitVec 32 := 1#32
  let arg9 : BitVec 32 := Scf.iv c0_i32 c1_i32 k0_t1
  let c32_i32_488 : BitVec 32 := 32#32
  let v1294 : BitVec 32 := Scalar.muli arg9 c32_i32_488
  let v1295 : BitVec 32 := Scalar.addi v1294 c0_i32_489
  let c128_i32_490 : BitVec 32 := 128#32
  let v1296 : BitVec 32 := Scalar.muli v1295 c128_i32_490
  let v1297 : BitVec 32 := v1296
  let v1298 : Index := Scalar.indexCast v1297
  ![64, v1298.toNat]
def k0_mult130 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_491 : BitVec 32 := 32#32
  let v1303 : BitVec 32 := Scalar.muli arg9 c32_i32_491
  let c1_i32_492 : BitVec 32 := 1#32
  let v1304 : BitVec 32 := Scalar.addi v1303 c1_i32_492
  let c128_i32_493 : BitVec 32 := 128#32
  let v1305 : BitVec 32 := Scalar.muli v1304 c128_i32_493
  v1305
def k0_mult131 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_495 : BitVec 32 := 32#32
  let v1313 : BitVec 32 := Scalar.muli arg9 c32_i32_495
  let c2_i32_496 : BitVec 32 := 2#32
  let v1314 : BitVec 32 := Scalar.addi v1313 c2_i32_496
  let c128_i32_497 : BitVec 32 := 128#32
  let v1315 : BitVec 32 := Scalar.muli v1314 c128_i32_497
  v1315
def k0_mult132 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_499 : BitVec 32 := 32#32
  let v1323 : BitVec 32 := Scalar.muli arg9 c32_i32_499
  let c3_i32_500 : BitVec 32 := 3#32
  let v1324 : BitVec 32 := Scalar.addi v1323 c3_i32_500
  let c128_i32_501 : BitVec 32 := 128#32
  let v1325 : BitVec 32 := Scalar.muli v1324 c128_i32_501
  v1325
def k0_mult133 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_503 : BitVec 32 := 32#32
  let v1333 : BitVec 32 := Scalar.muli arg9 c32_i32_503
  let c4_i32_504 : BitVec 32 := 4#32
  let v1334 : BitVec 32 := Scalar.addi v1333 c4_i32_504
  let c128_i32_505 : BitVec 32 := 128#32
  let v1335 : BitVec 32 := Scalar.muli v1334 c128_i32_505
  v1335
def k0_mult134 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_507 : BitVec 32 := 32#32
  let v1343 : BitVec 32 := Scalar.muli arg9 c32_i32_507
  let c5_i32_508 : BitVec 32 := 5#32
  let v1344 : BitVec 32 := Scalar.addi v1343 c5_i32_508
  let c128_i32_509 : BitVec 32 := 128#32
  let v1345 : BitVec 32 := Scalar.muli v1344 c128_i32_509
  v1345
def k0_mult135 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_511 : BitVec 32 := 32#32
  let v1353 : BitVec 32 := Scalar.muli arg9 c32_i32_511
  let c6_i32_512 : BitVec 32 := 6#32
  let v1354 : BitVec 32 := Scalar.addi v1353 c6_i32_512
  let c128_i32_513 : BitVec 32 := 128#32
  let v1355 : BitVec 32 := Scalar.muli v1354 c128_i32_513
  v1355
def k0_mult136 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_515 : BitVec 32 := 32#32
  let v1363 : BitVec 32 := Scalar.muli arg9 c32_i32_515
  let c7_i32_516 : BitVec 32 := 7#32
  let v1364 : BitVec 32 := Scalar.addi v1363 c7_i32_516
  let c128_i32_517 : BitVec 32 := 128#32
  let v1365 : BitVec 32 := Scalar.muli v1364 c128_i32_517
  v1365
def k0_mult137 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_519 : BitVec 32 := 32#32
  let v1373 : BitVec 32 := Scalar.muli arg9 c32_i32_519
  let c8_i32_520 : BitVec 32 := 8#32
  let v1374 : BitVec 32 := Scalar.addi v1373 c8_i32_520
  let c128_i32_521 : BitVec 32 := 128#32
  let v1375 : BitVec 32 := Scalar.muli v1374 c128_i32_521
  v1375
def k0_mult138 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_523 : BitVec 32 := 32#32
  let v1383 : BitVec 32 := Scalar.muli arg9 c32_i32_523
  let c9_i32_524 : BitVec 32 := 9#32
  let v1384 : BitVec 32 := Scalar.addi v1383 c9_i32_524
  let c128_i32_525 : BitVec 32 := 128#32
  let v1385 : BitVec 32 := Scalar.muli v1384 c128_i32_525
  v1385
def k0_mult139 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_527 : BitVec 32 := 32#32
  let v1393 : BitVec 32 := Scalar.muli arg9 c32_i32_527
  let c10_i32_528 : BitVec 32 := 10#32
  let v1394 : BitVec 32 := Scalar.addi v1393 c10_i32_528
  let c128_i32_529 : BitVec 32 := 128#32
  let v1395 : BitVec 32 := Scalar.muli v1394 c128_i32_529
  v1395
def k0_mult140 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_531 : BitVec 32 := 32#32
  let v1403 : BitVec 32 := Scalar.muli arg9 c32_i32_531
  let c11_i32_532 : BitVec 32 := 11#32
  let v1404 : BitVec 32 := Scalar.addi v1403 c11_i32_532
  let c128_i32_533 : BitVec 32 := 128#32
  let v1405 : BitVec 32 := Scalar.muli v1404 c128_i32_533
  v1405
def k0_mult141 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_535 : BitVec 32 := 32#32
  let v1413 : BitVec 32 := Scalar.muli arg9 c32_i32_535
  let c12_i32_536 : BitVec 32 := 12#32
  let v1414 : BitVec 32 := Scalar.addi v1413 c12_i32_536
  let c128_i32_537 : BitVec 32 := 128#32
  let v1415 : BitVec 32 := Scalar.muli v1414 c128_i32_537
  v1415
def k0_mult142 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_539 : BitVec 32 := 32#32
  let v1423 : BitVec 32 := Scalar.muli arg9 c32_i32_539
  let c13_i32_540 : BitVec 32 := 13#32
  let v1424 : BitVec 32 := Scalar.addi v1423 c13_i32_540
  let c128_i32_541 : BitVec 32 := 128#32
  let v1425 : BitVec 32 := Scalar.muli v1424 c128_i32_541
  v1425
def k0_mult143 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_543 : BitVec 32 := 32#32
  let v1433 : BitVec 32 := Scalar.muli arg9 c32_i32_543
  let c14_i32_544 : BitVec 32 := 14#32
  let v1434 : BitVec 32 := Scalar.addi v1433 c14_i32_544
  let c128_i32_545 : BitVec 32 := 128#32
  let v1435 : BitVec 32 := Scalar.muli v1434 c128_i32_545
  v1435
def k0_mult144 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_547 : BitVec 32 := 32#32
  let v1443 : BitVec 32 := Scalar.muli arg9 c32_i32_547
  let c15_i32_548 : BitVec 32 := 15#32
  let v1444 : BitVec 32 := Scalar.addi v1443 c15_i32_548
  let c128_i32_549 : BitVec 32 := 128#32
  let v1445 : BitVec 32 := Scalar.muli v1444 c128_i32_549
  v1445
def k0_mult145 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_551 : BitVec 32 := 32#32
  let v1453 : BitVec 32 := Scalar.muli arg9 c32_i32_551
  let c16_i32_552 : BitVec 32 := 16#32
  let v1454 : BitVec 32 := Scalar.addi v1453 c16_i32_552
  let c128_i32_553 : BitVec 32 := 128#32
  let v1455 : BitVec 32 := Scalar.muli v1454 c128_i32_553
  v1455
def k0_mult146 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_555 : BitVec 32 := 32#32
  let v1463 : BitVec 32 := Scalar.muli arg9 c32_i32_555
  let c17_i32_556 : BitVec 32 := 17#32
  let v1464 : BitVec 32 := Scalar.addi v1463 c17_i32_556
  let c128_i32_557 : BitVec 32 := 128#32
  let v1465 : BitVec 32 := Scalar.muli v1464 c128_i32_557
  v1465
def k0_mult147 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_559 : BitVec 32 := 32#32
  let v1473 : BitVec 32 := Scalar.muli arg9 c32_i32_559
  let c18_i32_560 : BitVec 32 := 18#32
  let v1474 : BitVec 32 := Scalar.addi v1473 c18_i32_560
  let c128_i32_561 : BitVec 32 := 128#32
  let v1475 : BitVec 32 := Scalar.muli v1474 c128_i32_561
  v1475
def k0_mult148 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_563 : BitVec 32 := 32#32
  let v1483 : BitVec 32 := Scalar.muli arg9 c32_i32_563
  let c19_i32_564 : BitVec 32 := 19#32
  let v1484 : BitVec 32 := Scalar.addi v1483 c19_i32_564
  let c128_i32_565 : BitVec 32 := 128#32
  let v1485 : BitVec 32 := Scalar.muli v1484 c128_i32_565
  v1485
def k0_mult149 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_567 : BitVec 32 := 32#32
  let v1493 : BitVec 32 := Scalar.muli arg9 c32_i32_567
  let c20_i32_568 : BitVec 32 := 20#32
  let v1494 : BitVec 32 := Scalar.addi v1493 c20_i32_568
  let c128_i32_569 : BitVec 32 := 128#32
  let v1495 : BitVec 32 := Scalar.muli v1494 c128_i32_569
  v1495
def k0_mult150 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_571 : BitVec 32 := 32#32
  let v1503 : BitVec 32 := Scalar.muli arg9 c32_i32_571
  let c21_i32_572 : BitVec 32 := 21#32
  let v1504 : BitVec 32 := Scalar.addi v1503 c21_i32_572
  let c128_i32_573 : BitVec 32 := 128#32
  let v1505 : BitVec 32 := Scalar.muli v1504 c128_i32_573
  v1505
def k0_mult151 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_575 : BitVec 32 := 32#32
  let v1513 : BitVec 32 := Scalar.muli arg9 c32_i32_575
  let c22_i32_576 : BitVec 32 := 22#32
  let v1514 : BitVec 32 := Scalar.addi v1513 c22_i32_576
  let c128_i32_577 : BitVec 32 := 128#32
  let v1515 : BitVec 32 := Scalar.muli v1514 c128_i32_577
  v1515
def k0_mult152 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_579 : BitVec 32 := 32#32
  let v1523 : BitVec 32 := Scalar.muli arg9 c32_i32_579
  let c23_i32_580 : BitVec 32 := 23#32
  let v1524 : BitVec 32 := Scalar.addi v1523 c23_i32_580
  let c128_i32_581 : BitVec 32 := 128#32
  let v1525 : BitVec 32 := Scalar.muli v1524 c128_i32_581
  v1525
def k0_mult153 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_583 : BitVec 32 := 32#32
  let v1533 : BitVec 32 := Scalar.muli arg9 c32_i32_583
  let c24_i32_584 : BitVec 32 := 24#32
  let v1534 : BitVec 32 := Scalar.addi v1533 c24_i32_584
  let c128_i32_585 : BitVec 32 := 128#32
  let v1535 : BitVec 32 := Scalar.muli v1534 c128_i32_585
  v1535
def k0_mult154 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_587 : BitVec 32 := 32#32
  let v1543 : BitVec 32 := Scalar.muli arg9 c32_i32_587
  let c25_i32_588 : BitVec 32 := 25#32
  let v1544 : BitVec 32 := Scalar.addi v1543 c25_i32_588
  let c128_i32_589 : BitVec 32 := 128#32
  let v1545 : BitVec 32 := Scalar.muli v1544 c128_i32_589
  v1545
def k0_mult155 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_591 : BitVec 32 := 32#32
  let v1553 : BitVec 32 := Scalar.muli arg9 c32_i32_591
  let c26_i32_592 : BitVec 32 := 26#32
  let v1554 : BitVec 32 := Scalar.addi v1553 c26_i32_592
  let c128_i32_593 : BitVec 32 := 128#32
  let v1555 : BitVec 32 := Scalar.muli v1554 c128_i32_593
  v1555
def k0_mult156 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_595 : BitVec 32 := 32#32
  let v1563 : BitVec 32 := Scalar.muli arg9 c32_i32_595
  let c27_i32_596 : BitVec 32 := 27#32
  let v1564 : BitVec 32 := Scalar.addi v1563 c27_i32_596
  let c128_i32_597 : BitVec 32 := 128#32
  let v1565 : BitVec 32 := Scalar.muli v1564 c128_i32_597
  v1565
def k0_mult157 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_599 : BitVec 32 := 32#32
  let v1573 : BitVec 32 := Scalar.muli arg9 c32_i32_599
  let c28_i32_600 : BitVec 32 := 28#32
  let v1574 : BitVec 32 := Scalar.addi v1573 c28_i32_600
  let c128_i32_601 : BitVec 32 := 128#32
  let v1575 : BitVec 32 := Scalar.muli v1574 c128_i32_601
  v1575
def k0_mult158 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_603 : BitVec 32 := 32#32
  let v1583 : BitVec 32 := Scalar.muli arg9 c32_i32_603
  let c29_i32_604 : BitVec 32 := 29#32
  let v1584 : BitVec 32 := Scalar.addi v1583 c29_i32_604
  let c128_i32_605 : BitVec 32 := 128#32
  let v1585 : BitVec 32 := Scalar.muli v1584 c128_i32_605
  v1585
def k0_mult159 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_607 : BitVec 32 := 32#32
  let v1593 : BitVec 32 := Scalar.muli arg9 c32_i32_607
  let c30_i32_608 : BitVec 32 := 30#32
  let v1594 : BitVec 32 := Scalar.addi v1593 c30_i32_608
  let c128_i32_609 : BitVec 32 := 128#32
  let v1595 : BitVec 32 := Scalar.muli v1594 c128_i32_609
  v1595
def k0_mult160 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_611 : BitVec 32 := 32#32
  let v1603 : BitVec 32 := Scalar.muli arg9 c32_i32_611
  let c31_i32_612 : BitVec 32 := 31#32
  let v1604 : BitVec 32 := Scalar.addi v1603 c31_i32_612
  let c128_i32_613 : BitVec 32 := 128#32
  let v1605 : BitVec 32 := Scalar.muli v1604 c128_i32_613
  v1605
def k0_mult161 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_615 : BitVec 32 := 32#32
  let v1613 : BitVec 32 := Scalar.muli arg9 c32_i32_615
  let c0_i32_616 : BitVec 32 := 0#32
  let v1614 : BitVec 32 := Scalar.addi v1613 c0_i32_616
  let c128_i32_617 : BitVec 32 := 128#32
  let v1615 : BitVec 32 := Scalar.muli v1614 c128_i32_617
  v1615
def k0_off6 (k0_t1 : Fin k0_t1_loop.trips) (c0_i32_616 : BitVec 32) : Fin 2 → Nat :=
  let c80 : Index := 80#32
  let c0_i32 : BitVec 32 := 0#32
  let c1_i32 : BitVec 32 := 1#32
  let arg9 : BitVec 32 := Scf.iv c0_i32 c1_i32 k0_t1
  let c32_i32_615 : BitVec 32 := 32#32
  let v1613 : BitVec 32 := Scalar.muli arg9 c32_i32_615
  let v1614 : BitVec 32 := Scalar.addi v1613 c0_i32_616
  let c128_i32_617 : BitVec 32 := 128#32
  let v1615 : BitVec 32 := Scalar.muli v1614 c128_i32_617
  let v1616 : BitVec 32 := v1615
  let v1617 : Index := Scalar.indexCast v1616
  ![80, v1617.toNat]
def k0_mult162 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_618 : BitVec 32 := 32#32
  let v1622 : BitVec 32 := Scalar.muli arg9 c32_i32_618
  let c1_i32_619 : BitVec 32 := 1#32
  let v1623 : BitVec 32 := Scalar.addi v1622 c1_i32_619
  let c128_i32_620 : BitVec 32 := 128#32
  let v1624 : BitVec 32 := Scalar.muli v1623 c128_i32_620
  v1624
def k0_mult163 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_622 : BitVec 32 := 32#32
  let v1632 : BitVec 32 := Scalar.muli arg9 c32_i32_622
  let c2_i32_623 : BitVec 32 := 2#32
  let v1633 : BitVec 32 := Scalar.addi v1632 c2_i32_623
  let c128_i32_624 : BitVec 32 := 128#32
  let v1634 : BitVec 32 := Scalar.muli v1633 c128_i32_624
  v1634
def k0_mult164 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_626 : BitVec 32 := 32#32
  let v1642 : BitVec 32 := Scalar.muli arg9 c32_i32_626
  let c3_i32_627 : BitVec 32 := 3#32
  let v1643 : BitVec 32 := Scalar.addi v1642 c3_i32_627
  let c128_i32_628 : BitVec 32 := 128#32
  let v1644 : BitVec 32 := Scalar.muli v1643 c128_i32_628
  v1644
def k0_mult165 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_630 : BitVec 32 := 32#32
  let v1652 : BitVec 32 := Scalar.muli arg9 c32_i32_630
  let c4_i32_631 : BitVec 32 := 4#32
  let v1653 : BitVec 32 := Scalar.addi v1652 c4_i32_631
  let c128_i32_632 : BitVec 32 := 128#32
  let v1654 : BitVec 32 := Scalar.muli v1653 c128_i32_632
  v1654
def k0_mult166 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_634 : BitVec 32 := 32#32
  let v1662 : BitVec 32 := Scalar.muli arg9 c32_i32_634
  let c5_i32_635 : BitVec 32 := 5#32
  let v1663 : BitVec 32 := Scalar.addi v1662 c5_i32_635
  let c128_i32_636 : BitVec 32 := 128#32
  let v1664 : BitVec 32 := Scalar.muli v1663 c128_i32_636
  v1664
def k0_mult167 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_638 : BitVec 32 := 32#32
  let v1672 : BitVec 32 := Scalar.muli arg9 c32_i32_638
  let c6_i32_639 : BitVec 32 := 6#32
  let v1673 : BitVec 32 := Scalar.addi v1672 c6_i32_639
  let c128_i32_640 : BitVec 32 := 128#32
  let v1674 : BitVec 32 := Scalar.muli v1673 c128_i32_640
  v1674
def k0_mult168 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_642 : BitVec 32 := 32#32
  let v1682 : BitVec 32 := Scalar.muli arg9 c32_i32_642
  let c7_i32_643 : BitVec 32 := 7#32
  let v1683 : BitVec 32 := Scalar.addi v1682 c7_i32_643
  let c128_i32_644 : BitVec 32 := 128#32
  let v1684 : BitVec 32 := Scalar.muli v1683 c128_i32_644
  v1684
def k0_mult169 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_646 : BitVec 32 := 32#32
  let v1692 : BitVec 32 := Scalar.muli arg9 c32_i32_646
  let c8_i32_647 : BitVec 32 := 8#32
  let v1693 : BitVec 32 := Scalar.addi v1692 c8_i32_647
  let c128_i32_648 : BitVec 32 := 128#32
  let v1694 : BitVec 32 := Scalar.muli v1693 c128_i32_648
  v1694
def k0_mult170 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_650 : BitVec 32 := 32#32
  let v1702 : BitVec 32 := Scalar.muli arg9 c32_i32_650
  let c9_i32_651 : BitVec 32 := 9#32
  let v1703 : BitVec 32 := Scalar.addi v1702 c9_i32_651
  let c128_i32_652 : BitVec 32 := 128#32
  let v1704 : BitVec 32 := Scalar.muli v1703 c128_i32_652
  v1704
def k0_mult171 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_654 : BitVec 32 := 32#32
  let v1712 : BitVec 32 := Scalar.muli arg9 c32_i32_654
  let c10_i32_655 : BitVec 32 := 10#32
  let v1713 : BitVec 32 := Scalar.addi v1712 c10_i32_655
  let c128_i32_656 : BitVec 32 := 128#32
  let v1714 : BitVec 32 := Scalar.muli v1713 c128_i32_656
  v1714
def k0_mult172 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_658 : BitVec 32 := 32#32
  let v1722 : BitVec 32 := Scalar.muli arg9 c32_i32_658
  let c11_i32_659 : BitVec 32 := 11#32
  let v1723 : BitVec 32 := Scalar.addi v1722 c11_i32_659
  let c128_i32_660 : BitVec 32 := 128#32
  let v1724 : BitVec 32 := Scalar.muli v1723 c128_i32_660
  v1724
def k0_mult173 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_662 : BitVec 32 := 32#32
  let v1732 : BitVec 32 := Scalar.muli arg9 c32_i32_662
  let c12_i32_663 : BitVec 32 := 12#32
  let v1733 : BitVec 32 := Scalar.addi v1732 c12_i32_663
  let c128_i32_664 : BitVec 32 := 128#32
  let v1734 : BitVec 32 := Scalar.muli v1733 c128_i32_664
  v1734
def k0_mult174 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_666 : BitVec 32 := 32#32
  let v1742 : BitVec 32 := Scalar.muli arg9 c32_i32_666
  let c13_i32_667 : BitVec 32 := 13#32
  let v1743 : BitVec 32 := Scalar.addi v1742 c13_i32_667
  let c128_i32_668 : BitVec 32 := 128#32
  let v1744 : BitVec 32 := Scalar.muli v1743 c128_i32_668
  v1744
def k0_mult175 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_670 : BitVec 32 := 32#32
  let v1752 : BitVec 32 := Scalar.muli arg9 c32_i32_670
  let c14_i32_671 : BitVec 32 := 14#32
  let v1753 : BitVec 32 := Scalar.addi v1752 c14_i32_671
  let c128_i32_672 : BitVec 32 := 128#32
  let v1754 : BitVec 32 := Scalar.muli v1753 c128_i32_672
  v1754
def k0_mult176 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_674 : BitVec 32 := 32#32
  let v1762 : BitVec 32 := Scalar.muli arg9 c32_i32_674
  let c15_i32_675 : BitVec 32 := 15#32
  let v1763 : BitVec 32 := Scalar.addi v1762 c15_i32_675
  let c128_i32_676 : BitVec 32 := 128#32
  let v1764 : BitVec 32 := Scalar.muli v1763 c128_i32_676
  v1764
def k0_mult177 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_678 : BitVec 32 := 32#32
  let v1772 : BitVec 32 := Scalar.muli arg9 c32_i32_678
  let c16_i32_679 : BitVec 32 := 16#32
  let v1773 : BitVec 32 := Scalar.addi v1772 c16_i32_679
  let c128_i32_680 : BitVec 32 := 128#32
  let v1774 : BitVec 32 := Scalar.muli v1773 c128_i32_680
  v1774
def k0_mult178 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_682 : BitVec 32 := 32#32
  let v1782 : BitVec 32 := Scalar.muli arg9 c32_i32_682
  let c17_i32_683 : BitVec 32 := 17#32
  let v1783 : BitVec 32 := Scalar.addi v1782 c17_i32_683
  let c128_i32_684 : BitVec 32 := 128#32
  let v1784 : BitVec 32 := Scalar.muli v1783 c128_i32_684
  v1784
def k0_mult179 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_686 : BitVec 32 := 32#32
  let v1792 : BitVec 32 := Scalar.muli arg9 c32_i32_686
  let c18_i32_687 : BitVec 32 := 18#32
  let v1793 : BitVec 32 := Scalar.addi v1792 c18_i32_687
  let c128_i32_688 : BitVec 32 := 128#32
  let v1794 : BitVec 32 := Scalar.muli v1793 c128_i32_688
  v1794
def k0_mult180 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_690 : BitVec 32 := 32#32
  let v1802 : BitVec 32 := Scalar.muli arg9 c32_i32_690
  let c19_i32_691 : BitVec 32 := 19#32
  let v1803 : BitVec 32 := Scalar.addi v1802 c19_i32_691
  let c128_i32_692 : BitVec 32 := 128#32
  let v1804 : BitVec 32 := Scalar.muli v1803 c128_i32_692
  v1804
def k0_mult181 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_694 : BitVec 32 := 32#32
  let v1812 : BitVec 32 := Scalar.muli arg9 c32_i32_694
  let c20_i32_695 : BitVec 32 := 20#32
  let v1813 : BitVec 32 := Scalar.addi v1812 c20_i32_695
  let c128_i32_696 : BitVec 32 := 128#32
  let v1814 : BitVec 32 := Scalar.muli v1813 c128_i32_696
  v1814
def k0_mult182 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_698 : BitVec 32 := 32#32
  let v1822 : BitVec 32 := Scalar.muli arg9 c32_i32_698
  let c21_i32_699 : BitVec 32 := 21#32
  let v1823 : BitVec 32 := Scalar.addi v1822 c21_i32_699
  let c128_i32_700 : BitVec 32 := 128#32
  let v1824 : BitVec 32 := Scalar.muli v1823 c128_i32_700
  v1824
def k0_mult183 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_702 : BitVec 32 := 32#32
  let v1832 : BitVec 32 := Scalar.muli arg9 c32_i32_702
  let c22_i32_703 : BitVec 32 := 22#32
  let v1833 : BitVec 32 := Scalar.addi v1832 c22_i32_703
  let c128_i32_704 : BitVec 32 := 128#32
  let v1834 : BitVec 32 := Scalar.muli v1833 c128_i32_704
  v1834
def k0_mult184 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_706 : BitVec 32 := 32#32
  let v1842 : BitVec 32 := Scalar.muli arg9 c32_i32_706
  let c23_i32_707 : BitVec 32 := 23#32
  let v1843 : BitVec 32 := Scalar.addi v1842 c23_i32_707
  let c128_i32_708 : BitVec 32 := 128#32
  let v1844 : BitVec 32 := Scalar.muli v1843 c128_i32_708
  v1844
def k0_mult185 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_710 : BitVec 32 := 32#32
  let v1852 : BitVec 32 := Scalar.muli arg9 c32_i32_710
  let c24_i32_711 : BitVec 32 := 24#32
  let v1853 : BitVec 32 := Scalar.addi v1852 c24_i32_711
  let c128_i32_712 : BitVec 32 := 128#32
  let v1854 : BitVec 32 := Scalar.muli v1853 c128_i32_712
  v1854
def k0_mult186 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_714 : BitVec 32 := 32#32
  let v1862 : BitVec 32 := Scalar.muli arg9 c32_i32_714
  let c25_i32_715 : BitVec 32 := 25#32
  let v1863 : BitVec 32 := Scalar.addi v1862 c25_i32_715
  let c128_i32_716 : BitVec 32 := 128#32
  let v1864 : BitVec 32 := Scalar.muli v1863 c128_i32_716
  v1864
def k0_mult187 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_718 : BitVec 32 := 32#32
  let v1872 : BitVec 32 := Scalar.muli arg9 c32_i32_718
  let c26_i32_719 : BitVec 32 := 26#32
  let v1873 : BitVec 32 := Scalar.addi v1872 c26_i32_719
  let c128_i32_720 : BitVec 32 := 128#32
  let v1874 : BitVec 32 := Scalar.muli v1873 c128_i32_720
  v1874
def k0_mult188 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_722 : BitVec 32 := 32#32
  let v1882 : BitVec 32 := Scalar.muli arg9 c32_i32_722
  let c27_i32_723 : BitVec 32 := 27#32
  let v1883 : BitVec 32 := Scalar.addi v1882 c27_i32_723
  let c128_i32_724 : BitVec 32 := 128#32
  let v1884 : BitVec 32 := Scalar.muli v1883 c128_i32_724
  v1884
def k0_mult189 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_726 : BitVec 32 := 32#32
  let v1892 : BitVec 32 := Scalar.muli arg9 c32_i32_726
  let c28_i32_727 : BitVec 32 := 28#32
  let v1893 : BitVec 32 := Scalar.addi v1892 c28_i32_727
  let c128_i32_728 : BitVec 32 := 128#32
  let v1894 : BitVec 32 := Scalar.muli v1893 c128_i32_728
  v1894
def k0_mult190 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_730 : BitVec 32 := 32#32
  let v1902 : BitVec 32 := Scalar.muli arg9 c32_i32_730
  let c29_i32_731 : BitVec 32 := 29#32
  let v1903 : BitVec 32 := Scalar.addi v1902 c29_i32_731
  let c128_i32_732 : BitVec 32 := 128#32
  let v1904 : BitVec 32 := Scalar.muli v1903 c128_i32_732
  v1904
def k0_mult191 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_734 : BitVec 32 := 32#32
  let v1912 : BitVec 32 := Scalar.muli arg9 c32_i32_734
  let c30_i32_735 : BitVec 32 := 30#32
  let v1913 : BitVec 32 := Scalar.addi v1912 c30_i32_735
  let c128_i32_736 : BitVec 32 := 128#32
  let v1914 : BitVec 32 := Scalar.muli v1913 c128_i32_736
  v1914
def k0_mult192 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_738 : BitVec 32 := 32#32
  let v1922 : BitVec 32 := Scalar.muli arg9 c32_i32_738
  let c31_i32_739 : BitVec 32 := 31#32
  let v1923 : BitVec 32 := Scalar.addi v1922 c31_i32_739
  let c128_i32_740 : BitVec 32 := 128#32
  let v1924 : BitVec 32 := Scalar.muli v1923 c128_i32_740
  v1924
def k0_mult193 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_742 : BitVec 32 := 32#32
  let v1932 : BitVec 32 := Scalar.muli arg9 c32_i32_742
  let c0_i32_743 : BitVec 32 := 0#32
  let v1933 : BitVec 32 := Scalar.addi v1932 c0_i32_743
  let c128_i32_744 : BitVec 32 := 128#32
  let v1934 : BitVec 32 := Scalar.muli v1933 c128_i32_744
  v1934
def k0_off7 (k0_t1 : Fin k0_t1_loop.trips) (c0_i32_743 : BitVec 32) : Fin 2 → Nat :=
  let c96 : Index := 96#32
  let c0_i32 : BitVec 32 := 0#32
  let c1_i32 : BitVec 32 := 1#32
  let arg9 : BitVec 32 := Scf.iv c0_i32 c1_i32 k0_t1
  let c32_i32_742 : BitVec 32 := 32#32
  let v1932 : BitVec 32 := Scalar.muli arg9 c32_i32_742
  let v1933 : BitVec 32 := Scalar.addi v1932 c0_i32_743
  let c128_i32_744 : BitVec 32 := 128#32
  let v1934 : BitVec 32 := Scalar.muli v1933 c128_i32_744
  let v1935 : BitVec 32 := v1934
  let v1936 : Index := Scalar.indexCast v1935
  ![96, v1936.toNat]
def k0_mult194 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_745 : BitVec 32 := 32#32
  let v1941 : BitVec 32 := Scalar.muli arg9 c32_i32_745
  let c1_i32_746 : BitVec 32 := 1#32
  let v1942 : BitVec 32 := Scalar.addi v1941 c1_i32_746
  let c128_i32_747 : BitVec 32 := 128#32
  let v1943 : BitVec 32 := Scalar.muli v1942 c128_i32_747
  v1943
def k0_mult195 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_749 : BitVec 32 := 32#32
  let v1951 : BitVec 32 := Scalar.muli arg9 c32_i32_749
  let c2_i32_750 : BitVec 32 := 2#32
  let v1952 : BitVec 32 := Scalar.addi v1951 c2_i32_750
  let c128_i32_751 : BitVec 32 := 128#32
  let v1953 : BitVec 32 := Scalar.muli v1952 c128_i32_751
  v1953
def k0_mult196 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_753 : BitVec 32 := 32#32
  let v1961 : BitVec 32 := Scalar.muli arg9 c32_i32_753
  let c3_i32_754 : BitVec 32 := 3#32
  let v1962 : BitVec 32 := Scalar.addi v1961 c3_i32_754
  let c128_i32_755 : BitVec 32 := 128#32
  let v1963 : BitVec 32 := Scalar.muli v1962 c128_i32_755
  v1963
def k0_mult197 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_757 : BitVec 32 := 32#32
  let v1971 : BitVec 32 := Scalar.muli arg9 c32_i32_757
  let c4_i32_758 : BitVec 32 := 4#32
  let v1972 : BitVec 32 := Scalar.addi v1971 c4_i32_758
  let c128_i32_759 : BitVec 32 := 128#32
  let v1973 : BitVec 32 := Scalar.muli v1972 c128_i32_759
  v1973
def k0_mult198 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_761 : BitVec 32 := 32#32
  let v1981 : BitVec 32 := Scalar.muli arg9 c32_i32_761
  let c5_i32_762 : BitVec 32 := 5#32
  let v1982 : BitVec 32 := Scalar.addi v1981 c5_i32_762
  let c128_i32_763 : BitVec 32 := 128#32
  let v1983 : BitVec 32 := Scalar.muli v1982 c128_i32_763
  v1983
def k0_mult199 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_765 : BitVec 32 := 32#32
  let v1991 : BitVec 32 := Scalar.muli arg9 c32_i32_765
  let c6_i32_766 : BitVec 32 := 6#32
  let v1992 : BitVec 32 := Scalar.addi v1991 c6_i32_766
  let c128_i32_767 : BitVec 32 := 128#32
  let v1993 : BitVec 32 := Scalar.muli v1992 c128_i32_767
  v1993
def k0_mult200 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_769 : BitVec 32 := 32#32
  let v2001 : BitVec 32 := Scalar.muli arg9 c32_i32_769
  let c7_i32_770 : BitVec 32 := 7#32
  let v2002 : BitVec 32 := Scalar.addi v2001 c7_i32_770
  let c128_i32_771 : BitVec 32 := 128#32
  let v2003 : BitVec 32 := Scalar.muli v2002 c128_i32_771
  v2003
def k0_mult201 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_773 : BitVec 32 := 32#32
  let v2011 : BitVec 32 := Scalar.muli arg9 c32_i32_773
  let c8_i32_774 : BitVec 32 := 8#32
  let v2012 : BitVec 32 := Scalar.addi v2011 c8_i32_774
  let c128_i32_775 : BitVec 32 := 128#32
  let v2013 : BitVec 32 := Scalar.muli v2012 c128_i32_775
  v2013
def k0_mult202 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_777 : BitVec 32 := 32#32
  let v2021 : BitVec 32 := Scalar.muli arg9 c32_i32_777
  let c9_i32_778 : BitVec 32 := 9#32
  let v2022 : BitVec 32 := Scalar.addi v2021 c9_i32_778
  let c128_i32_779 : BitVec 32 := 128#32
  let v2023 : BitVec 32 := Scalar.muli v2022 c128_i32_779
  v2023
def k0_mult203 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_781 : BitVec 32 := 32#32
  let v2031 : BitVec 32 := Scalar.muli arg9 c32_i32_781
  let c10_i32_782 : BitVec 32 := 10#32
  let v2032 : BitVec 32 := Scalar.addi v2031 c10_i32_782
  let c128_i32_783 : BitVec 32 := 128#32
  let v2033 : BitVec 32 := Scalar.muli v2032 c128_i32_783
  v2033
def k0_mult204 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_785 : BitVec 32 := 32#32
  let v2041 : BitVec 32 := Scalar.muli arg9 c32_i32_785
  let c11_i32_786 : BitVec 32 := 11#32
  let v2042 : BitVec 32 := Scalar.addi v2041 c11_i32_786
  let c128_i32_787 : BitVec 32 := 128#32
  let v2043 : BitVec 32 := Scalar.muli v2042 c128_i32_787
  v2043
def k0_mult205 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_789 : BitVec 32 := 32#32
  let v2051 : BitVec 32 := Scalar.muli arg9 c32_i32_789
  let c12_i32_790 : BitVec 32 := 12#32
  let v2052 : BitVec 32 := Scalar.addi v2051 c12_i32_790
  let c128_i32_791 : BitVec 32 := 128#32
  let v2053 : BitVec 32 := Scalar.muli v2052 c128_i32_791
  v2053
def k0_mult206 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_793 : BitVec 32 := 32#32
  let v2061 : BitVec 32 := Scalar.muli arg9 c32_i32_793
  let c13_i32_794 : BitVec 32 := 13#32
  let v2062 : BitVec 32 := Scalar.addi v2061 c13_i32_794
  let c128_i32_795 : BitVec 32 := 128#32
  let v2063 : BitVec 32 := Scalar.muli v2062 c128_i32_795
  v2063
def k0_mult207 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_797 : BitVec 32 := 32#32
  let v2071 : BitVec 32 := Scalar.muli arg9 c32_i32_797
  let c14_i32_798 : BitVec 32 := 14#32
  let v2072 : BitVec 32 := Scalar.addi v2071 c14_i32_798
  let c128_i32_799 : BitVec 32 := 128#32
  let v2073 : BitVec 32 := Scalar.muli v2072 c128_i32_799
  v2073
def k0_mult208 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_801 : BitVec 32 := 32#32
  let v2081 : BitVec 32 := Scalar.muli arg9 c32_i32_801
  let c15_i32_802 : BitVec 32 := 15#32
  let v2082 : BitVec 32 := Scalar.addi v2081 c15_i32_802
  let c128_i32_803 : BitVec 32 := 128#32
  let v2083 : BitVec 32 := Scalar.muli v2082 c128_i32_803
  v2083
def k0_mult209 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_805 : BitVec 32 := 32#32
  let v2091 : BitVec 32 := Scalar.muli arg9 c32_i32_805
  let c16_i32_806 : BitVec 32 := 16#32
  let v2092 : BitVec 32 := Scalar.addi v2091 c16_i32_806
  let c128_i32_807 : BitVec 32 := 128#32
  let v2093 : BitVec 32 := Scalar.muli v2092 c128_i32_807
  v2093
def k0_mult210 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_809 : BitVec 32 := 32#32
  let v2101 : BitVec 32 := Scalar.muli arg9 c32_i32_809
  let c17_i32_810 : BitVec 32 := 17#32
  let v2102 : BitVec 32 := Scalar.addi v2101 c17_i32_810
  let c128_i32_811 : BitVec 32 := 128#32
  let v2103 : BitVec 32 := Scalar.muli v2102 c128_i32_811
  v2103
def k0_mult211 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_813 : BitVec 32 := 32#32
  let v2111 : BitVec 32 := Scalar.muli arg9 c32_i32_813
  let c18_i32_814 : BitVec 32 := 18#32
  let v2112 : BitVec 32 := Scalar.addi v2111 c18_i32_814
  let c128_i32_815 : BitVec 32 := 128#32
  let v2113 : BitVec 32 := Scalar.muli v2112 c128_i32_815
  v2113
def k0_mult212 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_817 : BitVec 32 := 32#32
  let v2121 : BitVec 32 := Scalar.muli arg9 c32_i32_817
  let c19_i32_818 : BitVec 32 := 19#32
  let v2122 : BitVec 32 := Scalar.addi v2121 c19_i32_818
  let c128_i32_819 : BitVec 32 := 128#32
  let v2123 : BitVec 32 := Scalar.muli v2122 c128_i32_819
  v2123
def k0_mult213 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_821 : BitVec 32 := 32#32
  let v2131 : BitVec 32 := Scalar.muli arg9 c32_i32_821
  let c20_i32_822 : BitVec 32 := 20#32
  let v2132 : BitVec 32 := Scalar.addi v2131 c20_i32_822
  let c128_i32_823 : BitVec 32 := 128#32
  let v2133 : BitVec 32 := Scalar.muli v2132 c128_i32_823
  v2133
def k0_mult214 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_825 : BitVec 32 := 32#32
  let v2141 : BitVec 32 := Scalar.muli arg9 c32_i32_825
  let c21_i32_826 : BitVec 32 := 21#32
  let v2142 : BitVec 32 := Scalar.addi v2141 c21_i32_826
  let c128_i32_827 : BitVec 32 := 128#32
  let v2143 : BitVec 32 := Scalar.muli v2142 c128_i32_827
  v2143
def k0_mult215 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_829 : BitVec 32 := 32#32
  let v2151 : BitVec 32 := Scalar.muli arg9 c32_i32_829
  let c22_i32_830 : BitVec 32 := 22#32
  let v2152 : BitVec 32 := Scalar.addi v2151 c22_i32_830
  let c128_i32_831 : BitVec 32 := 128#32
  let v2153 : BitVec 32 := Scalar.muli v2152 c128_i32_831
  v2153
def k0_mult216 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_833 : BitVec 32 := 32#32
  let v2161 : BitVec 32 := Scalar.muli arg9 c32_i32_833
  let c23_i32_834 : BitVec 32 := 23#32
  let v2162 : BitVec 32 := Scalar.addi v2161 c23_i32_834
  let c128_i32_835 : BitVec 32 := 128#32
  let v2163 : BitVec 32 := Scalar.muli v2162 c128_i32_835
  v2163
def k0_mult217 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_837 : BitVec 32 := 32#32
  let v2171 : BitVec 32 := Scalar.muli arg9 c32_i32_837
  let c24_i32_838 : BitVec 32 := 24#32
  let v2172 : BitVec 32 := Scalar.addi v2171 c24_i32_838
  let c128_i32_839 : BitVec 32 := 128#32
  let v2173 : BitVec 32 := Scalar.muli v2172 c128_i32_839
  v2173
def k0_mult218 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_841 : BitVec 32 := 32#32
  let v2181 : BitVec 32 := Scalar.muli arg9 c32_i32_841
  let c25_i32_842 : BitVec 32 := 25#32
  let v2182 : BitVec 32 := Scalar.addi v2181 c25_i32_842
  let c128_i32_843 : BitVec 32 := 128#32
  let v2183 : BitVec 32 := Scalar.muli v2182 c128_i32_843
  v2183
def k0_mult219 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_845 : BitVec 32 := 32#32
  let v2191 : BitVec 32 := Scalar.muli arg9 c32_i32_845
  let c26_i32_846 : BitVec 32 := 26#32
  let v2192 : BitVec 32 := Scalar.addi v2191 c26_i32_846
  let c128_i32_847 : BitVec 32 := 128#32
  let v2193 : BitVec 32 := Scalar.muli v2192 c128_i32_847
  v2193
def k0_mult220 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_849 : BitVec 32 := 32#32
  let v2201 : BitVec 32 := Scalar.muli arg9 c32_i32_849
  let c27_i32_850 : BitVec 32 := 27#32
  let v2202 : BitVec 32 := Scalar.addi v2201 c27_i32_850
  let c128_i32_851 : BitVec 32 := 128#32
  let v2203 : BitVec 32 := Scalar.muli v2202 c128_i32_851
  v2203
def k0_mult221 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_853 : BitVec 32 := 32#32
  let v2211 : BitVec 32 := Scalar.muli arg9 c32_i32_853
  let c28_i32_854 : BitVec 32 := 28#32
  let v2212 : BitVec 32 := Scalar.addi v2211 c28_i32_854
  let c128_i32_855 : BitVec 32 := 128#32
  let v2213 : BitVec 32 := Scalar.muli v2212 c128_i32_855
  v2213
def k0_mult222 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_857 : BitVec 32 := 32#32
  let v2221 : BitVec 32 := Scalar.muli arg9 c32_i32_857
  let c29_i32_858 : BitVec 32 := 29#32
  let v2222 : BitVec 32 := Scalar.addi v2221 c29_i32_858
  let c128_i32_859 : BitVec 32 := 128#32
  let v2223 : BitVec 32 := Scalar.muli v2222 c128_i32_859
  v2223
def k0_mult223 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_861 : BitVec 32 := 32#32
  let v2231 : BitVec 32 := Scalar.muli arg9 c32_i32_861
  let c30_i32_862 : BitVec 32 := 30#32
  let v2232 : BitVec 32 := Scalar.addi v2231 c30_i32_862
  let c128_i32_863 : BitVec 32 := 128#32
  let v2233 : BitVec 32 := Scalar.muli v2232 c128_i32_863
  v2233
def k0_mult224 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_865 : BitVec 32 := 32#32
  let v2241 : BitVec 32 := Scalar.muli arg9 c32_i32_865
  let c31_i32_866 : BitVec 32 := 31#32
  let v2242 : BitVec 32 := Scalar.addi v2241 c31_i32_866
  let c128_i32_867 : BitVec 32 := 128#32
  let v2243 : BitVec 32 := Scalar.muli v2242 c128_i32_867
  v2243
def k0_mult225 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_869 : BitVec 32 := 32#32
  let v2251 : BitVec 32 := Scalar.muli arg9 c32_i32_869
  let c0_i32_870 : BitVec 32 := 0#32
  let v2252 : BitVec 32 := Scalar.addi v2251 c0_i32_870
  let c128_i32_871 : BitVec 32 := 128#32
  let v2253 : BitVec 32 := Scalar.muli v2252 c128_i32_871
  v2253
def k0_off8 (k0_t1 : Fin k0_t1_loop.trips) (c0_i32_870 : BitVec 32) : Fin 2 → Nat :=
  let c112 : Index := 112#32
  let c0_i32 : BitVec 32 := 0#32
  let c1_i32 : BitVec 32 := 1#32
  let arg9 : BitVec 32 := Scf.iv c0_i32 c1_i32 k0_t1
  let c32_i32_869 : BitVec 32 := 32#32
  let v2251 : BitVec 32 := Scalar.muli arg9 c32_i32_869
  let v2252 : BitVec 32 := Scalar.addi v2251 c0_i32_870
  let c128_i32_871 : BitVec 32 := 128#32
  let v2253 : BitVec 32 := Scalar.muli v2252 c128_i32_871
  let v2254 : BitVec 32 := v2253
  let v2255 : Index := Scalar.indexCast v2254
  ![112, v2255.toNat]
def k0_mult226 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_872 : BitVec 32 := 32#32
  let v2260 : BitVec 32 := Scalar.muli arg9 c32_i32_872
  let c1_i32_873 : BitVec 32 := 1#32
  let v2261 : BitVec 32 := Scalar.addi v2260 c1_i32_873
  let c128_i32_874 : BitVec 32 := 128#32
  let v2262 : BitVec 32 := Scalar.muli v2261 c128_i32_874
  v2262
def k0_mult227 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_876 : BitVec 32 := 32#32
  let v2270 : BitVec 32 := Scalar.muli arg9 c32_i32_876
  let c2_i32_877 : BitVec 32 := 2#32
  let v2271 : BitVec 32 := Scalar.addi v2270 c2_i32_877
  let c128_i32_878 : BitVec 32 := 128#32
  let v2272 : BitVec 32 := Scalar.muli v2271 c128_i32_878
  v2272
def k0_mult228 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_880 : BitVec 32 := 32#32
  let v2280 : BitVec 32 := Scalar.muli arg9 c32_i32_880
  let c3_i32_881 : BitVec 32 := 3#32
  let v2281 : BitVec 32 := Scalar.addi v2280 c3_i32_881
  let c128_i32_882 : BitVec 32 := 128#32
  let v2282 : BitVec 32 := Scalar.muli v2281 c128_i32_882
  v2282
def k0_mult229 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_884 : BitVec 32 := 32#32
  let v2290 : BitVec 32 := Scalar.muli arg9 c32_i32_884
  let c4_i32_885 : BitVec 32 := 4#32
  let v2291 : BitVec 32 := Scalar.addi v2290 c4_i32_885
  let c128_i32_886 : BitVec 32 := 128#32
  let v2292 : BitVec 32 := Scalar.muli v2291 c128_i32_886
  v2292
def k0_mult230 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_888 : BitVec 32 := 32#32
  let v2300 : BitVec 32 := Scalar.muli arg9 c32_i32_888
  let c5_i32_889 : BitVec 32 := 5#32
  let v2301 : BitVec 32 := Scalar.addi v2300 c5_i32_889
  let c128_i32_890 : BitVec 32 := 128#32
  let v2302 : BitVec 32 := Scalar.muli v2301 c128_i32_890
  v2302
def k0_mult231 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_892 : BitVec 32 := 32#32
  let v2310 : BitVec 32 := Scalar.muli arg9 c32_i32_892
  let c6_i32_893 : BitVec 32 := 6#32
  let v2311 : BitVec 32 := Scalar.addi v2310 c6_i32_893
  let c128_i32_894 : BitVec 32 := 128#32
  let v2312 : BitVec 32 := Scalar.muli v2311 c128_i32_894
  v2312
def k0_mult232 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_896 : BitVec 32 := 32#32
  let v2320 : BitVec 32 := Scalar.muli arg9 c32_i32_896
  let c7_i32_897 : BitVec 32 := 7#32
  let v2321 : BitVec 32 := Scalar.addi v2320 c7_i32_897
  let c128_i32_898 : BitVec 32 := 128#32
  let v2322 : BitVec 32 := Scalar.muli v2321 c128_i32_898
  v2322
def k0_mult233 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_900 : BitVec 32 := 32#32
  let v2330 : BitVec 32 := Scalar.muli arg9 c32_i32_900
  let c8_i32_901 : BitVec 32 := 8#32
  let v2331 : BitVec 32 := Scalar.addi v2330 c8_i32_901
  let c128_i32_902 : BitVec 32 := 128#32
  let v2332 : BitVec 32 := Scalar.muli v2331 c128_i32_902
  v2332
def k0_mult234 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_904 : BitVec 32 := 32#32
  let v2340 : BitVec 32 := Scalar.muli arg9 c32_i32_904
  let c9_i32_905 : BitVec 32 := 9#32
  let v2341 : BitVec 32 := Scalar.addi v2340 c9_i32_905
  let c128_i32_906 : BitVec 32 := 128#32
  let v2342 : BitVec 32 := Scalar.muli v2341 c128_i32_906
  v2342
def k0_mult235 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_908 : BitVec 32 := 32#32
  let v2350 : BitVec 32 := Scalar.muli arg9 c32_i32_908
  let c10_i32_909 : BitVec 32 := 10#32
  let v2351 : BitVec 32 := Scalar.addi v2350 c10_i32_909
  let c128_i32_910 : BitVec 32 := 128#32
  let v2352 : BitVec 32 := Scalar.muli v2351 c128_i32_910
  v2352
def k0_mult236 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_912 : BitVec 32 := 32#32
  let v2360 : BitVec 32 := Scalar.muli arg9 c32_i32_912
  let c11_i32_913 : BitVec 32 := 11#32
  let v2361 : BitVec 32 := Scalar.addi v2360 c11_i32_913
  let c128_i32_914 : BitVec 32 := 128#32
  let v2362 : BitVec 32 := Scalar.muli v2361 c128_i32_914
  v2362
def k0_mult237 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_916 : BitVec 32 := 32#32
  let v2370 : BitVec 32 := Scalar.muli arg9 c32_i32_916
  let c12_i32_917 : BitVec 32 := 12#32
  let v2371 : BitVec 32 := Scalar.addi v2370 c12_i32_917
  let c128_i32_918 : BitVec 32 := 128#32
  let v2372 : BitVec 32 := Scalar.muli v2371 c128_i32_918
  v2372
def k0_mult238 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_920 : BitVec 32 := 32#32
  let v2380 : BitVec 32 := Scalar.muli arg9 c32_i32_920
  let c13_i32_921 : BitVec 32 := 13#32
  let v2381 : BitVec 32 := Scalar.addi v2380 c13_i32_921
  let c128_i32_922 : BitVec 32 := 128#32
  let v2382 : BitVec 32 := Scalar.muli v2381 c128_i32_922
  v2382
def k0_mult239 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_924 : BitVec 32 := 32#32
  let v2390 : BitVec 32 := Scalar.muli arg9 c32_i32_924
  let c14_i32_925 : BitVec 32 := 14#32
  let v2391 : BitVec 32 := Scalar.addi v2390 c14_i32_925
  let c128_i32_926 : BitVec 32 := 128#32
  let v2392 : BitVec 32 := Scalar.muli v2391 c128_i32_926
  v2392
def k0_mult240 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_928 : BitVec 32 := 32#32
  let v2400 : BitVec 32 := Scalar.muli arg9 c32_i32_928
  let c15_i32_929 : BitVec 32 := 15#32
  let v2401 : BitVec 32 := Scalar.addi v2400 c15_i32_929
  let c128_i32_930 : BitVec 32 := 128#32
  let v2402 : BitVec 32 := Scalar.muli v2401 c128_i32_930
  v2402
def k0_mult241 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_932 : BitVec 32 := 32#32
  let v2410 : BitVec 32 := Scalar.muli arg9 c32_i32_932
  let c16_i32_933 : BitVec 32 := 16#32
  let v2411 : BitVec 32 := Scalar.addi v2410 c16_i32_933
  let c128_i32_934 : BitVec 32 := 128#32
  let v2412 : BitVec 32 := Scalar.muli v2411 c128_i32_934
  v2412
def k0_mult242 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_936 : BitVec 32 := 32#32
  let v2420 : BitVec 32 := Scalar.muli arg9 c32_i32_936
  let c17_i32_937 : BitVec 32 := 17#32
  let v2421 : BitVec 32 := Scalar.addi v2420 c17_i32_937
  let c128_i32_938 : BitVec 32 := 128#32
  let v2422 : BitVec 32 := Scalar.muli v2421 c128_i32_938
  v2422
def k0_mult243 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_940 : BitVec 32 := 32#32
  let v2430 : BitVec 32 := Scalar.muli arg9 c32_i32_940
  let c18_i32_941 : BitVec 32 := 18#32
  let v2431 : BitVec 32 := Scalar.addi v2430 c18_i32_941
  let c128_i32_942 : BitVec 32 := 128#32
  let v2432 : BitVec 32 := Scalar.muli v2431 c128_i32_942
  v2432
def k0_mult244 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_944 : BitVec 32 := 32#32
  let v2440 : BitVec 32 := Scalar.muli arg9 c32_i32_944
  let c19_i32_945 : BitVec 32 := 19#32
  let v2441 : BitVec 32 := Scalar.addi v2440 c19_i32_945
  let c128_i32_946 : BitVec 32 := 128#32
  let v2442 : BitVec 32 := Scalar.muli v2441 c128_i32_946
  v2442
def k0_mult245 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_948 : BitVec 32 := 32#32
  let v2450 : BitVec 32 := Scalar.muli arg9 c32_i32_948
  let c20_i32_949 : BitVec 32 := 20#32
  let v2451 : BitVec 32 := Scalar.addi v2450 c20_i32_949
  let c128_i32_950 : BitVec 32 := 128#32
  let v2452 : BitVec 32 := Scalar.muli v2451 c128_i32_950
  v2452
def k0_mult246 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_952 : BitVec 32 := 32#32
  let v2460 : BitVec 32 := Scalar.muli arg9 c32_i32_952
  let c21_i32_953 : BitVec 32 := 21#32
  let v2461 : BitVec 32 := Scalar.addi v2460 c21_i32_953
  let c128_i32_954 : BitVec 32 := 128#32
  let v2462 : BitVec 32 := Scalar.muli v2461 c128_i32_954
  v2462
def k0_mult247 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_956 : BitVec 32 := 32#32
  let v2470 : BitVec 32 := Scalar.muli arg9 c32_i32_956
  let c22_i32_957 : BitVec 32 := 22#32
  let v2471 : BitVec 32 := Scalar.addi v2470 c22_i32_957
  let c128_i32_958 : BitVec 32 := 128#32
  let v2472 : BitVec 32 := Scalar.muli v2471 c128_i32_958
  v2472
def k0_mult248 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_960 : BitVec 32 := 32#32
  let v2480 : BitVec 32 := Scalar.muli arg9 c32_i32_960
  let c23_i32_961 : BitVec 32 := 23#32
  let v2481 : BitVec 32 := Scalar.addi v2480 c23_i32_961
  let c128_i32_962 : BitVec 32 := 128#32
  let v2482 : BitVec 32 := Scalar.muli v2481 c128_i32_962
  v2482
def k0_mult249 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_964 : BitVec 32 := 32#32
  let v2490 : BitVec 32 := Scalar.muli arg9 c32_i32_964
  let c24_i32_965 : BitVec 32 := 24#32
  let v2491 : BitVec 32 := Scalar.addi v2490 c24_i32_965
  let c128_i32_966 : BitVec 32 := 128#32
  let v2492 : BitVec 32 := Scalar.muli v2491 c128_i32_966
  v2492
def k0_mult250 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_968 : BitVec 32 := 32#32
  let v2500 : BitVec 32 := Scalar.muli arg9 c32_i32_968
  let c25_i32_969 : BitVec 32 := 25#32
  let v2501 : BitVec 32 := Scalar.addi v2500 c25_i32_969
  let c128_i32_970 : BitVec 32 := 128#32
  let v2502 : BitVec 32 := Scalar.muli v2501 c128_i32_970
  v2502
def k0_mult251 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_972 : BitVec 32 := 32#32
  let v2510 : BitVec 32 := Scalar.muli arg9 c32_i32_972
  let c26_i32_973 : BitVec 32 := 26#32
  let v2511 : BitVec 32 := Scalar.addi v2510 c26_i32_973
  let c128_i32_974 : BitVec 32 := 128#32
  let v2512 : BitVec 32 := Scalar.muli v2511 c128_i32_974
  v2512
def k0_mult252 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_976 : BitVec 32 := 32#32
  let v2520 : BitVec 32 := Scalar.muli arg9 c32_i32_976
  let c27_i32_977 : BitVec 32 := 27#32
  let v2521 : BitVec 32 := Scalar.addi v2520 c27_i32_977
  let c128_i32_978 : BitVec 32 := 128#32
  let v2522 : BitVec 32 := Scalar.muli v2521 c128_i32_978
  v2522
def k0_mult253 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_980 : BitVec 32 := 32#32
  let v2530 : BitVec 32 := Scalar.muli arg9 c32_i32_980
  let c28_i32_981 : BitVec 32 := 28#32
  let v2531 : BitVec 32 := Scalar.addi v2530 c28_i32_981
  let c128_i32_982 : BitVec 32 := 128#32
  let v2532 : BitVec 32 := Scalar.muli v2531 c128_i32_982
  v2532
def k0_mult254 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_984 : BitVec 32 := 32#32
  let v2540 : BitVec 32 := Scalar.muli arg9 c32_i32_984
  let c29_i32_985 : BitVec 32 := 29#32
  let v2541 : BitVec 32 := Scalar.addi v2540 c29_i32_985
  let c128_i32_986 : BitVec 32 := 128#32
  let v2542 : BitVec 32 := Scalar.muli v2541 c128_i32_986
  v2542
def k0_mult255 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_988 : BitVec 32 := 32#32
  let v2550 : BitVec 32 := Scalar.muli arg9 c32_i32_988
  let c30_i32_989 : BitVec 32 := 30#32
  let v2551 : BitVec 32 := Scalar.addi v2550 c30_i32_989
  let c128_i32_990 : BitVec 32 := 128#32
  let v2552 : BitVec 32 := Scalar.muli v2551 c128_i32_990
  v2552
def k0_mult256 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_992 : BitVec 32 := 32#32
  let v2560 : BitVec 32 := Scalar.muli arg9 c32_i32_992
  let c31_i32_993 : BitVec 32 := 31#32
  let v2561 : BitVec 32 := Scalar.addi v2560 c31_i32_993
  let c128_i32_994 : BitVec 32 := 128#32
  let v2562 : BitVec 32 := Scalar.muli v2561 c128_i32_994
  v2562
@[reducible] def k0_t2_loop : Scf.Loop 32 :=
  let c0_i32_7 : BitVec 32 := 0#32
  let c56_i32 : BitVec 32 := 56#32
  let v17 : BitVec 32 := Scalar.addi c0_i32_7 c56_i32
  let c1_i32_8 : BitVec 32 := 1#32
  ⟨c0_i32_7, v17, c1_i32_8⟩
def k0_mult257 (k0_t2 : Fin k0_t2_loop.trips) : BitVec 32 :=
  let c0_i32_7 : BitVec 32 := 0#32
  let c1_i32_8 : BitVec 32 := 1#32
  let arg9 : BitVec 32 := Scf.iv c0_i32_7 c1_i32_8 k0_t2
  let c4_i32 : BitVec 32 := 4#32
  let v18 : BitVec 32 := Scalar.muli arg9 c4_i32
  let c0_i32_10 : BitVec 32 := 0#32
  let v19 : BitVec 32 := Scalar.addi v18 c0_i32_10
  let c128_i32 : BitVec 32 := 128#32
  let v20 : BitVec 32 := Scalar.muli v19 c128_i32
  v20
def k0_off9 (k0_t2 : Fin k0_t2_loop.trips) (c0_i32_10 : BitVec 32) : Fin 2 → Nat :=
  let c0_11 : Index := 0#32
  let c0_i32_7 : BitVec 32 := 0#32
  let c1_i32_8 : BitVec 32 := 1#32
  let arg9 : BitVec 32 := Scf.iv c0_i32_7 c1_i32_8 k0_t2
  let c4_i32 : BitVec 32 := 4#32
  let v18 : BitVec 32 := Scalar.muli arg9 c4_i32
  let v19 : BitVec 32 := Scalar.addi v18 c0_i32_10
  let c128_i32 : BitVec 32 := 128#32
  let v20 : BitVec 32 := Scalar.muli v19 c128_i32
  let v21 : BitVec 32 := v20
  let v22 : Index := Scalar.indexCast v21
  ![0, v22.toNat]
def k0_off10 (k0_t2 : Fin k0_t2_loop.trips) (c0_i32_10 : BitVec 32) : Fin 2 → Nat :=
  let c0_14 : Index := 0#32
  let c0_i32_7 : BitVec 32 := 0#32
  let c1_i32_8 : BitVec 32 := 1#32
  let arg9 : BitVec 32 := Scf.iv c0_i32_7 c1_i32_8 k0_t2
  let c4_i32 : BitVec 32 := 4#32
  let v18 : BitVec 32 := Scalar.muli arg9 c4_i32
  let v19 : BitVec 32 := Scalar.addi v18 c0_i32_10
  let c128_i32 : BitVec 32 := 128#32
  let v20 : BitVec 32 := Scalar.muli v19 c128_i32
  let v21 : BitVec 32 := v20
  let v28 : Index := Scalar.indexCast v21
  ![0, v28.toNat]
def k0_off11 (i : grid0.Coords) (k0_t2 : Fin k0_t2_loop.trips) (c0_i32_10 : BitVec 32) : Fin 4 → Nat :=
  let c0_36 : Index := 0#32
  let c0_i32_7 : BitVec 32 := 0#32
  let c1_i32_8 : BitVec 32 := 1#32
  let arg9 : BitVec 32 := Scf.iv c0_i32_7 c1_i32_8 k0_t2
  let c4_i32 : BitVec 32 := 4#32
  let v18 : BitVec 32 := Scalar.muli arg9 c4_i32
  let v19 : BitVec 32 := Scalar.addi v18 c0_i32_10
  let v147 : Index := Scalar.indexCast v19
  let arg0 : BitVec 32 := BitVec.ofNat 32 (i 0).val
  let c8_i32 : BitVec 32 := 8#32
  let c0_i32_31 : BitVec 32 := 0#32
  let v137 : BitVec 1 := Scalar.cmpi .eq c8_i32 c0_i32_31
  let c1_i32_32 : BitVec 32 := 1#32
  let v138 : BitVec 32 := Scalar.select v137 c1_i32_32 c8_i32
  let v139 : BitVec 32 := Scalar.remsi arg0 v138
  let c0_i32_34 : BitVec 32 := 0#32
  let v141 : BitVec 1 := Scalar.cmpi .slt v139 c0_i32_34
  let c0_i32_35 : BitVec 32 := 0#32
  let v142 : BitVec 1 := Scalar.cmpi .slt v138 c0_i32_35
  let v143 : BitVec 1 := Scalar.xori v141 v142
  let c0_i32_33 : BitVec 32 := 0#32
  let v140 : BitVec 1 := Scalar.cmpi .ne v139 c0_i32_33
  let v144 : BitVec 1 := Scalar.andi v143 v140
  let v145 : BitVec 32 := Scalar.addi v139 v138
  let v146 : BitVec 32 := Scalar.select v144 v145 v139
  let v148 : Index := Scalar.indexCast v146
  let c0_37 : Index := 0#32
  ![0, v147.toNat, v148.toNat, 0]
def k0_off12 (k0_t2 : Fin k0_t2_loop.trips) (c0_i32_10 : BitVec 32) : Fin 2 → Nat :=
  let c0_i32_7 : BitVec 32 := 0#32
  let c1_i32_8 : BitVec 32 := 1#32
  let arg9 : BitVec 32 := Scf.iv c0_i32_7 c1_i32_8 k0_t2
  let c4_i32 : BitVec 32 := 4#32
  let v18 : BitVec 32 := Scalar.muli arg9 c4_i32
  let v19 : BitVec 32 := Scalar.addi v18 c0_i32_10
  let c128_i32 : BitVec 32 := 128#32
  let v20 : BitVec 32 := Scalar.muli v19 c128_i32
  let v21 : BitVec 32 := v20
  let v164 : Index := Scalar.indexCast v21
  let c0_40 : Index := 0#32
  ![v164.toNat, 0]
def k0_off13 (k0_t2 : Fin k0_t2_loop.trips) (c0_i32_10 : BitVec 32) : Fin 2 → Nat :=
  let c0_i32_7 : BitVec 32 := 0#32
  let c1_i32_8 : BitVec 32 := 1#32
  let arg9 : BitVec 32 := Scf.iv c0_i32_7 c1_i32_8 k0_t2
  let c4_i32 : BitVec 32 := 4#32
  let v18 : BitVec 32 := Scalar.muli arg9 c4_i32
  let v19 : BitVec 32 := Scalar.addi v18 c0_i32_10
  let v225 : Index := Scalar.indexCast v19
  let c0_57 : Index := 0#32
  ![v225.toNat, 0]
def k0_mult258 (k0_t2 : Fin k0_t2_loop.trips) : BitVec 32 :=
  let c0_i32_7 : BitVec 32 := 0#32
  let c1_i32_8 : BitVec 32 := 1#32
  let arg9 : BitVec 32 := Scf.iv c0_i32_7 c1_i32_8 k0_t2
  let c4_i32_61 : BitVec 32 := 4#32
  let v241 : BitVec 32 := Scalar.muli arg9 c4_i32_61
  let c1_i32_62 : BitVec 32 := 1#32
  let v242 : BitVec 32 := Scalar.addi v241 c1_i32_62
  let c128_i32_63 : BitVec 32 := 128#32
  let v243 : BitVec 32 := Scalar.muli v242 c128_i32_63
  v243
def k0_mult259 (k0_t2 : Fin k0_t2_loop.trips) : BitVec 32 :=
  let c0_i32_7 : BitVec 32 := 0#32
  let c1_i32_8 : BitVec 32 := 1#32
  let arg9 : BitVec 32 := Scf.iv c0_i32_7 c1_i32_8 k0_t2
  let c4_i32_127 : BitVec 32 := 4#32
  let v464 : BitVec 32 := Scalar.muli arg9 c4_i32_127
  let c2_i32 : BitVec 32 := 2#32
  let v465 : BitVec 32 := Scalar.addi v464 c2_i32
  let c128_i32_128 : BitVec 32 := 128#32
  let v466 : BitVec 32 := Scalar.muli v465 c128_i32_128
  v466
def k0_mult260 (k0_t2 : Fin k0_t2_loop.trips) : BitVec 32 :=
  let c0_i32_7 : BitVec 32 := 0#32
  let c1_i32_8 : BitVec 32 := 1#32
  let arg9 : BitVec 32 := Scf.iv c0_i32_7 c1_i32_8 k0_t2
  let c4_i32_192 : BitVec 32 := 4#32
  let v687 : BitVec 32 := Scalar.muli arg9 c4_i32_192
  let c3_i32 : BitVec 32 := 3#32
  let v688 : BitVec 32 := Scalar.addi v687 c3_i32
  let c128_i32_193 : BitVec 32 := 128#32
  let v689 : BitVec 32 := Scalar.muli v688 c128_i32_193
  v689
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x28672 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x28672 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x28672 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28672x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x224x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_d" => some ((1 / 28672 : ℝ) : EReal)
  | _ => none
-- ==== ReferenceIdeal.lean ====
abbrev S7x1024x28672 : Shape := ⟨3, ![7, 1024, 28672]⟩
abbrev S28672 : Shape := ⟨1, ![28672]⟩
abbrev S7168x28672 : Shape := ⟨2, ![7168, 28672]⟩
abbrev S_ : Shape := ⟨0, ![]⟩
abbrev S7168 : Shape := ⟨1, ![7168]⟩
abbrev S7168x1 : Shape := ⟨2, ![7168, 1]⟩
abbrev S1x28672 : Shape := ⟨2, ![1, 28672]⟩
abbrev S7168x224x128 : Shape := ⟨3, ![7168, 224, 128]⟩
abbrev S7168x224 : Shape := ⟨2, ![7168, 224]⟩
abbrev S7168x224x1 : Shape := ⟨3, ![7168, 224, 1]⟩
abbrev S28672x7168 : Shape := ⟨2, ![28672, 7168]⟩
abbrev S28672x56x128 : Shape := ⟨3, ![28672, 56, 128]⟩
abbrev S28672x56 : Shape := ⟨2, ![28672, 56]⟩
abbrev S28672x56x1 : Shape := ⟨3, ![28672, 56, 1]⟩
abbrev S224x7168 : Shape := ⟨2, ![224, 7168]⟩
abbrev S224x128x7x8 : Shape := ⟨4, ![224, 128, 7, 8]⟩
abbrev S7x224x8x128 : Shape := ⟨4, ![7, 224, 8, 128]⟩
abbrev S56x1x128 : Shape := ⟨3, ![56, 1, 128]⟩

abbrev nBuf : Space → Nat
  | .hbm => 104
  | .vmem => 0
  | .smem => 0
  | _ => 0

abbrev bufTy : (tb : Table) → Fin (tcTables nBuf tb) → BufTy
  | .hbm, ⟨0, _⟩ => ⟨S7x1024x28672, .bf16⟩
  | .hbm, ⟨1, _⟩ => ⟨S28672, .bf16⟩
  | .hbm, ⟨2, _⟩ => ⟨S7168x28672, .bf16⟩
  | .hbm, ⟨3, _⟩ => ⟨S7168x28672, .f32⟩
  | .hbm, ⟨4, _⟩ => ⟨S7168x28672, .f32⟩
  | .hbm, ⟨5, _⟩ => ⟨S_, .f32⟩
  | .hbm, ⟨6, _⟩ => ⟨S7168, .f32⟩
  | .hbm, ⟨7, _⟩ => ⟨S_, .f32⟩
  | .hbm, ⟨8, _⟩ => ⟨S7168, .f32⟩
  | .hbm, ⟨9, _⟩ => ⟨S7168, .f32⟩
  | .hbm, ⟨10, _⟩ => ⟨S_, .f32⟩
  | .hbm, ⟨11, _⟩ => ⟨S7168, .f32⟩
  | .hbm, ⟨12, _⟩ => ⟨S7168, .f32⟩
  | .hbm, ⟨13, _⟩ => ⟨S7168, .f32⟩
  | .hbm, ⟨14, _⟩ => ⟨S7168x1, .f32⟩
  | .hbm, ⟨15, _⟩ => ⟨S7168x28672, .f32⟩
  | .hbm, ⟨16, _⟩ => ⟨S7168x28672, .f32⟩
  | .hbm, ⟨17, _⟩ => ⟨S28672, .f32⟩
  | .hbm, ⟨18, _⟩ => ⟨S1x28672, .f32⟩
  | .hbm, ⟨19, _⟩ => ⟨S7168x28672, .f32⟩
  | .hbm, ⟨20, _⟩ => ⟨S7168x28672, .f32⟩
  | .hbm, ⟨21, _⟩ => ⟨S7168x224x128, .f32⟩
  | .hbm, ⟨22, _⟩ => ⟨S7168x224x128, .f32⟩
  | .hbm, ⟨23, _⟩ => ⟨S_, .f32⟩
  | .hbm, ⟨24, _⟩ => ⟨S7168x224, .f32⟩
  | .hbm, ⟨25, _⟩ => ⟨S_, .f32⟩
  | .hbm, ⟨26, _⟩ => ⟨S7168x224, .f32⟩
  | .hbm, ⟨27, _⟩ => ⟨S7168x224, .f32⟩
  | .hbm, ⟨28, _⟩ => ⟨S_, .f32⟩
  | .hbm, ⟨29, _⟩ => ⟨S7168x224, .f32⟩
  | .hbm, ⟨30, _⟩ => ⟨S_, .f32⟩
  | .hbm, ⟨31, _⟩ => ⟨S7168x224, .f32⟩
  | .hbm, ⟨32, _⟩ => ⟨S7168x224, .i1⟩
  | .hbm, ⟨33, _⟩ => ⟨S7168x224, .f32⟩
  | .hbm, ⟨34, _⟩ => ⟨S7168x224, .f32⟩
  | .hbm, ⟨35, _⟩ => ⟨S7168x224, .f32⟩
  | .hbm, ⟨36, _⟩ => ⟨S7168x224, .f32⟩
  | .hbm, ⟨37, _⟩ => ⟨S_, .f32⟩
  | .hbm, ⟨38, _⟩ => ⟨S7168x224, .f32⟩
  | .hbm, ⟨39, _⟩ => ⟨S7168x224, .f32⟩
  | .hbm, ⟨40, _⟩ => ⟨S_, .f32⟩
  | .hbm, ⟨41, _⟩ => ⟨S_, .f32⟩
  | .hbm, ⟨42, _⟩ => ⟨S7168x224, .f32⟩
  | .hbm, ⟨43, _⟩ => ⟨S7168x224, .f32⟩
  | .hbm, ⟨44, _⟩ => ⟨S7168x224, .f32⟩
  | .hbm, ⟨45, _⟩ => ⟨S7168x224, .f32⟩
  | .hbm, ⟨46, _⟩ => ⟨S7168x224, .f32⟩
  | .hbm, ⟨47, _⟩ => ⟨S7168x224x1, .f32⟩
  | .hbm, ⟨48, _⟩ => ⟨S7168x224x128, .f32⟩
  | .hbm, ⟨49, _⟩ => ⟨S7168x224x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S7168x224x128, .f32⟩
  | .hbm, ⟨54, _⟩ => ⟨S7168x224x128, .f32⟩
  | .hbm, ⟨55, _⟩ => ⟨S_, .f32⟩
  | .hbm, ⟨56, _⟩ => ⟨S7168x224x128, .f32⟩
  | .hbm, ⟨57, _⟩ => ⟨S7168x224x128, .f32⟩
  | .hbm, ⟨58, _⟩ => ⟨S7168x224x128, .fp8e4m3⟩
  | .hbm, ⟨59, _⟩ => ⟨S7168x28672, .fp8e4m3⟩
  | .hbm, ⟨60, _⟩ => ⟨S28672x7168, .f32⟩
  | .hbm, ⟨61, _⟩ => ⟨S28672x56x128, .f32⟩
  | .hbm, ⟨62, _⟩ => ⟨S28672x56x128, .f32⟩
  | .hbm, ⟨63, _⟩ => ⟨S_, .f32⟩
  | .hbm, ⟨64, _⟩ => ⟨S28672x56, .f32⟩
  | .hbm, ⟨65, _⟩ => ⟨S_, .f32⟩
  | .hbm, ⟨66, _⟩ => ⟨S28672x56, .f32⟩
  | .hbm, ⟨67, _⟩ => ⟨S28672x56, .f32⟩
  | .hbm, ⟨68, _⟩ => ⟨S_, .f32⟩
  | .hbm, ⟨69, _⟩ => ⟨S28672x56, .f32⟩
  | .hbm, ⟨70, _⟩ => ⟨S_, .f32⟩
  | .hbm, ⟨71, _⟩ => ⟨S28672x56, .f32⟩
  | .hbm, ⟨72, _⟩ => ⟨S28672x56, .i1⟩
  | .hbm, ⟨73, _⟩ => ⟨S28672x56, .f32⟩
  | .hbm, ⟨74, _⟩ => ⟨S28672x56, .f32⟩
  | .hbm, ⟨75, _⟩ => ⟨S28672x56, .f32⟩
  | .hbm, ⟨76, _⟩ => ⟨S28672x56, .f32⟩
  | .hbm, ⟨77, _⟩ => ⟨S_, .f32⟩
  | .hbm, ⟨78, _⟩ => ⟨S28672x56, .f32⟩
  | .hbm, ⟨79, _⟩ => ⟨S28672x56, .f32⟩
  | .hbm, ⟨80, _⟩ => ⟨S_, .f32⟩
  | .hbm, ⟨81, _⟩ => ⟨S_, .f32⟩
  | .hbm, ⟨82, _⟩ => ⟨S28672x56, .f32⟩
  | .hbm, ⟨83, _⟩ => ⟨S28672x56, .f32⟩
  | .hbm, ⟨84, _⟩ => ⟨S28672x56, .f32⟩
  | .hbm, ⟨85, _⟩ => ⟨S28672x56, .f32⟩
  | .hbm, ⟨86, _⟩ => ⟨S28672x56, .f32⟩
  | .hbm, ⟨87, _⟩ => ⟨S28672x56x1, .f32⟩
  | .hbm, ⟨88, _⟩ => ⟨S28672x56x128, .f32⟩
  | .hbm, ⟨89, _⟩ => ⟨S28672x56x128, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S28672x56x128, .f32⟩
  | .hbm, ⟨94, _⟩ => ⟨S28672x56x128, .f32⟩
  | .hbm, ⟨95, _⟩ => ⟨S_, .f32⟩
  | .hbm, ⟨96, _⟩ => ⟨S28672x56x128, .f32⟩
  | .hbm, ⟨97, _⟩ => ⟨S28672x56x128, .f32⟩
  | .hbm, ⟨98, _⟩ => ⟨S28672x56x128, .fp8e4m3⟩
  | .hbm, ⟨99, _⟩ => ⟨S28672x7168, .fp8e4m3⟩
  | .hbm, ⟨100, _⟩ => ⟨S224x7168, .f32⟩
  | .hbm, ⟨101, _⟩ => ⟨S224x128x7x8, .f32⟩
  | .hbm, ⟨102, _⟩ => ⟨S7x224x8x128, .f32⟩
  | .hbm, ⟨103, _⟩ => ⟨S56x1x128, .f32⟩
  | _, _ => ⟨S7x1024x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_cst_9 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_cst_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_v54 : Ref sig .tc := ⟨.hbm, 79, rfl⟩
abbrev main_cst_15 : Ref sig .tc := ⟨.hbm, 80, rfl⟩
abbrev main_call2_v0 : Ref sig .tc := ⟨.hbm, 81, rfl⟩
abbrev main_call2_v1 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_cst_17 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩

abbrev nD : Nat := 1
abbrev τ : Topo := Topo.v7x

variable {F : FTy → Type} [FloatOps F]
-- ==== Proof.KernelLoop.lean ====
/- The second loop of the kernel body (the column groups, four a trip): the place of its store into the block of
   column scales in closed form, and the loop's invariant: after `k` trips each output block holds the pieces the
   trips before `k` wrote, over what it held when the loop was entered. -/
module

public import proofs.«01_k».proof.Proof.Gen.Kernel.Loops

@[expose] public section

-- the recursion over the trips carries every parameter of the region: deeper traversal, more heartbeats
set_option maxRecDepth 8192
set_option maxHeartbeats 4000000

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- The body's `blk % 8`, as the kernel computes it: the remainder, corrected towards the sign of the divisor. -/
def modWord (arg0 : BitVec 32) : BitVec 32 :=
  let c8_i32 : BitVec 32 := 8#32
  let c0_i32_31 : BitVec 32 := 0#32
  let v137 : BitVec 1 := Scalar.cmpi .eq c8_i32 c0_i32_31
  let c1_i32_32 : BitVec 32 := 1#32
  let v138 : BitVec 32 := Scalar.select v137 c1_i32_32 c8_i32
  let v139 : BitVec 32 := Scalar.remsi arg0 v138
  let c0_i32_34 : BitVec 32 := 0#32
  let v141 : BitVec 1 := Scalar.cmpi .slt v139 c0_i32_34
  let c0_i32_35 : BitVec 32 := 0#32
  let v142 : BitVec 1 := Scalar.cmpi .slt v138 c0_i32_35
  let v143 : BitVec 1 := Scalar.xori v141 v142
  let c0_i32_33 : BitVec 32 := 0#32
  let v140 : BitVec 1 := Scalar.cmpi .ne v139 c0_i32_33
  let v144 : BitVec 1 := Scalar.andi v143 v140
  let v145 : BitVec 32 := Scalar.addi v139 v138
  Scalar.select v144 v145 v139

/-- At a grid point it is the remainder by 8. -/
theorem modWord_eq : ∀ n : Fin 56, modWord (BitVec.ofNat 32 n.val) = BitVec.ofNat 32 (n.val % 8) := by decide +kernel

/-- The place of the store into the block of column scales: group `4 k + r`, sublane `i % 8`. -/
theorem off11_eq (i : grid0.Coords) (k0_t2 : Fin k0_t2_loop.trips) (r : Fin 4) :
    k0_off11 i k0_t2 (BitVec.ofNat 32 r.val) = ![0, 4 * k0_t2.val + r.val, ((i 0).val % 8), 0] := by
  have r_r : r.val < 4 := r.isLt
  have h_c0_i32_10 : Affine.IsInt (BitVec.ofNat 32 r.val) ((r.val : Int)) := Affine.ofNat _ (by omega)
  have h_c0_i32_7 : Affine.IsInt 0#32 (0) := Affine.ofNat _ (by omega)
  have h_c1_i32_8 : Affine.IsInt 1#32 (1) := Affine.ofNat _ (by omega)
  have r_k0_t2 : k0_t2.val < 56 := Nat.lt_of_lt_of_le k0_t2.isLt k0_t2_abs.2.1
  have h_arg9 : Affine.IsInt _ ((k0_t2.val : Int)) := Affine.iv h_c0_i32_7 h_c1_i32_8 k0_t2.val (by omega)
  have h_c4_i32 : Affine.IsInt 4#32 (4) := Affine.ofNat _ (by omega)
  have h_v18 : Affine.IsInt _ (4 * (k0_t2.val : Int)) := Affine.muli h_arg9 h_c4_i32 (by omega)
  have h_v19 : Affine.IsInt _ (4 * (k0_t2.val : Int) + (r.val : Int)) := Affine.addi h_v18 h_c0_i32_10 (by omega)
  have h_v147 : Affine.IsInt _ (4 * (k0_t2.val : Int) + (r.val : Int)) := Affine.indexCast h_v19
  have r_i0 : (i 0).val < 56 := (i 0).isLt
  have hm : Affine.IsInt (modWord (BitVec.ofNat 32 (i 0).val)) ((((i 0).val % 8 : ℕ) : Int)) := by
    rw [show modWord (BitVec.ofNat 32 (i 0).val) = BitVec.ofNat 32 ((i 0).val % 8) from modWord_eq ⟨(i 0).val, r_i0⟩]; exact Affine.ofNat _ (by omega)
  have h_v148 : Affine.IsInt _ ((((i 0).val % 8 : ℕ) : Int)) := Affine.indexCast hm
  exact Affine.vec_cons (Affine.ofNat 0 (by omega) : Affine.IsInt 0#32 0) (by omega) <| Affine.vec_cons h_v147 (by omega) <| Affine.vec_cons h_v148 (by omega) <| Affine.vec_cons (Affine.ofNat 0 (by omega) : Affine.IsInt 0#32 0) (by omega) <| Affine.vec_nil

instance closedOff_off11_0 (i : grid0.Coords) (k0_t2 : Fin k0_t2_loop.trips) : ClosedOff (k0_off11 i k0_t2 (BitVec.ofNat 32 0)) := ⟨![0, 4 * k0_t2.val + 0, ((i 0).val % 8), 0], off11_eq i k0_t2 ⟨0, by decide⟩⟩
instance closedOff_off11_1 (i : grid0.Coords) (k0_t2 : Fin k0_t2_loop.trips) : ClosedOff (k0_off11 i k0_t2 (BitVec.ofNat 32 1)) := ⟨![0, 4 * k0_t2.val + 1, ((i 0).val % 8), 0], off11_eq i k0_t2 ⟨1, by decide⟩⟩
instance closedOff_off11_2 (i : grid0.Coords) (k0_t2 : Fin k0_t2_loop.trips) : ClosedOff (k0_off11 i k0_t2 (BitVec.ofNat 32 2)) := ⟨![0, 4 * k0_t2.val + 2, ((i 0).val % 8), 0], off11_eq i k0_t2 ⟨2, by decide⟩⟩
instance closedOff_off11_3 (i : grid0.Coords) (k0_t2 : Fin k0_t2_loop.trips) : ClosedOff (k0_off11 i k0_t2 (BitVec.ofNat 32 3)) := ⟨![0, 4 * k0_t2.val + 3, ((i 0).val % 8), 0], off11_eq i k0_t2 ⟨3, by decide⟩⟩

/-! ### The loop over the column groups: one trip, the pieces of the trips so far, the invariant -/

/-- One trip's resources: what the region reads (arg1, arg2, arg8) at its contents, what it writes
   (arg3, arg4, arg5, arg6) at any. -/
abbrev Trip_k0_t2 (c : Dev nD) (arg1 : Memref sig .tc .vmem S128x28672 .bf16) (arg2 : Memref sig .tc .vmem S1x28672 .f32) (arg8 : Memref sig .tc .vmem S128x128 .f32) (arg3 : Memref sig .tc .vmem S128x28672 .fp8e4m3) (arg4 : Memref sig .tc .vmem S224x128 .f32) (arg5 : Memref sig .tc .vmem S28672x128 .fp8e4m3) (arg6 : Memref sig .tc .vmem S1x224x8x128 .f32) (X_arg1 : BufTy.Contents (Elt F) arg1.view.ty) (X_arg2 : BufTy.Contents (Elt F) arg2.view.ty) (X_arg8 : BufTy.Contents (Elt F) arg8.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) : sProp 𝕄G :=
  iprop((arg1.view.loc (c : Thread nD τ) ↦[arg1.view.set]{fullShare} X_arg1) ∗ (arg2.view.loc (c : Thread nD τ) ↦[arg2.view.set]{fullShare} X_arg2) ∗ (arg8.view.loc (c : Thread nD τ) ↦[arg8.view.set]{fullShare} X_arg8) ∗ (arg3.view.loc (c : Thread nD τ) ↦[arg3.view.set]{fullShare} f_arg3) ∗ (arg4.view.loc (c : Thread nD τ) ↦[arg4.view.set]{fullShare} f_arg4) ∗ (arg5.view.loc (c : Thread nD τ) ↦[arg5.view.set]{fullShare} f_arg5) ∗ (arg6.view.loc (c : Thread nD τ) ↦[arg6.view.set]{fullShare} f_arg6))

/-- ONE TRIP of `k0_t2_loop` at a symbolic `k`, run by `sl_exec` (its rectangles where the program's
   in-range evidence puts them, their places unread): the pieces it writes into arg3, arg4, arg5,
   arg6 are the run's own finds — the witnesses `sl_close` assigns handing the buffers to the
   continuation. `@[irreducible]`: cited, never unfolded. -/
@[irreducible] def trip_k0_t2 (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (k : Fin k0_t2_loop.trips) :
    Σ' (L_arg3 : List (View.Piece (Elt F) S128x28672 .fp8e4m3)) (L_arg4 : List (View.Piece (Elt F) S224x128 .f32)) (L_arg5 : List (View.Piece (Elt F) S28672x128 .fp8e4m3)) , { L_arg6 : List (View.Piece (Elt F) S1x224x8x128 .f32) // ∀ (E : Set ℕ) (f_arg3 : BufTy.Contents (Elt F) arg3.view.ty) (f_arg4 : BufTy.Contents (Elt F) arg4.view.ty) (f_arg5 : BufTy.Contents (Elt F) arg5.view.ty) (f_arg6 : BufTy.Contents (Elt F) arg6.view.ty),
      Trip_k0_t2 (F := F) c arg1 arg2 arg8 arg3 arg4 arg5 arg6 X_arg1 X_arg2 X_arg8 f_arg3 f_arg4 f_arg5 f_arg6
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg0 k PUnit.unit)
          (fun _ => Trip_k0_t2 (F := F) c arg1 arg2 arg8 arg3 arg4 arg5 arg6 X_arg1 X_arg2 X_arg8 (arg3.view.writes (Elt F) f_arg3 L_arg3) (arg4.view.writes (Elt F) f_arg4 L_arg4) (arg5.view.writes (Elt F) f_arg5 L_arg5) (arg6.view.writes (Elt F) f_arg6 L_arg6)) } := by
  have hk : k.val < 56 := Nat.lt_of_lt_of_le k.isLt k0_t2_abs.2.1
  refine ⟨?_, ?_, ?_, ?_, fun E f_arg3 f_arg4 f_arg5 f_arg6 => ?run⟩
  case run =>
    unfold k0_t2_body
    iintro ⟨HR_arg1, HR_arg2, HR_arg8, HW_arg3, HW_arg4, HW_arg5, HW_arg6⟩
    sl_exec
    sl_step
    sl_close

/-- The trip's piece lists (plain projections of `trip_…`, for the recursion below to cite without
   its proof). -/
abbrev tripL_k0_t2 (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (k : Fin k0_t2_loop.trips) : List (View.Piece (Elt F) S128x28672 .fp8e4m3) × List (View.Piece (Elt F) S224x128 .f32) × List (View.Piece (Elt F) S28672x128 .fp8e4m3) × List (View.Piece (Elt F) S1x224x8x128 .f32) :=
  ((trip_k0_t2 (F := F) 𝒱 c bd i arg1 harg1 arg2 harg2 arg3 harg3 arg4 harg4 arg5 harg5 arg6 harg6 arg7 harg7 arg8 harg8 arg0 X_arg1 X_arg2 X_arg8 k).1, (trip_k0_t2 (F := F) 𝒱 c bd i arg1 harg1 arg2 harg2 arg3 harg3 arg4 harg4 arg5 harg5 arg6 harg6 arg7 harg7 arg8 harg8 arg0 X_arg1 X_arg2 X_arg8 k).2.1, (trip_k0_t2 (F := F) 𝒱 c bd i arg1 harg1 arg2 harg2 arg3 harg3 arg4 harg4 arg5 harg5 arg6 harg6 arg7 harg7 arg8 harg8 arg0 X_arg1 X_arg2 X_arg8 k).2.2.1, (trip_k0_t2 (F := F) 𝒱 c bd i arg1 harg1 arg2 harg2 arg3 harg3 arg4 harg4 arg5 harg5 arg6 harg6 arg7 harg7 arg8 harg8 arg0 X_arg1 X_arg2 X_arg8 k).2.2.2.1)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (k : ℕ) (prev : List (View.Piece (Elt F) S128x28672 .fp8e4m3) × List (View.Piece (Elt F) S224x128 .f32) × List (View.Piece (Elt F) S28672x128 .fp8e4m3) × List (View.Piece (Elt F) S1x224x8x128 .f32)) : List (View.Piece (Elt F) S128x28672 .fp8e4m3) × List (View.Piece (Elt F) S224x128 .f32) × List (View.Piece (Elt F) S28672x128 .fp8e4m3) × List (View.Piece (Elt F) S1x224x8x128 .f32) :=
  if h : k < k0_t2_loop.trips then
    ((tripL_k0_t2 (F := F) 𝒱 c bd i arg1 harg1 arg2 harg2 arg3 harg3 arg4 harg4 arg5 harg5 arg6 harg6 arg7 harg7 arg8 harg8 arg0 X_arg1 X_arg2 X_arg8 ⟨k, h⟩).1 ++ prev.1, (tripL_k0_t2 (F := F) 𝒱 c bd i arg1 harg1 arg2 harg2 arg3 harg3 arg4 harg4 arg5 harg5 arg6 harg6 arg7 harg7 arg8 harg8 arg0 X_arg1 X_arg2 X_arg8 ⟨k, h⟩).2.1 ++ prev.2.1, (tripL_k0_t2 (F := F) 𝒱 c bd i arg1 harg1 arg2 harg2 arg3 harg3 arg4 harg4 arg5 harg5 arg6 harg6 arg7 harg7 arg8 harg8 arg0 X_arg1 X_arg2 X_arg8 ⟨k, h⟩).2.2.1 ++ prev.2.2.1, (tripL_k0_t2 (F := F) 𝒱 c bd i arg1 harg1 arg2 harg2 arg3 harg3 arg4 harg4 arg5 harg5 arg6 harg6 arg7 harg7 arg8 harg8 arg0 X_arg1 X_arg2 X_arg8 ⟨k, h⟩).2.2.2 ++ prev.2.2.2)
  else prev

/-- The pieces of the trips before `k` (last first), per written memref. -/
def pb_k0_t2 (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) : ℕ → List (View.Piece (Elt F) S128x28672 .fp8e4m3) × List (View.Piece (Elt F) S224x128 .f32) × List (View.Piece (Elt F) S28672x128 .fp8e4m3) × List (View.Piece (Elt F) S1x224x8x128 .f32)
  | 0 => ([], [], [], [])
  | k + 1 => pb_k0_t2Step 𝒱 c bd i arg1 harg1 arg2 harg2 arg3 harg3 arg4 harg4 arg5 harg5 arg6 harg6 arg7 harg7 arg8 harg8 arg0 X_arg1 X_arg2 X_arg8 k (pb_k0_t2 𝒱 c bd i arg1 harg1 arg2 harg2 arg3 harg3 arg4 harg4 arg5 harg5 arg6 harg6 arg7 harg7 arg8 harg8 arg0 X_arg1 X_arg2 X_arg8 k)

theorem pb_k0_t2_succ (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (k : Fin k0_t2_loop.trips) :
    pb_k0_t2 (F := F) 𝒱 c bd i arg1 harg1 arg2 harg2 arg3 harg3 arg4 harg4 arg5 harg5 arg6 harg6 arg7 harg7 arg8 harg8 arg0 X_arg1 X_arg2 X_arg8 (k.val + 1)
      = ((tripL_k0_t2 (F := F) 𝒱 c bd i arg1 harg1 arg2 harg2 arg3 harg3 arg4 harg4 arg5 harg5 arg6 harg6 arg7 harg7 arg8 harg8 arg0 X_arg1 X_arg2 X_arg8 k).1 ++ (pb_k0_t2 (F := F) 𝒱 c bd i arg1 harg1 arg2 harg2 arg3 harg3 arg4 harg4 arg5 harg5 arg6 harg6 arg7 harg7 arg8 harg8 arg0 X_arg1 X_arg2 X_arg8 k.val).1, (tripL_k0_t2 (F := F) 𝒱 c bd i arg1 harg1 arg2 harg2 arg3 harg3 arg4 harg4 arg5 harg5 arg6 harg6 arg7 harg7 arg8 harg8 arg0 X_arg1 X_arg2 X_arg8 k).2.1 ++ (pb_k0_t2 (F := F) 𝒱 c bd i arg1 harg1 arg2 harg2 arg3 harg3 arg4 harg4 arg5 harg5 arg6 harg6 arg7 harg7 arg8 harg8 arg0 X_arg1 X_arg2 X_arg8 k.val).2.1, (tripL_k0_t2 (F := F) 𝒱 c bd i arg1 harg1 arg2 harg2 arg3 harg3 arg4 harg4 arg5 harg5 arg6 harg6 arg7 harg7 arg8 harg8 arg0 X_arg1 X_arg2 X_arg8 k).2.2.1 ++ (pb_k0_t2 (F := F) 𝒱 c bd i arg1 harg1 arg2 harg2 arg3 harg3 arg4 harg4 arg5 harg5 arg6 harg6 arg7 harg7 arg8 harg8 arg0 X_arg1 X_arg2 X_arg8 k.val).2.2.1, (tripL_k0_t2 (F := F) 𝒱 c bd i arg1 harg1 arg2 harg2 arg3 harg3 arg4 harg4 arg5 harg5 arg6 harg6 arg7 harg7 arg8 harg8 arg0 X_arg1 X_arg2 X_arg8 k).2.2.2 ++ (pb_k0_t2 (F := F) 𝒱 c bd i arg1 harg1 arg2 harg2 arg3 harg3 arg4 harg4 arg5 harg5 arg6 harg6 arg7 harg7 arg8 harg8 arg0 X_arg1 X_arg2 X_arg8 k.val).2.2.2) := by
  rw [pb_k0_t2.eq_2]; unfold pb_k0_t2Step; exact dif_pos k.isLt

/-- THE INVARIANT before trip `k`: arg1, arg2, arg8 read at `X_·`; arg3, arg4, arg5, arg6 holding
   the pieces of the trips before `k` written over the contents at loop entry `G_·` (stated `∃ f, …
   ∗ ⌜f = …⌝`, so that a hypothesis of any contents matches and the equation is what is proved). -/
abbrev inv_k0_t2 (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (G_arg3 : BufTy.Contents (Elt F) arg3.view.ty) (G_arg4 : BufTy.Contents (Elt F) arg4.view.ty) (G_arg5 : BufTy.Contents (Elt F) arg5.view.ty) (G_arg6 : BufTy.Contents (Elt F) arg6.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (arg8.view.loc (c : Thread nD τ) ↦[arg8.view.set]{fullShare} X_arg8) ∗ (∃ f, (arg3.view.loc (c : Thread nD τ) ↦[arg3.view.set]{fullShare} f) ∗ ⌜f = arg3.view.writes (Elt F) G_arg3 (pb_k0_t2 (F := F) 𝒱 c bd i arg1 harg1 arg2 harg2 arg3 harg3 arg4 harg4 arg5 harg5 arg6 harg6 arg7 harg7 arg8 harg8 arg0 X_arg1 X_arg2 X_arg8 k).1⌝) ∗ (∃ f, (arg4.view.loc (c : Thread nD τ) ↦[arg4.view.set]{fullShare} f) ∗ ⌜f = arg4.view.writes (Elt F) G_arg4 (pb_k0_t2 (F := F) 𝒱 c bd i arg1 harg1 arg2 harg2 arg3 harg3 arg4 harg4 arg5 harg5 arg6 harg6 arg7 harg7 arg8 harg8 arg0 X_arg1 X_arg2 X_arg8 k).2.1⌝) ∗ (∃ f, (arg5.view.loc (c : Thread nD τ) ↦[arg5.view.set]{fullShare} f) ∗ ⌜f = arg5.view.writes (Elt F) G_arg5 (pb_k0_t2 (F := F) 𝒱 c bd i arg1 harg1 arg2 harg2 arg3 harg3 arg4 harg4 arg5 harg5 arg6 harg6 arg7 harg7 arg8 harg8 arg0 X_arg1 X_arg2 X_arg8 k).2.2.1⌝) ∗ (∃ f, (arg6.view.loc (c : Thread nD τ) ↦[arg6.view.set]{fullShare} f) ∗ ⌜f = arg6.view.writes (Elt F) G_arg6 (pb_k0_t2 (F := F) 𝒱 c bd i arg1 harg1 arg2 harg2 arg3 harg3 arg4 harg4 arg5 harg5 arg6 harg6 arg7 harg7 arg8 harg8 arg0 X_arg1 X_arg2 X_arg8 k).2.2.2⌝))

set_option warn.classDefReducibility false in
/-- THE LOOP BY ITS INVARIANT (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (G_arg3 : BufTy.Contents (Elt F) arg3.view.ty) (G_arg4 : BufTy.Contents (Elt F) arg4.view.ty) (G_arg5 : BufTy.Contents (Elt F) arg5.view.ty) (G_arg6 : BufTy.Contents (Elt F) arg6.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg0 where
  inv := inv_k0_t2 (F := F) 𝒱 c bd i arg1 harg1 arg2 harg2 arg3 harg3 arg4 harg4 arg5 harg5 arg6 harg6 arg7 harg7 arg8 harg8 arg0 X_arg1 X_arg2 X_arg8 G_arg3 G_arg4 G_arg5 G_arg6
  step k acc := by
    iintro ⟨HR_arg1, HR_arg2, HR_arg8, ⟨%f_arg3, HW_arg3, %h_arg3⟩, ⟨%f_arg4, HW_arg4, %h_arg4⟩, ⟨%f_arg5, HW_arg5, %h_arg5⟩, ⟨%f_arg6, HW_arg6, %h_arg6⟩⟩
    iapply (wp_wand_r Idealize.ShloMosaic.frame (wpE (defs₀ (F := F)) 𝒱 (c : Thread nD τ) bd) E)
    isplitl [HR_arg1 HR_arg2 HR_arg8 HW_arg3 HW_arg4 HW_arg5 HW_arg6]
    · iapply ((trip_k0_t2 (F := F) 𝒱 c bd i arg1 harg1 arg2 harg2 arg3 harg3 arg4 harg4 arg5 harg5 arg6 harg6 arg7 harg7 arg8 harg8 arg0 X_arg1 X_arg2 X_arg8 k).2.2.2.2 E f_arg3 f_arg4 f_arg5 f_arg6)
      isplitl [HR_arg1]; · iexact HR_arg1
      isplitl [HR_arg2]; · iexact HR_arg2
      isplitl [HR_arg8]; · iexact HR_arg8
      isplitl [HW_arg3]; · iexact HW_arg3
      isplitl [HW_arg4]; · iexact HW_arg4
      isplitl [HW_arg5]; · iexact HW_arg5
      iexact HW_arg6
    · iintro %_ ⟨HR_arg1, HR_arg2, HR_arg8, HW_arg3, HW_arg4, HW_arg5, HW_arg6⟩
      isplitl [HR_arg1]; · iexact HR_arg1
      isplitl [HR_arg2]; · iexact HR_arg2
      isplitl [HR_arg8]; · iexact HR_arg8
      rw [pb_k0_t2_succ]
      isplitl [HW_arg3]
      · iexists _; isplitl [HW_arg3]; · iexact HW_arg3
        ipureintro; rw [h_arg3, ← View.writes_append]
      isplitl [HW_arg4]
      · iexists _; isplitl [HW_arg4]; · iexact HW_arg4
        ipureintro; rw [h_arg4, ← View.writes_append]
      isplitl [HW_arg5]
      · iexists _; isplitl [HW_arg5]; · iexact HW_arg5
        ipureintro; rw [h_arg5, ← View.writes_append]
      iexists _; isplitl [HW_arg6]; · iexact HW_arg6
      ipureintro; rw [h_arg6, ← View.writes_append]

end Cert.Proof.Kernel

end
-- ==== Proof.KernelFrame.lean ====
/- The frame of the kernel: the body runs from any contents of its output blocks, leaves its input blocks as they
   were, and so the whole launch ends with the argument arrays unchanged and every semaphore at zero. Nothing is said
   here of what the outputs hold. -/
module

public import proofs.«01_k».proof.Proof.Gen.Kernel.Frame
public import proofs.«01_k».proof.Proof.KernelLoop
public import Idealize.ShloMosaic.Lib.Claim

@[expose] public section

-- membership in a rectangle of production extents (`View.cover_of_tiled`): the elaborator's structural look
-- recurses once per coordinate of the long axes
set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S128x28672 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x28672 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x28672 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S28672x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x224x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple: on whole staging memrefs — the inputs' at their contents,
    the FORGOTTEN outputs' (2, 3, 4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole)
    (x0 : Vec F S128x28672 .bf16) (x1 : Vec F S1x28672 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

/-! ## The pipeline's proof data -/

/-- The output windows this certificate FORGETS (2, 3, 4, 5, 6): nothing reads what the kernel leaves in them, so nothing
    of it is named (Lib/Pipeline/Dat.lean `Dat.toRForget`). -/
def forgets0 : Fin 7 → Bool := fun w => w.val == 2 || w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.Kernel

end
-- ==== Proof.KernelIdealLoop.lean ====
/- The second loop of the kernel body (the column groups, four a trip): the place of its store into the block of
   column scales in closed form, and the loop's invariant: after `k` trips each output block holds the pieces the
   trips before `k` wrote, over what it held when the loop was entered. -/
module

public import proofs.«01_k».proof.Proof.Gen.KernelIdeal.Loops

@[expose] public section

-- the recursion over the trips carries every parameter of the region: deeper traversal, more heartbeats
set_option maxRecDepth 8192
set_option maxHeartbeats 4000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The body's `blk % 8`, as the kernel computes it: the remainder, corrected towards the sign of the divisor. -/
def modWord (arg0 : BitVec 32) : BitVec 32 :=
  let c8_i32 : BitVec 32 := 8#32
  let c0_i32_31 : BitVec 32 := 0#32
  let v137 : BitVec 1 := Scalar.cmpi .eq c8_i32 c0_i32_31
  let c1_i32_32 : BitVec 32 := 1#32
  let v138 : BitVec 32 := Scalar.select v137 c1_i32_32 c8_i32
  let v139 : BitVec 32 := Scalar.remsi arg0 v138
  let c0_i32_34 : BitVec 32 := 0#32
  let v141 : BitVec 1 := Scalar.cmpi .slt v139 c0_i32_34
  let c0_i32_35 : BitVec 32 := 0#32
  let v142 : BitVec 1 := Scalar.cmpi .slt v138 c0_i32_35
  let v143 : BitVec 1 := Scalar.xori v141 v142
  let c0_i32_33 : BitVec 32 := 0#32
  let v140 : BitVec 1 := Scalar.cmpi .ne v139 c0_i32_33
  let v144 : BitVec 1 := Scalar.andi v143 v140
  let v145 : BitVec 32 := Scalar.addi v139 v138
  Scalar.select v144 v145 v139

/-- At a grid point it is the remainder by 8. -/
theorem modWord_eq : ∀ n : Fin 56, modWord (BitVec.ofNat 32 n.val) = BitVec.ofNat 32 (n.val % 8) := by decide +kernel

/-- The place of the store into the block of column scales: group `4 k + r`, sublane `i % 8`. -/
theorem off11_eq (i : grid0.Coords) (k0_t2 : Fin k0_t2_loop.trips) (r : Fin 4) :
    k0_off11 i k0_t2 (BitVec.ofNat 32 r.val) = ![0, 4 * k0_t2.val + r.val, ((i 0).val % 8), 0] := by
  have r_r : r.val < 4 := r.isLt
  have h_c0_i32_10 : Affine.IsInt (BitVec.ofNat 32 r.val) ((r.val : Int)) := Affine.ofNat _ (by omega)
  have h_c0_i32_7 : Affine.IsInt 0#32 (0) := Affine.ofNat _ (by omega)
  have h_c1_i32_8 : Affine.IsInt 1#32 (1) := Affine.ofNat _ (by omega)
  have r_k0_t2 : k0_t2.val < 56 := Nat.lt_of_lt_of_le k0_t2.isLt k0_t2_abs.2.1
  have h_arg9 : Affine.IsInt _ ((k0_t2.val : Int)) := Affine.iv h_c0_i32_7 h_c1_i32_8 k0_t2.val (by omega)
  have h_c4_i32 : Affine.IsInt 4#32 (4) := Affine.ofNat _ (by omega)
  have h_v18 : Affine.IsInt _ (4 * (k0_t2.val : Int)) := Affine.muli h_arg9 h_c4_i32 (by omega)
  have h_v19 : Affine.IsInt _ (4 * (k0_t2.val : Int) + (r.val : Int)) := Affine.addi h_v18 h_c0_i32_10 (by omega)
  have h_v147 : Affine.IsInt _ (4 * (k0_t2.val : Int) + (r.val : Int)) := Affine.indexCast h_v19
  have r_i0 : (i 0).val < 56 := (i 0).isLt
  have hm : Affine.IsInt (modWord (BitVec.ofNat 32 (i 0).val)) ((((i 0).val % 8 : ℕ) : Int)) := by
    rw [show modWord (BitVec.ofNat 32 (i 0).val) = BitVec.ofNat 32 ((i 0).val % 8) from modWord_eq ⟨(i 0).val, r_i0⟩]; exact Affine.ofNat _ (by omega)
  have h_v148 : Affine.IsInt _ ((((i 0).val % 8 : ℕ) : Int)) := Affine.indexCast hm
  exact Affine.vec_cons (Affine.ofNat 0 (by omega) : Affine.IsInt 0#32 0) (by omega) <| Affine.vec_cons h_v147 (by omega) <| Affine.vec_cons h_v148 (by omega) <| Affine.vec_cons (Affine.ofNat 0 (by omega) : Affine.IsInt 0#32 0) (by omega) <| Affine.vec_nil

instance closedOff_off11_0 (i : grid0.Coords) (k0_t2 : Fin k0_t2_loop.trips) : ClosedOff (k0_off11 i k0_t2 (BitVec.ofNat 32 0)) := ⟨![0, 4 * k0_t2.val + 0, ((i 0).val % 8), 0], off11_eq i k0_t2 ⟨0, by decide⟩⟩
instance closedOff_off11_1 (i : grid0.Coords) (k0_t2 : Fin k0_t2_loop.trips) : ClosedOff (k0_off11 i k0_t2 (BitVec.ofNat 32 1)) := ⟨![0, 4 * k0_t2.val + 1, ((i 0).val % 8), 0], off11_eq i k0_t2 ⟨1, by decide⟩⟩
instance closedOff_off11_2 (i : grid0.Coords) (k0_t2 : Fin k0_t2_loop.trips) : ClosedOff (k0_off11 i k0_t2 (BitVec.ofNat 32 2)) := ⟨![0, 4 * k0_t2.val + 2, ((i 0).val % 8), 0], off11_eq i k0_t2 ⟨2, by decide⟩⟩
instance closedOff_off11_3 (i : grid0.Coords) (k0_t2 : Fin k0_t2_loop.trips) : ClosedOff (k0_off11 i k0_t2 (BitVec.ofNat 32 3)) := ⟨![0, 4 * k0_t2.val + 3, ((i 0).val % 8), 0], off11_eq i k0_t2 ⟨3, by decide⟩⟩

/-! ### The loop over the column groups: one trip, the pieces of the trips so far, the invariant -/

/-- One trip's resources: what the region reads (arg1, arg2, arg8) at its contents, what it writes
   (arg3, arg4, arg5, arg6) at any. -/
abbrev Trip_k0_t2 (c : Dev nD) (arg1 : Memref sig .tc .vmem S128x28672 .bf16) (arg2 : Memref sig .tc .vmem S1x28672 .f32) (arg8 : Memref sig .tc .vmem S128x128 .f32) (arg3 : Memref sig .tc .vmem S128x28672 .fp8e4m3) (arg4 : Memref sig .tc .vmem S224x128 .f32) (arg5 : Memref sig .tc .vmem S28672x128 .fp8e4m3) (arg6 : Memref sig .tc .vmem S1x224x8x128 .f32) (X_arg1 : BufTy.Contents (Elt F) arg1.view.ty) (X_arg2 : BufTy.Contents (Elt F) arg2.view.ty) (X_arg8 : BufTy.Contents (Elt F) arg8.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) : sProp 𝕄G :=
  iprop((arg1.view.loc (c : Thread nD τ) ↦[arg1.view.set]{fullShare} X_arg1) ∗ (arg2.view.loc (c : Thread nD τ) ↦[arg2.view.set]{fullShare} X_arg2) ∗ (arg8.view.loc (c : Thread nD τ) ↦[arg8.view.set]{fullShare} X_arg8) ∗ (arg3.view.loc (c : Thread nD τ) ↦[arg3.view.set]{fullShare} f_arg3) ∗ (arg4.view.loc (c : Thread nD τ) ↦[arg4.view.set]{fullShare} f_arg4) ∗ (arg5.view.loc (c : Thread nD τ) ↦[arg5.view.set]{fullShare} f_arg5) ∗ (arg6.view.loc (c : Thread nD τ) ↦[arg6.view.set]{fullShare} f_arg6))

/-- ONE TRIP of `k0_t2_loop` at a symbolic `k`, run by `sl_exec` (its rectangles where the program's
   in-range evidence puts them, their places unread): the pieces it writes into arg3, arg4, arg5,
   arg6 are the run's own finds — the witnesses `sl_close` assigns handing the buffers to the
   continuation. `@[irreducible]`: cited, never unfolded. -/
@[irreducible] def trip_k0_t2 (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (k : Fin k0_t2_loop.trips) :
    Σ' (L_arg3 : List (View.Piece (Elt F) S128x28672 .fp8e4m3)) (L_arg4 : List (View.Piece (Elt F) S224x128 .f32)) (L_arg5 : List (View.Piece (Elt F) S28672x128 .fp8e4m3)) , { L_arg6 : List (View.Piece (Elt F) S1x224x8x128 .f32) // ∀ (E : Set ℕ) (f_arg3 : BufTy.Contents (Elt F) arg3.view.ty) (f_arg4 : BufTy.Contents (Elt F) arg4.view.ty) (f_arg5 : BufTy.Contents (Elt F) arg5.view.ty) (f_arg6 : BufTy.Contents (Elt F) arg6.view.ty),
      Trip_k0_t2 (F := F) c arg1 arg2 arg8 arg3 arg4 arg5 arg6 X_arg1 X_arg2 X_arg8 f_arg3 f_arg4 f_arg5 f_arg6
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg0 k PUnit.unit)
          (fun _ => Trip_k0_t2 (F := F) c arg1 arg2 arg8 arg3 arg4 arg5 arg6 X_arg1 X_arg2 X_arg8 (arg3.view.writes (Elt F) f_arg3 L_arg3) (arg4.view.writes (Elt F) f_arg4 L_arg4) (arg5.view.writes (Elt F) f_arg5 L_arg5) (arg6.view.writes (Elt F) f_arg6 L_arg6)) } := by
  have hk : k.val < 56 := Nat.lt_of_lt_of_le k.isLt k0_t2_abs.2.1
  refine ⟨?_, ?_, ?_, ?_, fun E f_arg3 f_arg4 f_arg5 f_arg6 => ?run⟩
  case run =>
    unfold k0_t2_body
    iintro ⟨HR_arg1, HR_arg2, HR_arg8, HW_arg3, HW_arg4, HW_arg5, HW_arg6⟩
    sl_exec
    sl_step
    sl_close

/-- The trip's piece lists (plain projections of `trip_…`, for the recursion below to cite without
   its proof). -/
abbrev tripL_k0_t2 (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (k : Fin k0_t2_loop.trips) : List (View.Piece (Elt F) S128x28672 .fp8e4m3) × List (View.Piece (Elt F) S224x128 .f32) × List (View.Piece (Elt F) S28672x128 .fp8e4m3) × List (View.Piece (Elt F) S1x224x8x128 .f32) :=
  ((trip_k0_t2 (F := F) 𝒱 c bd i arg1 harg1 arg2 harg2 arg3 harg3 arg4 harg4 arg5 harg5 arg6 harg6 arg7 harg7 arg8 harg8 arg0 X_arg1 X_arg2 X_arg8 k).1, (trip_k0_t2 (F := F) 𝒱 c bd i arg1 harg1 arg2 harg2 arg3 harg3 arg4 harg4 arg5 harg5 arg6 harg6 arg7 harg7 arg8 harg8 arg0 X_arg1 X_arg2 X_arg8 k).2.1, (trip_k0_t2 (F := F) 𝒱 c bd i arg1 harg1 arg2 harg2 arg3 harg3 arg4 harg4 arg5 harg5 arg6 harg6 arg7 harg7 arg8 harg8 arg0 X_arg1 X_arg2 X_arg8 k).2.2.1, (trip_k0_t2 (F := F) 𝒱 c bd i arg1 harg1 arg2 harg2 arg3 harg3 arg4 harg4 arg5 harg5 arg6 harg6 arg7 harg7 arg8 harg8 arg0 X_arg1 X_arg2 X_arg8 k).2.2.2.1)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (k : ℕ) (prev : List (View.Piece (Elt F) S128x28672 .fp8e4m3) × List (View.Piece (Elt F) S224x128 .f32) × List (View.Piece (Elt F) S28672x128 .fp8e4m3) × List (View.Piece (Elt F) S1x224x8x128 .f32)) : List (View.Piece (Elt F) S128x28672 .fp8e4m3) × List (View.Piece (Elt F) S224x128 .f32) × List (View.Piece (Elt F) S28672x128 .fp8e4m3) × List (View.Piece (Elt F) S1x224x8x128 .f32) :=
  if h : k < k0_t2_loop.trips then
    ((tripL_k0_t2 (F := F) 𝒱 c bd i arg1 harg1 arg2 harg2 arg3 harg3 arg4 harg4 arg5 harg5 arg6 harg6 arg7 harg7 arg8 harg8 arg0 X_arg1 X_arg2 X_arg8 ⟨k, h⟩).1 ++ prev.1, (tripL_k0_t2 (F := F) 𝒱 c bd i arg1 harg1 arg2 harg2 arg3 harg3 arg4 harg4 arg5 harg5 arg6 harg6 arg7 harg7 arg8 harg8 arg0 X_arg1 X_arg2 X_arg8 ⟨k, h⟩).2.1 ++ prev.2.1, (tripL_k0_t2 (F := F) 𝒱 c bd i arg1 harg1 arg2 harg2 arg3 harg3 arg4 harg4 arg5 harg5 arg6 harg6 arg7 harg7 arg8 harg8 arg0 X_arg1 X_arg2 X_arg8 ⟨k, h⟩).2.2.1 ++ prev.2.2.1, (tripL_k0_t2 (F := F) 𝒱 c bd i arg1 harg1 arg2 harg2 arg3 harg3 arg4 harg4 arg5 harg5 arg6 harg6 arg7 harg7 arg8 harg8 arg0 X_arg1 X_arg2 X_arg8 ⟨k, h⟩).2.2.2 ++ prev.2.2.2)
  else prev

/-- The pieces of the trips before `k` (last first), per written memref. -/
def pb_k0_t2 (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) : ℕ → List (View.Piece (Elt F) S128x28672 .fp8e4m3) × List (View.Piece (Elt F) S224x128 .f32) × List (View.Piece (Elt F) S28672x128 .fp8e4m3) × List (View.Piece (Elt F) S1x224x8x128 .f32)
  | 0 => ([], [], [], [])
  | k + 1 => pb_k0_t2Step 𝒱 c bd i arg1 harg1 arg2 harg2 arg3 harg3 arg4 harg4 arg5 harg5 arg6 harg6 arg7 harg7 arg8 harg8 arg0 X_arg1 X_arg2 X_arg8 k (pb_k0_t2 𝒱 c bd i arg1 harg1 arg2 harg2 arg3 harg3 arg4 harg4 arg5 harg5 arg6 harg6 arg7 harg7 arg8 harg8 arg0 X_arg1 X_arg2 X_arg8 k)

theorem pb_k0_t2_succ (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (k : Fin k0_t2_loop.trips) :
    pb_k0_t2 (F := F) 𝒱 c bd i arg1 harg1 arg2 harg2 arg3 harg3 arg4 harg4 arg5 harg5 arg6 harg6 arg7 harg7 arg8 harg8 arg0 X_arg1 X_arg2 X_arg8 (k.val + 1)
      = ((tripL_k0_t2 (F := F) 𝒱 c bd i arg1 harg1 arg2 harg2 arg3 harg3 arg4 harg4 arg5 harg5 arg6 harg6 arg7 harg7 arg8 harg8 arg0 X_arg1 X_arg2 X_arg8 k).1 ++ (pb_k0_t2 (F := F) 𝒱 c bd i arg1 harg1 arg2 harg2 arg3 harg3 arg4 harg4 arg5 harg5 arg6 harg6 arg7 harg7 arg8 harg8 arg0 X_arg1 X_arg2 X_arg8 k.val).1, (tripL_k0_t2 (F := F) 𝒱 c bd i arg1 harg1 arg2 harg2 arg3 harg3 arg4 harg4 arg5 harg5 arg6 harg6 arg7 harg7 arg8 harg8 arg0 X_arg1 X_arg2 X_arg8 k).2.1 ++ (pb_k0_t2 (F := F) 𝒱 c bd i arg1 harg1 arg2 harg2 arg3 harg3 arg4 harg4 arg5 harg5 arg6 harg6 arg7 harg7 arg8 harg8 arg0 X_arg1 X_arg2 X_arg8 k.val).2.1, (tripL_k0_t2 (F := F) 𝒱 c bd i arg1 harg1 arg2 harg2 arg3 harg3 arg4 harg4 arg5 harg5 arg6 harg6 arg7 harg7 arg8 harg8 arg0 X_arg1 X_arg2 X_arg8 k).2.2.1 ++ (pb_k0_t2 (F := F) 𝒱 c bd i arg1 harg1 arg2 harg2 arg3 harg3 arg4 harg4 arg5 harg5 arg6 harg6 arg7 harg7 arg8 harg8 arg0 X_arg1 X_arg2 X_arg8 k.val).2.2.1, (tripL_k0_t2 (F := F) 𝒱 c bd i arg1 harg1 arg2 harg2 arg3 harg3 arg4 harg4 arg5 harg5 arg6 harg6 arg7 harg7 arg8 harg8 arg0 X_arg1 X_arg2 X_arg8 k).2.2.2 ++ (pb_k0_t2 (F := F) 𝒱 c bd i arg1 harg1 arg2 harg2 arg3 harg3 arg4 harg4 arg5 harg5 arg6 harg6 arg7 harg7 arg8 harg8 arg0 X_arg1 X_arg2 X_arg8 k.val).2.2.2) := by
  rw [pb_k0_t2.eq_2]; unfold pb_k0_t2Step; exact dif_pos k.isLt

/-- THE INVARIANT before trip `k`: arg1, arg2, arg8 read at `X_·`; arg3, arg4, arg5, arg6 holding
   the pieces of the trips before `k` written over the contents at loop entry `G_·` (stated `∃ f, …
   ∗ ⌜f = …⌝`, so that a hypothesis of any contents matches and the equation is what is proved). -/
abbrev inv_k0_t2 (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (G_arg3 : BufTy.Contents (Elt F) arg3.view.ty) (G_arg4 : BufTy.Contents (Elt F) arg4.view.ty) (G_arg5 : BufTy.Contents (Elt F) arg5.view.ty) (G_arg6 : BufTy.Contents (Elt F) arg6.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (arg8.view.loc (c : Thread nD τ) ↦[arg8.view.set]{fullShare} X_arg8) ∗ (∃ f, (arg3.view.loc (c : Thread nD τ) ↦[arg3.view.set]{fullShare} f) ∗ ⌜f = arg3.view.writes (Elt F) G_arg3 (pb_k0_t2 (F := F) 𝒱 c bd i arg1 harg1 arg2 harg2 arg3 harg3 arg4 harg4 arg5 harg5 arg6 harg6 arg7 harg7 arg8 harg8 arg0 X_arg1 X_arg2 X_arg8 k).1⌝) ∗ (∃ f, (arg4.view.loc (c : Thread nD τ) ↦[arg4.view.set]{fullShare} f) ∗ ⌜f = arg4.view.writes (Elt F) G_arg4 (pb_k0_t2 (F := F) 𝒱 c bd i arg1 harg1 arg2 harg2 arg3 harg3 arg4 harg4 arg5 harg5 arg6 harg6 arg7 harg7 arg8 harg8 arg0 X_arg1 X_arg2 X_arg8 k).2.1⌝) ∗ (∃ f, (arg5.view.loc (c : Thread nD τ) ↦[arg5.view.set]{fullShare} f) ∗ ⌜f = arg5.view.writes (Elt F) G_arg5 (pb_k0_t2 (F := F) 𝒱 c bd i arg1 harg1 arg2 harg2 arg3 harg3 arg4 harg4 arg5 harg5 arg6 harg6 arg7 harg7 arg8 harg8 arg0 X_arg1 X_arg2 X_arg8 k).2.2.1⌝) ∗ (∃ f, (arg6.view.loc (c : Thread nD τ) ↦[arg6.view.set]{fullShare} f) ∗ ⌜f = arg6.view.writes (Elt F) G_arg6 (pb_k0_t2 (F := F) 𝒱 c bd i arg1 harg1 arg2 harg2 arg3 harg3 arg4 harg4 arg5 harg5 arg6 harg6 arg7 harg7 arg8 harg8 arg0 X_arg1 X_arg2 X_arg8 k).2.2.2⌝))

set_option warn.classDefReducibility false in
/-- THE LOOP BY ITS INVARIANT (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (G_arg3 : BufTy.Contents (Elt F) arg3.view.ty) (G_arg4 : BufTy.Contents (Elt F) arg4.view.ty) (G_arg5 : BufTy.Contents (Elt F) arg5.view.ty) (G_arg6 : BufTy.Contents (Elt F) arg6.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg0 where
  inv := inv_k0_t2 (F := F) 𝒱 c bd i arg1 harg1 arg2 harg2 arg3 harg3 arg4 harg4 arg5 harg5 arg6 harg6 arg7 harg7 arg8 harg8 arg0 X_arg1 X_arg2 X_arg8 G_arg3 G_arg4 G_arg5 G_arg6
  step k acc := by
    iintro ⟨HR_arg1, HR_arg2, HR_arg8, ⟨%f_arg3, HW_arg3, %h_arg3⟩, ⟨%f_arg4, HW_arg4, %h_arg4⟩, ⟨%f_arg5, HW_arg5, %h_arg5⟩, ⟨%f_arg6, HW_arg6, %h_arg6⟩⟩
    iapply (wp_wand_r Idealize.ShloMosaic.frame (wpE (defs₀ (F := F)) 𝒱 (c : Thread nD τ) bd) E)
    isplitl [HR_arg1 HR_arg2 HR_arg8 HW_arg3 HW_arg4 HW_arg5 HW_arg6]
    · iapply ((trip_k0_t2 (F := F) 𝒱 c bd i arg1 harg1 arg2 harg2 arg3 harg3 arg4 harg4 arg5 harg5 arg6 harg6 arg7 harg7 arg8 harg8 arg0 X_arg1 X_arg2 X_arg8 k).2.2.2.2 E f_arg3 f_arg4 f_arg5 f_arg6)
      isplitl [HR_arg1]; · iexact HR_arg1
      isplitl [HR_arg2]; · iexact HR_arg2
      isplitl [HR_arg8]; · iexact HR_arg8
      isplitl [HW_arg3]; · iexact HW_arg3
      isplitl [HW_arg4]; · iexact HW_arg4
      isplitl [HW_arg5]; · iexact HW_arg5
      iexact HW_arg6
    · iintro %_ ⟨HR_arg1, HR_arg2, HR_arg8, HW_arg3, HW_arg4, HW_arg5, HW_arg6⟩
      isplitl [HR_arg1]; · iexact HR_arg1
      isplitl [HR_arg2]; · iexact HR_arg2
      isplitl [HR_arg8]; · iexact HR_arg8
      rw [pb_k0_t2_succ]
      isplitl [HW_arg3]
      · iexists _; isplitl [HW_arg3]; · iexact HW_arg3
        ipureintro; rw [h_arg3, ← View.writes_append]
      isplitl [HW_arg4]
      · iexists _; isplitl [HW_arg4]; · iexact HW_arg4
        ipureintro; rw [h_arg4, ← View.writes_append]
      isplitl [HW_arg5]
      · iexists _; isplitl [HW_arg5]; · iexact HW_arg5
        ipureintro; rw [h_arg5, ← View.writes_append]
      iexists _; isplitl [HW_arg6]; · iexact HW_arg6
      ipureintro; rw [h_arg6, ← View.writes_append]

end Cert.Proof.KernelIdeal

end
-- ==== Proof.KernelIdealFrame.lean ====
/- The frame of the kernel: the body runs from any contents of its output blocks, leaves its input blocks as they
   were, and so the whole launch ends with the argument arrays unchanged and every semaphore at zero. Nothing is said
   here of what the outputs hold. -/
module

public import proofs.«01_k».proof.Proof.Gen.KernelIdeal.Frame
public import proofs.«01_k».proof.Proof.KernelIdealLoop
public import Idealize.ShloMosaic.Lib.Claim

@[expose] public section

-- membership in a rectangle of production extents (`View.cover_of_tiled`): the elaborator's structural look
-- recurses once per coordinate of the long axes
set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S128x28672 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x28672 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x28672 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S28672x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x224x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple: on whole staging memrefs — the inputs' at their contents,
    the FORGOTTEN outputs' (2, 3, 4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole)
    (x0 : Vec F S128x28672 .bf16) (x1 : Vec F S1x28672 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact HS0
    ipureintro; rfl

/-! ## The pipeline's proof data -/

/-- The output windows this certificate FORGETS (2, 3, 4, 5, 6): nothing reads what the kernel leaves in them, so nothing
    of it is named (Lib/Pipeline/Dat.lean `Dat.toRForget`). -/
def forgets0 : Fin 7 → Bool := fun w => w.val == 2 || w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.KernelIdeal

end
-- ==== Proof.KernelIdealGroup.lean ====
/- What the body computes for one group of 128 columns, as a function of the group's block of `x`, the rows' `rsigma`
   and the group's `gamma`; and one trip of the loop over the groups, stated by it: the pieces a trip writes are the
   codes and scales of its four groups, each at its place. -/
module

public import proofs.«01_k».proof.Proof.KernelIdealLoop

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F] [Named F]

/-- The normalised block: `x * rsigma * gamma`. -/
def yBlk (x : Vec F S128x128 .bf16) (s : Vec F S128x128 .f32) (g : Vec F S1x128 .f32) : FVec F S128x128 .f32 :=
  mulf (mulf (extf .f32 (shapeCast S128x128 x shapeCasts_S128x128_S128x128) bitsLt_bf16_f32) s)
    (broadcastTo S128x128 (shapeCast S1x128 g shapeCasts_S1x128_S1x128) broadcasts_S1x128_S128x128)

/-- `y` cut to its upper 16 bits. -/
def cut16 (y : FVec F S128x128 .f32) : FVec F S128x128 .f32 := extf .f32 (truncf .bf16 y (by decide)) (by decide)

/-- `y * 1.0078125` cut to its upper 16 bits: the next cut value away from zero. -/
def next16 (y : FVec F S128x128 .f32) : FVec F S128x128 .f32 :=
  cut16 (mulf y (broadcast S128x128 (Scalar.ofBits .f32 0x3F810000#32)))

/-- The midpoint of `t` and `w`. -/
def mid16 (t w : FVec F S128x128 .f32) : FVec F S128x128 .f32 :=
  select (cmpf .olt (absf t) (broadcast S128x128 (Scalar.ofBits .f32 0x3F800000#32)))
    (mulf (addf t w) (broadcast S128x128 (Scalar.ofBits .f32 0x3F000000#32)))
    (addf (mulf t (broadcast S128x128 (Scalar.ofBits .f32 0x3F000000#32)))
      (mulf w (broadcast S128x128 (Scalar.ofBits .f32 0x3F000000#32))))

/-- `y` rounded to odd in bfloat16. -/
def toOdd (y : FVec F S128x128 .f32) : FVec F S128x128 .bf16 :=
  truncf .bf16
    (select (cmpf .oeq y (cut16 y)) (cut16 y)
      (select (cmpf .oeq (absf y) (broadcast S128x128 (Scalar.ofBits .f32 0x7F7FFFFF#32)))
        (broadcast S128x128 (Scalar.ofBits .f32 0x7FC00000#32))
        (select (cmpf .oeq (extf .f32 (truncf .bf16 (mid16 (cut16 y) (next16 (cut16 y))) bitsLt_bf16_f32) bitsLt_bf16_f32) (cut16 y))
          (next16 (cut16 y))
          (select (cmpf .oeq y (mulf (next16 (cut16 y)) (broadcast S128x128 (Scalar.ofBits .f32 0x3F7FFFFF#32))))
            (next16 (next16 (cut16 y))) (cut16 y)))))
    bitsLt_bf16_f32

/-- The largest absolute value of each column, times the rounded 1/448. -/
def amax (v : FVec F S128x128 .bf16) : FVec F S1x128 .f32 :=
  mulf (extf .f32 (shapeCast S1x128 (multiReduction .maximumf [0] S128 (absf v) 0xFF80#16 reduces_S128x128_S128 (.inr rfl) rfl) shapeCasts_S128_S1x128) bitsLt_bf16_f32)
    (broadcast S1x128 (Scalar.ofBits .f32 0x3B124925#32))

/-- One step of the search for the exponent: the bit `w` is set where `p` is at least the float of the word with it. -/
def ebStep (p : FVec F S1x128 .f32) (e : IVec S1x128 32) (w : BitVec 32) : IVec S1x128 32 :=
  select (cmpf .oge p (bitcastToFloat .f32 (addi e (broadcast S1x128 w)))) (addi e (broadcast S1x128 w)) e

/-- The exponent bits of `p`, by the eight steps. -/
def ebSearch (p : FVec F S1x128 .f32) : IVec S1x128 32 :=
  ebStep p (ebStep p (ebStep p (ebStep p (ebStep p (ebStep p (ebStep p (ebStep p (broadcast S1x128 0#32)
    1073741824#32) 536870912#32) 268435456#32) 134217728#32) 67108864#32) 33554432#32) 16777216#32) 8388608#32

/-- The exponent bits used: those of 1/2 where `p` is below the normal range or not finite. -/
def ebOf (p : FVec F S1x128 .f32) : IVec S1x128 32 :=
  select (ori (cmpi .eq (ebSearch p) (broadcast S1x128 0#32)) (cmpi .eq (ebSearch p) (broadcast S1x128 2139095040#32)))
    (broadcast S1x128 1056964608#32) (ebSearch p)

/-- The columns' scales. -/
def scale (v : FVec F S128x128 .bf16) : FVec F S1x128 .f32 :=
  bitcastToFloat .f32 (addi (ebOf (amax v)) (broadcast S1x128 8388608#32))

/-- The reciprocals of the columns' scales. -/
def invScale (v : FVec F S128x128 .bf16) : FVec F S1x128 .bf16 :=
  truncf .bf16 (bitcastToFloat .f32 (subi (broadcast S1x128 2122317824#32) (ebOf (amax v)))) bitsLt_bf16_f32

/-- The codes, transposed: `v` by its columns' reciprocal scales, clipped to ±448. -/
def codes (v : FVec F S128x128 .bf16) : FVec F S128x128 .fp8e4m3 :=
  truncf .fp8e4m3 (transpose S128x128 [1, 0]
    (minimumf (broadcast S128x128 (Scalar.truncf .bf16 bitsLt_bf16_f32 (Scalar.ofBits .f32 0x43E00000#32)))
      (maximumf (broadcast S128x128 (Scalar.truncf .bf16 bitsLt_bf16_f32 (Scalar.ofBits .f32 0xC3E00000#32)))
        (mulf v (broadcastTo S128x128 (invScale v) broadcasts_S1x128_S128x128))))
    transposes_S128x128_p1_0_S128x128) bitsLt_fp8e4m3_bf16

/-- The transposed block. -/
def tr (v : FVec F S128x128 .bf16) : FVec F S128x128 .bf16 := transpose S128x128 [1, 0] v transposes_S128x128_p1_0_S128x128

/-- Group `4 k + r`'s rounded block, from what the buffers hold. -/
abbrev grp (arg1 : Memref sig .tc .vmem S128x28672 .bf16) (arg2 : Memref sig .tc .vmem S1x28672 .f32) (arg8 : Memref sig .tc .vmem S128x128 .f32)
    (X_arg1 : BufTy.Contents (Elt F) arg1.view.ty) (X_arg2 : BufTy.Contents (Elt F) arg2.view.ty) (X_arg8 : BufTy.Contents (Elt F) arg8.view.ty)
    (k : Fin k0_t2_loop.trips) (r : Fin 4) : FVec F S128x128 .bf16 :=
  toOdd (yBlk (View.readAt (Elt F) arg1.view (Rect.unit (s := S128x28672) (k0_off9 k (BitVec.ofNat 32 r.val)) S128x128.size (k0_off9_inb k r)).toLoadRect X_arg1)
    (View.readAt (Elt F) arg8.view (Rect.unit (s := S128x128) ![0, 0] S128x128.size inb_S128x128_S128x128_0_0).toLoadRect X_arg8)
    (View.readAt (Elt F) arg2.view (Rect.unit (s := S1x28672) (k0_off10 k (BitVec.ofNat 32 r.val)) S1x128.size (k0_off10_inb k r)).toLoadRect X_arg2))

/-- The piece of row codes of group `4 k + r`. -/
abbrev rcPiece (k : Fin k0_t2_loop.trips) (r : Fin 4) (v : FVec F S128x128 .bf16) : View.Piece (Elt F) S128x28672 .fp8e4m3 :=
  ⟨Rect.unit (s := S128x28672) (k0_off9 k (BitVec.ofNat 32 r.val)) S128x128.size (k0_off9_inb k r), codes (tr v)⟩
/-- The piece of row scales of group `4 k + r`. -/
abbrev rsPiece (k : Fin k0_t2_loop.trips) (r : Fin 4) (v : FVec F S128x128 .bf16) : View.Piece (Elt F) S224x128 .f32 :=
  ⟨Rect.unit (s := S224x128) (k0_off13 k (BitVec.ofNat 32 r.val)) S1x128.size (k0_off13_inb k r), scale (tr v)⟩
/-- The piece of column codes of group `4 k + r`. -/
abbrev ccPiece (k : Fin k0_t2_loop.trips) (r : Fin 4) (v : FVec F S128x128 .bf16) : View.Piece (Elt F) S28672x128 .fp8e4m3 :=
  ⟨Rect.unit (s := S28672x128) (k0_off12 k (BitVec.ofNat 32 r.val)) S128x128.size (k0_off12_inb k r), codes v⟩
/-- The piece of column scales of group `4 k + r`. -/
abbrev csPiece (i : grid0.Coords) (k : Fin k0_t2_loop.trips) (r : Fin 4) (v : FVec F S128x128 .bf16) : View.Piece (Elt F) S1x224x8x128 .f32 :=
  ⟨Rect.unit (s := S1x224x8x128) (k0_off11 i k (BitVec.ofNat 32 r.val)) S1x1x1x128.size (k0_off11_inb i k r),
    shapeCast S1x1x1x128 (scale v) shapeCasts_S1x128_S1x1x1x128⟩

/-- What one trip writes: its four groups' pieces, the last group's first. -/
theorem tripL_eq (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (k : Fin k0_t2_loop.trips) :
   tripL_k0_t2 (F := F) 𝒱 c bd i arg1 harg1 arg2 harg2 arg3 harg3 arg4 harg4 arg5 harg5 arg6 harg6 arg7 harg7 arg8 harg8 arg0 X_arg1 X_arg2 X_arg8 k =
    ([rcPiece k 3 (grp arg1 arg2 arg8 X_arg1 X_arg2 X_arg8 k 3), rcPiece k 2 (grp arg1 arg2 arg8 X_arg1 X_arg2 X_arg8 k 2),
      rcPiece k 1 (grp arg1 arg2 arg8 X_arg1 X_arg2 X_arg8 k 1), rcPiece k 0 (grp arg1 arg2 arg8 X_arg1 X_arg2 X_arg8 k 0)],
     [rsPiece k 3 (grp arg1 arg2 arg8 X_arg1 X_arg2 X_arg8 k 3), rsPiece k 2 (grp arg1 arg2 arg8 X_arg1 X_arg2 X_arg8 k 2),
      rsPiece k 1 (grp arg1 arg2 arg8 X_arg1 X_arg2 X_arg8 k 1), rsPiece k 0 (grp arg1 arg2 arg8 X_arg1 X_arg2 X_arg8 k 0)],
     [ccPiece k 3 (grp arg1 arg2 arg8 X_arg1 X_arg2 X_arg8 k 3), ccPiece k 2 (grp arg1 arg2 arg8 X_arg1 X_arg2 X_arg8 k 2),
      ccPiece k 1 (grp arg1 arg2 arg8 X_arg1 X_arg2 X_arg8 k 1), ccPiece k 0 (grp arg1 arg2 arg8 X_arg1 X_arg2 X_arg8 k 0)],
     [csPiece i k 3 (grp arg1 arg2 arg8 X_arg1 X_arg2 X_arg8 k 3), csPiece i k 2 (grp arg1 arg2 arg8 X_arg1 X_arg2 X_arg8 k 2),
      csPiece i k 1 (grp arg1 arg2 arg8 X_arg1 X_arg2 X_arg8 k 1), csPiece i k 0 (grp arg1 arg2 arg8 X_arg1 X_arg2 X_arg8 k 0)]) := by
  unfold tripL_k0_t2 trip_k0_t2
  dsimp only
  rfl

end Cert.Proof.KernelIdeal

end
-- ==== Proof.KernelIdealContents.lean ====
/- What the four blocks written by the loop over the groups hold after it: at each place the codes or the scale of the
   place's group. Every trip writes its own four groups, so after all the trips every place of three of the blocks is
   written; of the block of column scales one sublane is written and the other seven keep what they held. -/
module

public import proofs.«01_k».proof.Proof.KernelIdealGroup
public import Idealize.ShloMosaic.Lib.Pointwise
public import Idealize.ShloMosaic.Lib.Writes

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F] [Named F]

/-- The loop makes 56 trips. -/
theorem trips_t2 : k0_t2_loop.trips = 56 := by decide

/-- A 128 by 128 block of codes placed by its group along the second axis. -/
def wide (v : Fin k0_t2_loop.trips → Fin 4 → FVec F S128x128 .fp8e4m3) : Vec F S128x28672 .fp8e4m3 := fun j =>
  v ⟨(j 1).val / 512, by rw [trips_t2]; have h : (j 1).val < 28672 := (j 1).isLt; omega⟩ ⟨(j 1).val / 128 % 4, by omega⟩
    (ix2 ⟨(j 0).val, (j 0).isLt⟩ ⟨(j 1).val % 128, by omega⟩)

/-- A 128 by 128 block of codes placed by its group along the first axis. -/
def tall (v : Fin k0_t2_loop.trips → Fin 4 → FVec F S128x128 .fp8e4m3) : Vec F S28672x128 .fp8e4m3 := fun j =>
  v ⟨(j 0).val / 512, by rw [trips_t2]; have h : (j 0).val < 28672 := (j 0).isLt; omega⟩ ⟨(j 0).val / 128 % 4, by omega⟩
    (ix2 ⟨(j 0).val % 128, by omega⟩ ⟨(j 1).val, (j 1).isLt⟩)

/-- A row of scales placed by its group. -/
def rows (v : Fin k0_t2_loop.trips → Fin 4 → FVec F S1x128 .f32) : Vec F S224x128 .f32 := fun j =>
  v ⟨(j 0).val / 4, by rw [trips_t2]; have h : (j 0).val < 224 := (j 0).isLt; omega⟩ ⟨(j 0).val % 4, by omega⟩
    (ix2 0 ⟨(j 1).val, (j 1).isLt⟩)

/-- A row of scales placed by its group, whatever the sublane. -/
def lines (v : Fin k0_t2_loop.trips → Fin 4 → FVec F S1x128 .f32) : Vec F S1x224x8x128 .f32 := fun j =>
  v ⟨(j 1).val / 4, by rw [trips_t2]; have h : (j 1).val < 224 := (j 1).isLt; omega⟩ ⟨(j 1).val % 4, by omega⟩
    (ix2 0 ⟨(j 3).val, (j 3).isLt⟩)

theorem wide_at (v : Fin k0_t2_loop.trips → Fin 4 → FVec F S128x128 .fp8e4m3) (j : S128x28672.Idx) (k : Fin k0_t2_loop.trips) (r : Fin 4)
    (y : S128x128.Idx) (h0 : (j 0).val = (y 0).val) (h1 : (j 1).val = 512 * k.val + 128 * r.val + (y 1).val) : wide v j = v k r y := by
  have hy : (y 1).val < 128 := (y 1).isLt
  have e1 : (⟨(j 1).val / 512, by rw [trips_t2]; have h : (j 1).val < 28672 := (j 1).isLt; omega⟩ : Fin k0_t2_loop.trips) = k := Fin.ext (by show (j 1).val / 512 = _; omega)
  have e2 : (⟨(j 1).val / 128 % 4, by omega⟩ : Fin 4) = r := Fin.ext (by show (j 1).val / 128 % 4 = _; omega)
  have e3 : (ix2 ⟨(j 0).val, (j 0).isLt⟩ ⟨(j 1).val % 128, by omega⟩ : S128x128.Idx) = y := by
    funext a; apply Fin.ext; match a with
    | 0 => exact h0
    | 1 => show (j 1).val % 128 = (y 1).val; omega
  unfold wide; rw [e1, e2, e3]

theorem tall_at (v : Fin k0_t2_loop.trips → Fin 4 → FVec F S128x128 .fp8e4m3) (j : S28672x128.Idx) (k : Fin k0_t2_loop.trips) (r : Fin 4)
    (y : S128x128.Idx) (h1 : (j 1).val = (y 1).val) (h0 : (j 0).val = 512 * k.val + 128 * r.val + (y 0).val) : tall v j = v k r y := by
  have hy : (y 0).val < 128 := (y 0).isLt
  have e1 : (⟨(j 0).val / 512, by rw [trips_t2]; have h : (j 0).val < 28672 := (j 0).isLt; omega⟩ : Fin k0_t2_loop.trips) = k := Fin.ext (by show (j 0).val / 512 = _; omega)
  have e2 : (⟨(j 0).val / 128 % 4, by omega⟩ : Fin 4) = r := Fin.ext (by show (j 0).val / 128 % 4 = _; omega)
  have e3 : (ix2 ⟨(j 0).val % 128, by omega⟩ ⟨(j 1).val, (j 1).isLt⟩ : S128x128.Idx) = y := by
    funext a; apply Fin.ext; match a with
    | 0 => show (j 0).val % 128 = (y 0).val; omega
    | 1 => exact h1
  unfold tall; rw [e1, e2, e3]

theorem rows_at (v : Fin k0_t2_loop.trips → Fin 4 → FVec F S1x128 .f32) (j : S224x128.Idx) (k : Fin k0_t2_loop.trips) (r : Fin 4)
    (y : S1x128.Idx) (h1 : (j 1).val = (y 1).val) (h0 : (j 0).val = 4 * k.val + r.val) : rows v j = v k r y := by
  have hy : (y 0).val < 1 := (y 0).isLt
  have e1 : (⟨(j 0).val / 4, by rw [trips_t2]; have h : (j 0).val < 224 := (j 0).isLt; omega⟩ : Fin k0_t2_loop.trips) = k := Fin.ext (by show (j 0).val / 4 = _; omega)
  have e2 : (⟨(j 0).val % 4, by omega⟩ : Fin 4) = r := Fin.ext (by show (j 0).val % 4 = _; omega)
  have e3 : (ix2 0 ⟨(j 1).val, (j 1).isLt⟩ : S1x128.Idx) = y := by
    funext a; apply Fin.ext; match a with
    | 0 => show 0 = (y 0).val; omega
    | 1 => exact h1
  unfold rows; rw [e1, e2, e3]

theorem lines_at (v : Fin k0_t2_loop.trips → Fin 4 → FVec F S1x128 .f32) (j : S1x224x8x128.Idx) (k : Fin k0_t2_loop.trips) (r : Fin 4)
    (y : S1x128.Idx) (h1 : (j 3).val = (y 1).val) (h0 : (j 1).val = 4 * k.val + r.val) : lines v j = v k r y := by
  have hy : (y 0).val < 1 := (y 0).isLt
  have e1 : (⟨(j 1).val / 4, by rw [trips_t2]; have h : (j 1).val < 224 := (j 1).isLt; omega⟩ : Fin k0_t2_loop.trips) = k := Fin.ext (by show (j 1).val / 4 = _; omega)
  have e2 : (⟨(j 1).val % 4, by omega⟩ : Fin 4) = r := Fin.ext (by show (j 1).val % 4 = _; omega)
  have e3 : (ix2 0 ⟨(j 3).val, (j 3).isLt⟩ : S1x128.Idx) = y := by
    funext a; apply Fin.ext; match a with
    | 0 => show 0 = (y 0).val; omega
    | 1 => exact h1
  unfold lines; rw [e1, e2, e3]

/-- A row cast to a line: the line's last coordinate is the row's. -/
theorem line_cast (v : FVec F S1x128 .f32) (x : S1x1x1x128.Idx) :
    shapeCast S1x1x1x128 v shapeCasts_S1x128_S1x1x1x128 x = v (ix2 0 ⟨(x 3).val, (x 3).isLt⟩) := by
  pointwise

/-- The pieces of the trips before `n` are the pieces of their groups. -/
theorem mem_pb (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (n : ℕ) (hn : n ≤ k0_t2_loop.trips) :
    (∀ p, p ∈ (pb_k0_t2 (F := F) 𝒱 c bd i arg1 harg1 arg2 harg2 arg3 harg3 arg4 harg4 arg5 harg5 arg6 harg6 arg7 harg7 arg8 harg8 arg0 X_arg1 X_arg2 X_arg8 n).1 ↔ ∃ (k : Fin k0_t2_loop.trips) (r : Fin 4), k.val < n ∧ p = rcPiece k r (grp arg1 arg2 arg8 X_arg1 X_arg2 X_arg8 k r)) ∧
    (∀ p, p ∈ (pb_k0_t2 (F := F) 𝒱 c bd i arg1 harg1 arg2 harg2 arg3 harg3 arg4 harg4 arg5 harg5 arg6 harg6 arg7 harg7 arg8 harg8 arg0 X_arg1 X_arg2 X_arg8 n).2.1 ↔ ∃ (k : Fin k0_t2_loop.trips) (r : Fin 4), k.val < n ∧ p = rsPiece k r (grp arg1 arg2 arg8 X_arg1 X_arg2 X_arg8 k r)) ∧
    (∀ p, p ∈ (pb_k0_t2 (F := F) 𝒱 c bd i arg1 harg1 arg2 harg2 arg3 harg3 arg4 harg4 arg5 harg5 arg6 harg6 arg7 harg7 arg8 harg8 arg0 X_arg1 X_arg2 X_arg8 n).2.2.1 ↔ ∃ (k : Fin k0_t2_loop.trips) (r : Fin 4), k.val < n ∧ p = ccPiece k r (grp arg1 arg2 arg8 X_arg1 X_arg2 X_arg8 k r)) ∧
    (∀ p, p ∈ (pb_k0_t2 (F := F) 𝒱 c bd i arg1 harg1 arg2 harg2 arg3 harg3 arg4 harg4 arg5 harg5 arg6 harg6 arg7 harg7 arg8 harg8 arg0 X_arg1 X_arg2 X_arg8 n).2.2.2 ↔ ∃ (k : Fin k0_t2_loop.trips) (r : Fin 4), k.val < n ∧ p = csPiece i k r (grp arg1 arg2 arg8 X_arg1 X_arg2 X_arg8 k r)) := by
  induction n with
  | zero => simp [pb_k0_t2]
  | succ n ih =>
    obtain ⟨h1, h2, h3, h4⟩ := ih (Nat.le_of_succ_le hn)
    have e := pb_k0_t2_succ (F := F) 𝒱 c bd i arg1 harg1 arg2 harg2 arg3 harg3 arg4 harg4 arg5 harg5 arg6 harg6 arg7 harg7 arg8 harg8 arg0 X_arg1 X_arg2 X_arg8 ⟨n, hn⟩
    rw [tripL_eq] at e
    have key : ∀ {α : Type _} (f : Fin k0_t2_loop.trips → Fin 4 → α) (L : List α), (∀ p, p ∈ L ↔ ∃ (k : Fin k0_t2_loop.trips) (r : Fin 4), k.val < n ∧ p = f k r) →
        ∀ p, p ∈ [f ⟨n, hn⟩ 3, f ⟨n, hn⟩ 2, f ⟨n, hn⟩ 1, f ⟨n, hn⟩ 0] ++ L ↔ ∃ (k : Fin k0_t2_loop.trips) (r : Fin 4), k.val < n + 1 ∧ p = f k r := by
      intro α f L hL p
      rw [List.mem_append, hL]
      constructor
      · rintro (h | ⟨k, r, hk, rfl⟩)
        · simp only [List.mem_cons, List.not_mem_nil, or_false] at h
          rcases h with rfl | rfl | rfl | rfl
          · exact ⟨⟨n, hn⟩, 3, Nat.lt_succ_self n, rfl⟩
          · exact ⟨⟨n, hn⟩, 2, Nat.lt_succ_self n, rfl⟩
          · exact ⟨⟨n, hn⟩, 1, Nat.lt_succ_self n, rfl⟩
          · exact ⟨⟨n, hn⟩, 0, Nat.lt_succ_self n, rfl⟩
        · exact ⟨k, r, Nat.lt_succ_of_lt hk, rfl⟩
      · rintro ⟨k, r, hk, rfl⟩
        rcases Nat.lt_succ_iff_lt_or_eq.mp hk with hk | hk
        · exact Or.inr ⟨k, r, hk, rfl⟩
        · left
          obtain rfl : k = ⟨n, hn⟩ := Fin.ext hk
          simp only [List.mem_cons, List.not_mem_nil, or_false]
          match r with
          | 0 => exact Or.inr (Or.inr (Or.inr rfl))
          | 1 => exact Or.inr (Or.inr (Or.inl rfl))
          | 2 => exact Or.inr (Or.inl rfl)
          | 3 => exact Or.inl rfl
    have e' : pb_k0_t2 (F := F) 𝒱 c bd i arg1 harg1 arg2 harg2 arg3 harg3 arg4 harg4 arg5 harg5 arg6 harg6 arg7 harg7 arg8 harg8 arg0 X_arg1 X_arg2 X_arg8 (n + 1) = _ := e
    rw [e']
    exact ⟨key (fun k r => rcPiece k r (grp arg1 arg2 arg8 X_arg1 X_arg2 X_arg8 k r)) _ h1, key (fun k r => rsPiece k r (grp arg1 arg2 arg8 X_arg1 X_arg2 X_arg8 k r)) _ h2,
      key (fun k r => ccPiece k r (grp arg1 arg2 arg8 X_arg1 X_arg2 X_arg8 k r)) _ h3, key (fun k r => csPiece i k r (grp arg1 arg2 arg8 X_arg1 X_arg2 X_arg8 k r)) _ h4⟩

/-- The block of row codes after the loop. -/
theorem read_rc (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (f : BufTy.Contents (Elt F) arg3.view.ty) :
    arg3.view.read (Elt F) (arg3.view.writes (Elt F) f (pb_k0_t2 (F := F) 𝒱 c bd i arg1 harg1 arg2 harg2 arg3 harg3 arg4 harg4 arg5 harg5 arg6 harg6 arg7 harg7 arg8 harg8 arg0 X_arg1 X_arg2 X_arg8 k0_t2_loop.trips).1) = wide fun k r => codes (tr (grp arg1 arg2 arg8 X_arg1 X_arg2 X_arg8 k r)) := by
  have hm := (mem_pb (F := F) 𝒱 c bd i arg1 harg1 arg2 harg2 arg3 harg3 arg4 harg4 arg5 harg5 arg6 harg6 arg7 harg7 arg8 harg8 arg0 X_arg1 X_arg2 X_arg8 _ (le_refl _)).1
  funext y
  refine View.read_writes_apply_of_pieces _ f _ _ (fun p hp x => ?_) y ?_
  · obtain ⟨k, r, -, rfl⟩ := (hm p).mp hp
    refine (wide_at (F := F) (fun k r => codes (tr (grp arg1 arg2 arg8 X_arg1 X_arg2 X_arg8 k r))) _ k r x ?_ ?_).symm
    · show k0_off9 k (BitVec.ofNat 32 r.val) 0 + 1 * (x 0).val = _
      rw [k0_off9_eq]; show 0 + 1 * (x 0).val = _; omega
    · show k0_off9 k (BitVec.ofNat 32 r.val) 1 + 1 * (x 1).val = _
      rw [k0_off9_eq]; show (512 * k.val + 128 * r.val) + 1 * (x 1).val = _; omega
  · have h0 : (y 0).val < 128 := (y 0).isLt
    have h1 : (y 1).val < 28672 := (y 1).isLt
    let k : Fin k0_t2_loop.trips := ⟨(y 1).val / 512, by rw [trips_t2]; omega⟩
    let r : Fin 4 := ⟨(y 1).val / 128 % 4, by omega⟩
    refine ⟨_, (hm _).mpr ⟨k, r, k.isLt, rfl⟩, ?_⟩
    rw [Rect.mem_set_unit, k0_off9_eq]
    intro a; match a with
    | 0 => show 0 ≤ (y 0).val ∧ (y 0).val < 0 + 128; omega
    | 1 => show 512 * ((y 1).val / 512) + 128 * ((y 1).val / 128 % 4) ≤ (y 1).val ∧ (y 1).val < 512 * ((y 1).val / 512) + 128 * ((y 1).val / 128 % 4) + 128; omega

/-- The block of row scales after the loop. -/
theorem read_rs (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (f : BufTy.Contents (Elt F) arg4.view.ty) :
    arg4.view.read (Elt F) (arg4.view.writes (Elt F) f (pb_k0_t2 (F := F) 𝒱 c bd i arg1 harg1 arg2 harg2 arg3 harg3 arg4 harg4 arg5 harg5 arg6 harg6 arg7 harg7 arg8 harg8 arg0 X_arg1 X_arg2 X_arg8 k0_t2_loop.trips).2.1) = rows fun k r => scale (tr (grp arg1 arg2 arg8 X_arg1 X_arg2 X_arg8 k r)) := by
  have hm := (mem_pb (F := F) 𝒱 c bd i arg1 harg1 arg2 harg2 arg3 harg3 arg4 harg4 arg5 harg5 arg6 harg6 arg7 harg7 arg8 harg8 arg0 X_arg1 X_arg2 X_arg8 _ (le_refl _)).2.1
  funext y
  refine View.read_writes_apply_of_pieces _ f _ _ (fun p hp x => ?_) y ?_
  · obtain ⟨k, r, -, rfl⟩ := (hm p).mp hp
    have hx : (x 0).val < 1 := (x 0).isLt
    refine (rows_at (F := F) (fun k r => scale (tr (grp arg1 arg2 arg8 X_arg1 X_arg2 X_arg8 k r))) _ k r x ?_ ?_).symm
    · show k0_off13 k (BitVec.ofNat 32 r.val) 1 + 1 * (x 1).val = _
      rw [k0_off13_eq]; show 0 + 1 * (x 1).val = _; omega
    · show k0_off13 k (BitVec.ofNat 32 r.val) 0 + 1 * (x 0).val = _
      rw [k0_off13_eq]; show (4 * k.val + r.val) + 1 * (x 0).val = _; omega
  · have h0 : (y 0).val < 224 := (y 0).isLt
    have h1 : (y 1).val < 128 := (y 1).isLt
    let k : Fin k0_t2_loop.trips := ⟨(y 0).val / 4, by rw [trips_t2]; omega⟩
    let r : Fin 4 := ⟨(y 0).val % 4, by omega⟩
    refine ⟨_, (hm _).mpr ⟨k, r, k.isLt, rfl⟩, ?_⟩
    rw [Rect.mem_set_unit, k0_off13_eq]
    intro a; match a with
    | 0 => show 4 * ((y 0).val / 4) + (y 0).val % 4 ≤ (y 0).val ∧ (y 0).val < 4 * ((y 0).val / 4) + (y 0).val % 4 + 1; omega
    | 1 => show 0 ≤ (y 1).val ∧ (y 1).val < 0 + 128; omega

/-- The block of column codes after the loop. -/
theorem read_cc (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (f : BufTy.Contents (Elt F) arg5.view.ty) :
    arg5.view.read (Elt F) (arg5.view.writes (Elt F) f (pb_k0_t2 (F := F) 𝒱 c bd i arg1 harg1 arg2 harg2 arg3 harg3 arg4 harg4 arg5 harg5 arg6 harg6 arg7 harg7 arg8 harg8 arg0 X_arg1 X_arg2 X_arg8 k0_t2_loop.trips).2.2.1) = tall fun k r => codes (grp arg1 arg2 arg8 X_arg1 X_arg2 X_arg8 k r) := by
  have hm := (mem_pb (F := F) 𝒱 c bd i arg1 harg1 arg2 harg2 arg3 harg3 arg4 harg4 arg5 harg5 arg6 harg6 arg7 harg7 arg8 harg8 arg0 X_arg1 X_arg2 X_arg8 _ (le_refl _)).2.2.1
  funext y
  refine View.read_writes_apply_of_pieces _ f _ _ (fun p hp x => ?_) y ?_
  · obtain ⟨k, r, -, rfl⟩ := (hm p).mp hp
    refine (tall_at (F := F) (fun k r => codes (grp arg1 arg2 arg8 X_arg1 X_arg2 X_arg8 k r)) _ k r x ?_ ?_).symm
    · show k0_off12 k (BitVec.ofNat 32 r.val) 1 + 1 * (x 1).val = _
      rw [k0_off12_eq]; show 0 + 1 * (x 1).val = _; omega
    · show k0_off12 k (BitVec.ofNat 32 r.val) 0 + 1 * (x 0).val = _
      rw [k0_off12_eq]; show (512 * k.val + 128 * r.val) + 1 * (x 0).val = _; omega
  · have h0 : (y 0).val < 28672 := (y 0).isLt
    have h1 : (y 1).val < 128 := (y 1).isLt
    let k : Fin k0_t2_loop.trips := ⟨(y 0).val / 512, by rw [trips_t2]; omega⟩
    let r : Fin 4 := ⟨(y 0).val / 128 % 4, by omega⟩
    refine ⟨_, (hm _).mpr ⟨k, r, k.isLt, rfl⟩, ?_⟩
    rw [Rect.mem_set_unit, k0_off12_eq]
    intro a; match a with
    | 0 => show 512 * ((y 0).val / 512) + 128 * ((y 0).val / 128 % 4) ≤ (y 0).val ∧ (y 0).val < 512 * ((y 0).val / 512) + 128 * ((y 0).val / 128 % 4) + 128; omega
    | 1 => show 0 ≤ (y 1).val ∧ (y 1).val < 0 + 128; omega

/-- The block of column scales after the loop: the point's sublane written, the others as they were. -/
theorem read_cs (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (arg0 : BitVec 32) (X_arg1 : BufTy.Contents (Elt F) arg1.view.ty) (X_arg2 : BufTy.Contents (Elt F) arg2.view.ty) (X_arg8 : BufTy.Contents (Elt F) arg8.view.ty) (f : BufTy.Contents (Elt F) arg6.view.ty) :
    arg6.view.read (Elt F) (arg6.view.writes (Elt F) f (pb_k0_t2 (F := F) 𝒱 c bd i arg1 harg1 arg2 harg2 arg3 harg3 arg4 harg4 arg5 harg5 arg6 harg6 arg7 harg7 arg8 harg8 arg0 X_arg1 X_arg2 X_arg8 k0_t2_loop.trips).2.2.2) =
      fun y => if (y 2).val = (i 0).val % 8 then lines (fun k r => scale (grp arg1 arg2 arg8 X_arg1 X_arg2 X_arg8 k r)) y else arg6.view.read (Elt F) f y := by
  have hm := (mem_pb (F := F) 𝒱 c bd i arg1 harg1 arg2 harg2 arg3 harg3 arg4 harg4 arg5 harg5 arg6 harg6 arg7 harg7 arg8 harg8 arg0 X_arg1 X_arg2 X_arg8 _ (le_refl _)).2.2.2
  funext y
  by_cases hy : (y 2).val = (i 0).val % 8
  · rw [if_pos hy]
    refine View.read_writes_apply_of_pieces _ f _ _ (fun p hp x => ?_) y ?_
    · obtain ⟨k, r, -, rfl⟩ := (hm p).mp hp
      have hx0 : (x 0).val < 1 := (x 0).isLt
      have hx1 : (x 1).val < 1 := (x 1).isLt
      have hx2 : (x 2).val < 1 := (x 2).isLt
      have hx3 : (x 3).val < 128 := (x 3).isLt
      refine Eq.trans ?_ (lines_at (F := F) (fun k r => scale (grp arg1 arg2 arg8 X_arg1 X_arg2 X_arg8 k r)) _ k r (ix2 0 ⟨(x 3).val, (x 3).isLt⟩) ?_ ?_).symm
      · exact line_cast (F := F) (scale (grp arg1 arg2 arg8 X_arg1 X_arg2 X_arg8 k r)) x
      · show k0_off11 i k (BitVec.ofNat 32 r.val) 3 + 1 * (x 3).val = _
        rw [off11_eq]; show 0 + 1 * (x 3).val = (x 3).val; omega
      · show k0_off11 i k (BitVec.ofNat 32 r.val) 1 + 1 * (x 1).val = _
        rw [off11_eq]; show (4 * k.val + r.val) + 1 * (x 1).val = _; omega
    · have h0 : (y 0).val < 1 := (y 0).isLt
      have h1 : (y 1).val < 224 := (y 1).isLt
      have h3 : (y 3).val < 128 := (y 3).isLt
      let k : Fin k0_t2_loop.trips := ⟨(y 1).val / 4, by rw [trips_t2]; omega⟩
      let r : Fin 4 := ⟨(y 1).val % 4, by omega⟩
      refine ⟨_, (hm _).mpr ⟨k, r, k.isLt, rfl⟩, ?_⟩
      rw [Rect.mem_set_unit, off11_eq]
      intro a; match a with
      | 0 => show 0 ≤ (y 0).val ∧ (y 0).val < 0 + 1; omega
      | 1 => show 4 * ((y 1).val / 4) + (y 1).val % 4 ≤ (y 1).val ∧ (y 1).val < 4 * ((y 1).val / 4) + (y 1).val % 4 + 1; omega
      | 2 => show (i 0).val % 8 ≤ (y 2).val ∧ (y 2).val < (i 0).val % 8 + 1; omega
      | 3 => show 0 ≤ (y 3).val ∧ (y 3).val < 0 + 128; omega
  · rw [if_neg hy]
    refine View.read_writes_apply_of_forall_not_mem _ f y _ fun p hp hmem => hy ?_
    obtain ⟨k, r, -, rfl⟩ := (hm p).mp hp
    rw [Rect.mem_set_unit, off11_eq] at hmem
    have h := hmem 2
    have h' : (i 0).val % 8 ≤ (y 2).val ∧ (y 2).val < (i 0).val % 8 + 1 := h
    omega

end Cert.Proof.KernelIdeal

end
-- ==== Proof.KernelIdealChunk.lean ====
/- One trip of the loop over the seven chunks of 4096 columns, stated by what it computes: each 16-row slab adds up
   the squares of its 32 tiles lane by lane, the slabs are laid one above the other and transposed, and the 128 lanes
   of each row are added up and put on what was carried. -/
module

public import proofs.«01_k».proof.Proof.KernelIdealLoop

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F] [Named F]

/-- The squares of a tile. -/
def sq (v : Vec F S16x128 .bf16) : FVec F S16x128 .f32 :=
  mulf (extf .f32 (shapeCast S16x128 v shapeCasts_S16x128_S16x128) bitsLt_bf16_f32)
    (extf .f32 (shapeCast S16x128 v shapeCasts_S16x128_S16x128) bitsLt_bf16_f32)

/-- The squares of tiles 0 to `n` added up. -/
def slabTo (t : Fin 32 → Vec F S16x128 .bf16) : (n : ℕ) → n < 32 → FVec F S16x128 .f32
  | 0, h => sq (t ⟨0, h⟩)
  | n + 1, h => addf (slabTo t n (Nat.lt_of_succ_lt h)) (sq (t ⟨n + 1, h⟩))

/-- A slab: the squares of its 32 tiles added up. -/
def slab (t : Fin 32 → Vec F S16x128 .bf16) : FVec F S16x128 .f32 := slabTo t 31 (by decide)

/-- The eight slabs one above the other, transposed. -/
def stack (a b c d e f g h : FVec F S16x128 .f32) : FVec F S128x128 .f32 :=
  transpose S128x128 [1, 0] (concatenate S128x128 0 [⟨S16x128, a⟩, ⟨S16x128, b⟩, ⟨S16x128, c⟩, ⟨S16x128, d⟩, ⟨S16x128, e⟩, ⟨S16x128, f⟩, ⟨S16x128, g⟩, ⟨S16x128, h⟩]
    concatenates_S16x128_S16x128_S16x128_S16x128_S16x128_S16x128_S16x128_S16x128_S128x128_d0) transposes_S128x128_p1_0_S128x128

/-- The sixteen groups of eight sublanes added up. -/
def by8 (T : FVec F S128x128 .f32) : FVec F S8x128 .f32 :=
  addf (addf (addf (addf (addf (addf (addf (addf (addf (addf (addf (addf (addf (addf (addf (extractStridedSlice S8x128 ![0, 0] T slices_S128x128_o0_0_S8x128)
      (extractStridedSlice S8x128 ![8, 0] T slices_S128x128_o8_0_S8x128))
      (extractStridedSlice S8x128 ![16, 0] T slices_S128x128_o16_0_S8x128))
      (extractStridedSlice S8x128 ![24, 0] T slices_S128x128_o24_0_S8x128))
      (extractStridedSlice S8x128 ![32, 0] T slices_S128x128_o32_0_S8x128))
      (extractStridedSlice S8x128 ![40, 0] T slices_S128x128_o40_0_S8x128))
      (extractStridedSlice S8x128 ![48, 0] T slices_S128x128_o48_0_S8x128))
      (extractStridedSlice S8x128 ![56, 0] T slices_S128x128_o56_0_S8x128))
      (extractStridedSlice S8x128 ![64, 0] T slices_S128x128_o64_0_S8x128))
      (extractStridedSlice S8x128 ![72, 0] T slices_S128x128_o72_0_S8x128))
      (extractStridedSlice S8x128 ![80, 0] T slices_S128x128_o80_0_S8x128))
      (extractStridedSlice S8x128 ![88, 0] T slices_S128x128_o88_0_S8x128))
      (extractStridedSlice S8x128 ![96, 0] T slices_S128x128_o96_0_S8x128))
      (extractStridedSlice S8x128 ![104, 0] T slices_S128x128_o104_0_S8x128))
      (extractStridedSlice S8x128 ![112, 0] T slices_S128x128_o112_0_S8x128))
      (extractStridedSlice S8x128 ![120, 0] T slices_S128x128_o120_0_S8x128)

/-- Eight sublanes halved to four. -/
def by4 (T : FVec F S8x128 .f32) : FVec F S4x128 .f32 :=
  addf (extractStridedSlice S4x128 ![0, 0] T slices_S8x128_o0_0_S4x128) (extractStridedSlice S4x128 ![4, 0] T slices_S8x128_o4_0_S4x128)
/-- Four halved to two. -/
def by2 (T : FVec F S4x128 .f32) : FVec F S2x128 .f32 :=
  addf (extractStridedSlice S2x128 ![0, 0] T slices_S4x128_o0_0_S2x128) (extractStridedSlice S2x128 ![2, 0] T slices_S4x128_o2_0_S2x128)
/-- Two added. -/
def by1 (T : FVec F S2x128 .f32) : FVec F S1x128 .f32 :=
  addf (extractStridedSlice S1x128 ![0, 0] T slices_S2x128_o0_0_S1x128) (extractStridedSlice S1x128 ![1, 0] T slices_S2x128_o1_0_S1x128)

/-- The chunk's stack, from what the block of `x` holds. -/
abbrev chunk (arg1 : Memref sig .tc .vmem S128x28672 .bf16) (X_arg1 : BufTy.Contents (Elt F) arg1.view.ty) (k : Fin k0_t1_loop.trips) : FVec F S128x128 .f32 :=
  stack
    (slab fun r => View.readAt (Elt F) arg1.view (Rect.unit (s := S128x28672) (k0_off1 k (BitVec.ofNat 32 r.val)) S16x128.size (k0_off1_inb k r)).toLoadRect X_arg1)
    (slab fun r => View.readAt (Elt F) arg1.view (Rect.unit (s := S128x28672) (k0_off2 k (BitVec.ofNat 32 r.val)) S16x128.size (k0_off2_inb k r)).toLoadRect X_arg1)
    (slab fun r => View.readAt (Elt F) arg1.view (Rect.unit (s := S128x28672) (k0_off3 k (BitVec.ofNat 32 r.val)) S16x128.size (k0_off3_inb k r)).toLoadRect X_arg1)
    (slab fun r => View.readAt (Elt F) arg1.view (Rect.unit (s := S128x28672) (k0_off4 k (BitVec.ofNat 32 r.val)) S16x128.size (k0_off4_inb k r)).toLoadRect X_arg1)
    (slab fun r => View.readAt (Elt F) arg1.view (Rect.unit (s := S128x28672) (k0_off5 k (BitVec.ofNat 32 r.val)) S16x128.size (k0_off5_inb k r)).toLoadRect X_arg1)
    (slab fun r => View.readAt (Elt F) arg1.view (Rect.unit (s := S128x28672) (k0_off6 k (BitVec.ofNat 32 r.val)) S16x128.size (k0_off6_inb k r)).toLoadRect X_arg1)
    (slab fun r => View.readAt (Elt F) arg1.view (Rect.unit (s := S128x28672) (k0_off7 k (BitVec.ofNat 32 r.val)) S16x128.size (k0_off7_inb k r)).toLoadRect X_arg1)
    (slab fun r => View.readAt (Elt F) arg1.view (Rect.unit (s := S128x28672) (k0_off8 k (BitVec.ofNat 32 r.val)) S16x128.size (k0_off8_inb k r)).toLoadRect X_arg1)

/-- What one trip yields. -/
theorem tripR_eq (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (X_arg1 : BufTy.Contents (Elt F) arg1.view.ty) (k : Fin k0_t1_loop.trips) (acc : FVec F S1x128 .f32) :
    tripR_k0_t1 (F := F) 𝒱 c bd i arg1 harg1 arg2 harg2 arg3 harg3 arg4 harg4 arg5 harg5 arg6 harg6 arg7 harg7 arg8 harg8 X_arg1 k acc =
      addf acc (by1 (by2 (by4 (by8 (chunk arg1 X_arg1 k))))) := by
  unfold tripR_k0_t1 trip_k0_t1
  dsimp only
  rfl

end Cert.Proof.KernelIdeal

end
-- ==== Proof.KernelIdealRun.lean ====
/- The body's triple with its results named: from a block of `x` and `gamma` it leaves the codes, the scales and `rsigma`
   of the block, and of the block of column scales only the point's sublane is changed. -/

module

public import proofs.«01_k».proof.Proof.KernelIdealContents
public import proofs.«01_k».proof.Proof.KernelIdealChunk
public import proofs.«01_k».proof.Proof.KernelIdealFrame
public import Idealize.ShloMosaic.Lib.WritesUnit
public import Idealize.ShloMosaic.Lib.Pointwise
public import Idealize.ShloMosaic.Lib.Writes

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The stack of chunk `k` of a block of `x`. -/
def chunkX (x : Vec F S128x28672 .bf16) (k : Fin k0_t1_loop.trips) : FVec F S128x128 .f32 :=
  stack
    (slab fun r => View.ld x (Rect.unit (s := S128x28672) (k0_off1 k (BitVec.ofNat 32 r.val)) S16x128.size (k0_off1_inb k r)))
    (slab fun r => View.ld x (Rect.unit (s := S128x28672) (k0_off2 k (BitVec.ofNat 32 r.val)) S16x128.size (k0_off2_inb k r)))
    (slab fun r => View.ld x (Rect.unit (s := S128x28672) (k0_off3 k (BitVec.ofNat 32 r.val)) S16x128.size (k0_off3_inb k r)))
    (slab fun r => View.ld x (Rect.unit (s := S128x28672) (k0_off4 k (BitVec.ofNat 32 r.val)) S16x128.size (k0_off4_inb k r)))
    (slab fun r => View.ld x (Rect.unit (s := S128x28672) (k0_off5 k (BitVec.ofNat 32 r.val)) S16x128.size (k0_off5_inb k r)))
    (slab fun r => View.ld x (Rect.unit (s := S128x28672) (k0_off6 k (BitVec.ofNat 32 r.val)) S16x128.size (k0_off6_inb k r)))
    (slab fun r => View.ld x (Rect.unit (s := S128x28672) (k0_off7 k (BitVec.ofNat 32 r.val)) S16x128.size (k0_off7_inb k r)))
    (slab fun r => View.ld x (Rect.unit (s := S128x28672) (k0_off8 k (BitVec.ofNat 32 r.val)) S16x128.size (k0_off8_inb k r)))

/-- The sums of squares of the rows of a block of `x` over its first `n` chunks. -/
def sumTo (x : Vec F S128x28672 .bf16) : ℕ → FVec F S1x128 .f32
  | 0 => k0_pay1
  | n + 1 => if h : n < k0_t1_loop.trips then addf (sumTo x n) (by1 (by2 (by4 (by8 (chunkX x ⟨n, h⟩))))) else sumTo x n

/-- The sums of squares of the rows of a block of `x`. -/
def sums (x : Vec F S128x28672 .bf16) : FVec F S1x128 .f32 := sumTo x k0_t1_loop.trips

/-- Group `4 k + r` of a block, normalised and rounded. -/
def grpX (x : Vec F S128x28672 .bf16) (g : Vec F S1x28672 .f32) (s : FVec F S128x128 .f32) (k : Fin k0_t2_loop.trips) (r : Fin 4) : FVec F S128x128 .bf16 :=
  toOdd (yBlk (View.ld x (Rect.unit (s := S128x28672) (k0_off9 k (BitVec.ofNat 32 r.val)) S128x128.size (k0_off9_inb k r))) s
    (View.ld g (Rect.unit (s := S1x28672) (k0_off10 k (BitVec.ofNat 32 r.val)) S1x128.size (k0_off10_inb k r))))

/-- Group `4 k + r` of a block, with the block's own `rsigma`. -/
def grpB (x : Vec F S128x28672 .bf16) (g : Vec F S1x28672 .f32) : Fin k0_t2_loop.trips → Fin 4 → FVec F S128x128 .bf16 :=
  grpX x g (k0_pay5 (sums x))

/-- A block's row codes, -/
def rcB (x : Vec F S128x28672 .bf16) (g : Vec F S1x28672 .f32) : Vec F S128x28672 .fp8e4m3 := wide fun k r => codes (tr (grpB x g k r))
/-- its row scales, -/
def rsB (x : Vec F S128x28672 .bf16) (g : Vec F S1x28672 .f32) : Vec F S224x128 .f32 := rows fun k r => scale (tr (grpB x g k r))
/-- its column codes, -/
def ccB (x : Vec F S128x28672 .bf16) (g : Vec F S1x28672 .f32) : Vec F S28672x128 .fp8e4m3 := tall fun k r => codes (grpB x g k r)
/-- its column scales -/
def csB (x : Vec F S128x28672 .bf16) (g : Vec F S1x28672 .f32) : Vec F S1x224x8x128 .f32 := lines fun k r => scale (grpB x g k r)
/-- and its `rsigma`. -/
def sigB (x : Vec F S128x28672 .bf16) : Vec F S1x1x128 .f32 := k0_pay4 (sums x)

/-- What the loop over the chunks has carried. -/
theorem st_eq (𝒱 : Variants) (c : Dev nD) (bd : Option 𝒱.V) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole) (x : Vec F S128x28672 .bf16) (n : ℕ) (hn : n ≤ k0_t1_loop.trips) :
    st_k0_t1 (F := F) 𝒱 c bd i arg1 harg1 arg2 harg2 arg3 harg3 arg4 harg4 arg5 harg5 arg6 harg6 arg7 harg7 arg8 harg8 (harg1.unread x) k0_pay1 n = sumTo x n := by
  induction n with
  | zero => rfl
  | succ n ih =>
    have e := st_k0_t1_succ (F := F) 𝒱 c bd i arg1 harg1 arg2 harg2 arg3 harg3 arg4 harg4 arg5 harg5 arg6 harg6 arg7 harg7 arg8 harg8 (harg1.unread x) k0_pay1 ⟨n, hn⟩
    have e' : st_k0_t1 (F := F) 𝒱 c bd i arg1 harg1 arg2 harg2 arg3 harg3 arg4 harg4 arg5 harg5 arg6 harg6 arg7 harg7 arg8 harg8 (harg1.unread x) k0_pay1 (n + 1) = _ := e
    rw [e', ih (Nat.le_of_succ_le hn), tripR_eq]
    unfold chunk
    simp only [View.readAt_eq_ld, harg1.read_unread]
    rw [sumTo, dif_pos (Nat.lt_of_succ_le hn)]
    rfl

/-- A group as the buffers give it. -/
theorem grp_eq (arg1 : Memref sig .tc .vmem S128x28672 .bf16) (harg1 : arg1.IsWhole) (arg2 : Memref sig .tc .vmem S1x28672 .f32) (harg2 : arg2.IsWhole) (arg8 : Memref sig .tc .vmem S128x128 .f32)
    (x : Vec F S128x28672 .bf16) (g : Vec F S1x28672 .f32) (X8 : BufTy.Contents (Elt F) arg8.view.ty) (s : FVec F S128x128 .f32)
    (h8 : arg8.view.read (Elt F) X8 = s) (k : Fin k0_t2_loop.trips) (r : Fin 4) :
    grp arg1 arg2 arg8 (harg1.unread x) (harg2.unread g) X8 k r = grpX x g s k r := by
  unfold grp grpX
  simp only [View.readAt_eq_ld, harg1.read_unread, harg2.read_unread]
  congr 2
  subst h8
  funext y
  show arg8.view.read (Elt F) X8 _ = _
  congr 1
  funext a; apply Fin.ext
  match a with
  | 0 => show 0 + 1 * (y 0).val = (y 0).val; omega
  | 1 => show 0 + 1 * (y 1).val = (y 1).val; omega

/-- One whole-block store is read back. -/
theorem read_full8 (arg8 : Memref sig .tc .vmem S128x128 .f32) (f : BufTy.Contents (Elt F) arg8.view.ty) (w : FVec F S128x128 .f32) :
    arg8.view.read (Elt F) (arg8.view.writes (Elt F) f [⟨Rect.unit (s := S128x128) ![0, 0] S128x128.size inb_S128x128_S128x128_0_0, w⟩]) = w := by
  funext y
  refine View.read_writes_cons_unit_of_mem _ f inb_S128x128_S128x128_0_0 w [] y y rfl fun a => ?_
  match a with
  | 0 => exact (Nat.zero_add _).symm
  | 1 => exact (Nat.zero_add _).symm

/-- One whole-block store is read back. -/
theorem read_full7 (arg7 : Memref sig .tc .vmem S1x1x128 .f32) (f : BufTy.Contents (Elt F) arg7.view.ty) (w : FVec F S1x1x128 .f32) :
    arg7.view.read (Elt F) (arg7.view.writes (Elt F) f [⟨Rect.unit (s := S1x1x128) ![0, 0, 0] S1x1x128.size inb_S1x1x128_S1x1x128_0_0_0, w⟩]) = w := by
  funext y
  refine View.read_writes_cons_unit_of_mem _ f inb_S1x1x128_S1x1x128_0_0_0 w [] y y rfl fun a => ?_
  match a with
  | 0 => exact (Nat.zero_add _).symm
  | 1 => exact (Nat.zero_add _).symm
  | 2 => exact (Nat.zero_add _).symm

set_option maxHeartbeats 1000000 in
/-- The body's triple, its results named. -/
theorem kernelRun (c : Dev nD) (i : grid0.Coords) (arg1 : Memref sig .tc .vmem S128x28672 .bf16) (harg1 : arg1.IsWhole) (arg2 : Memref sig .tc .vmem S1x28672 .f32) (harg2 : arg2.IsWhole) (arg3 : Memref sig .tc .vmem S128x28672 .fp8e4m3) (harg3 : arg3.IsWhole) (arg4 : Memref sig .tc .vmem S224x128 .f32) (harg4 : arg4.IsWhole) (arg5 : Memref sig .tc .vmem S28672x128 .fp8e4m3) (harg5 : arg5.IsWhole) (arg6 : Memref sig .tc .vmem S1x224x8x128 .f32) (harg6 : arg6.IsWhole) (arg7 : Memref sig .tc .vmem S1x1x128 .f32) (harg7 : arg7.IsWhole) (arg8 : Memref sig .tc .vmem S128x128 .f32) (harg8 : arg8.IsWhole)
    (x0 : Vec F S128x28672 .bf16) (x1 : Vec F S1x28672 .f32) (y5 : Vec F S1x224x8x128 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare y5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare (rcB x0 x1) ∗ owns (c : Thread nD τ) arg4 fullShare (rsB x0 x1) ∗ owns (c : Thread nD τ) arg5 fullShare (ccB x0 x1) ∗ owns (c : Thread nD τ) arg6 fullShare (fun y => if (y 2).val = (i 0).val % 8 then csB x0 x1 y else y5 y) ∗ owns (c : Thread nD τ) arg7 fullShare (sigB x0) ∗ (∃ d, owns (c : Thread nD τ) arg8 fullShare d)) -∗ K ⟨⟩))
          ⊢ wp Idealize.ShloMosaic.frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%d6, %f6, -, H6⟩, ⟨%ds0, %fs0, -, HS0⟩, Hk⟩
    obtain rfl := harg1.eq_unread hf0; obtain rfl := harg2.eq_unread hf1
    subst hf5
    sl_exec
    sl_step
    have hst := st_eq (F := F) Variants.none c none i arg1 harg1 arg2 harg2 arg3 harg3 arg4 harg4 arg5 harg5 arg6 harg6 arg7 harg7 arg8 harg8 x0 _ (le_refl _)
    have h8 := (read_full8 (F := F) arg8 arg8.view.junk _).trans (congrArg k0_pay5 hst)
    have hg := grp_eq (F := F) arg1 harg1 arg2 harg2 arg8 x0 x1 _ _ h8
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [read_rc]
      exact congrArg wide (funext fun k => funext fun r => congrArg (fun v => codes (tr v)) (hg k r))
    isplitl [H3]
    · iexists _; isplitr; swap; · iexact H3
      ipureintro
      rw [read_rs]
      exact congrArg rows (funext fun k => funext fun r => congrArg (fun v => scale (tr v)) (hg k r))
    isplitl [H4]
    · iexists _; isplitr; swap; · iexact H4
      ipureintro
      rw [read_cc]
      exact congrArg tall (funext fun k => funext fun r => congrArg (fun v => codes v) (hg k r))
    isplitl [H5]
    · iexists _; isplitr; swap; · iexact H5
      ipureintro
      rw [read_cs]
      funext y
      exact congrArg (fun L : Vec F S1x224x8x128 .f32 => if (y 2).val = (i 0).val % 8 then L y else arg6.view.read (Elt F) f5 y)
        (congrArg lines (funext fun k => funext fun r => congrArg (fun v => scale v) (hg k r)))
    isplitl [H6]
    · iexists _; isplitr; swap; · iexact H6
      ipureintro
      exact (read_full7 (F := F) arg7 arg7.view.junk _).trans (congrArg k0_pay4 hst)
    iexists _, _; isplitr; swap; · iexact HS0
    ipureintro; rfl

end Cert.Proof.KernelIdeal

end
-- ==== Proof.KernelIdealLaunch.lean ====
/- The launch: at each grid point the body leaves its named outputs in its output blocks (the column scales, whose block
   eight points share, at the point's own sublane and as found elsewhere), so the run ends with each result array made
   of the named blocks. -/
module

public import proofs.«01_k».proof.Proof.KernelIdealFrame
public import proofs.«01_k».proof.Proof.KernelIdealRun
public import Idealize.ShloMosaic.Lib.Pipeline.ArrRel

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The relation between what the body finds and what it leaves -/

/-- The tile of `x` at point `t`, and the row of `gamma`. -/
abbrev xAt (c : Dev nD) (t : Fin cfg0.N) : Vec F S128x28672 .bf16 := iblk m c 0 t
abbrev gAt (c : Dev nD) (t : Fin cfg0.N) : Vec F S1x28672 .f32 := iblk m c 1 t

/-- What is left in the block of column scales that eight points share: the point's own sublane written, the others as
    found. -/
def csNext (c : Dev nD) (t : Fin cfg0.N) (Y : Vec F S1x224x8x128 .f32) : Vec F S1x224x8x128 .f32 :=
  fun y => if (y 2).val = (grid0.coords t 0).val % 8 then csB (xAt m c t) (gAt m c t) y else Y y

/-- Per output window, what the body leaves. -/
def leftBy (c : Dev nD) (w : Fin cfg0.W) :
    Option (Fin cfg0.N → (Y X : (cfg0.win w).block.Idx → Elt F (cfg0.win w).elt) → Prop) :=
  match w with
  | ⟨0, _⟩ => none
  | ⟨1, _⟩ => none
  | ⟨2, _⟩ => some fun t _ X => X = rcB (xAt m c t) (gAt m c t)
  | ⟨3, _⟩ => some fun t _ X => X = rsB (xAt m c t) (gAt m c t)
  | ⟨4, _⟩ => some fun t _ X => X = ccB (xAt m c t) (gAt m c t)
  | ⟨5, _⟩ => some fun t Y X => X = csNext m c t Y
  | ⟨6, _⟩ => some fun t _ X => X = sigB (xAt m c t)

/-- The proof data of the launch. -/
def rdat (c : Dev nD) : RDat τ (Elt F) Unit ℕ (UR sig nD τ) ℕ cfg0 c := (dats m 0 c).toR.override (leftBy m c)

theorem finds0 (c : Dev nD) (t : Fin cfg0.N) (X) (h : (rdat m c).Finds 0 t X) : X = iblk m c 0 t := by
  obtain ⟨d, rfl⟩ := (dats m 0 c).toR_finds 0 t X (((dats m 0 c).toR.override_finds rfl t X).mp h)
  exact before0_0 m c t d
theorem finds1 (c : Dev nD) (t : Fin cfg0.N) (X) (h : (rdat m c).Finds 1 t X) : X = iblk m c 1 t := by
  obtain ⟨d, rfl⟩ := (dats m 0 c).toR_finds 1 t X (((dats m 0 c).toR.override_finds rfl t X).mp h)
  exact before0_1 m c t d

theorem left0 (c : Dev nD) (t : Fin cfg0.N) (Y) : (rdat m c).after 0 t Y (iblk m c 0 t) := by
  have := (dats m 0 c).toR.override_after_of_eq_none (ovr := leftBy m c) (w := 0) rfl
  unfold rdat; rw [this]; exact (after0_0 m c t).symm
theorem left1 (c : Dev nD) (t : Fin cfg0.N) (Y) : (rdat m c).after 1 t Y (iblk m c 1 t) := by
  have := (dats m 0 c).toR.override_after_of_eq_none (ovr := leftBy m c) (w := 1) rfl
  unfold rdat; rw [this]; exact (after0_1 m c t).symm
theorem left2 (c : Dev nD) (t : Fin cfg0.N) (Y X) : (rdat m c).after 2 t Y X ↔ X = rcB (xAt m c t) (gAt m c t) := .rfl
theorem left3 (c : Dev nD) (t : Fin cfg0.N) (Y X) : (rdat m c).after 3 t Y X ↔ X = rsB (xAt m c t) (gAt m c t) := .rfl
theorem left4 (c : Dev nD) (t : Fin cfg0.N) (Y X) : (rdat m c).after 4 t Y X ↔ X = ccB (xAt m c t) (gAt m c t) := .rfl
theorem left5 (c : Dev nD) (t : Fin cfg0.N) (Y X) : (rdat m c).after 5 t Y X ↔ X = csNext m c t Y := .rfl
theorem left6 (c : Dev nD) (t : Fin cfg0.N) (Y X) : (rdat m c).after 6 t Y X ↔ X = sigB (xAt m c t) := .rfl

/-! ## The body obligation -/

/-- What the body is called with at point `t`, -/
def runPre (c : Dev nD) (t : Fin cfg0.N) (y2 : Vec F S128x28672 .fp8e4m3) (y3 : Vec F S224x128 .f32)
    (y4 : Vec F S28672x128 .fp8e4m3) (y5 : Vec F S1x224x8x128 .f32) (y6 : Vec F S1x1x128 .f32) : sProp 𝕄 :=
  iprop(Pipeline.ΦA spec0 c ∗ (rdat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare y2
    ∗ owns (c : Thread nD τ) (ms0_3 t) fullShare y3
    ∗ owns (c : Thread nD τ) (ms0_4 t) fullShare y4
    ∗ owns (c : Thread nD τ) (ms0_5 t) fullShare y5
    ∗ owns (c : Thread nD τ) (ms0_6 t) fullShare y6)

/-- and what it returns. -/
def runPost (c : Dev nD) (t : Fin cfg0.N) (Y : (w : Fin cfg0.W) → (cfg0.win w).block.Idx → Elt F (cfg0.win w).elt) : sProp 𝕄 :=
  iprop(Pipeline.ΦA spec0 c ∗ (rdat m c).owesAt () t.castSucc
    ∗ (∃ X, iprop(⌜(rdat m c).after 0 t (Y 0) X⌝ ∗ owns (c : Thread nD τ) (ms0_0 t) fullShare X))
    ∗ (∃ X, iprop(⌜(rdat m c).after 1 t (Y 1) X⌝ ∗ owns (c : Thread nD τ) (ms0_1 t) fullShare X))
    ∗ (∃ X, iprop(⌜(rdat m c).after 2 t (Y 2) X⌝ ∗ owns (c : Thread nD τ) (ms0_2 t) fullShare X))
    ∗ (∃ X, iprop(⌜(rdat m c).after 3 t (Y 3) X⌝ ∗ owns (c : Thread nD τ) (ms0_3 t) fullShare X))
    ∗ (∃ X, iprop(⌜(rdat m c).after 4 t (Y 4) X⌝ ∗ owns (c : Thread nD τ) (ms0_4 t) fullShare X))
    ∗ (∃ X, iprop(⌜(rdat m c).after 5 t (Y 5) X⌝ ∗ owns (c : Thread nD τ) (ms0_5 t) fullShare X))
    ∗ (∃ X, iprop(⌜(rdat m c).after 6 t (Y 6) X⌝ ∗ owns (c : Thread nD τ) (ms0_6 t) fullShare X)))

set_option maxHeartbeats 400000 in
theorem run_body (c : Dev nD) (t : Fin cfg0.N) (Y : (w : Fin cfg0.W) → (cfg0.win w).block.Idx → Elt F (cfg0.win w).elt) :
    runPre m c t (Y 2) (Y 3) (Y 4) (Y 5) (Y 6)
      ⊢ wp Idealize.ShloMosaic.frame (wpE (defs₀ (F := F)) Variants.none c none) Set.univ (bodyAt0 t) (fun _ => runPost m c t Y) := by
  unfold runPre runPost bodyAt0
  rw [PhiA0_eq]
  iintro ⟨⟨HS0, Hg⟩, Ho, H0, H1, H2, H3, H4, H5, H6⟩
  iapply ((kernelRun c (grid0.coords t) _ _ _ _ _ _ _ _ _ _ _ _ _ _ _ _ (xAt m c t) (gAt m c t) (Y 5)) Set.univ _)
  isplitl [H0]; · iexact H0
  isplitl [H1]; · iexact H1
  isplitl [H2]; · iexists _; iexact H2
  isplitl [H3]; · iexists _; iexact H3
  isplitl [H4]; · iexists _; iexact H4
  isplitl [H5]; · iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexists _; isplitr; swap; · iexact H0
                  ipureintro; exact left0 m c t _
  isplitl [H1]; · iexists _; isplitr; swap; · iexact H1
                  ipureintro; exact left1 m c t _
  isplitl [H2]; · iexists _; isplitr; swap; · iexact H2
                  ipureintro; exact (left2 m c t _ _).mpr rfl
  isplitl [H3]; · iexists _; isplitr; swap; · iexact H3
                  ipureintro; exact (left3 m c t _ _).mpr rfl
  isplitl [H4]; · iexists _; isplitr; swap; · iexact H4
                  ipureintro; exact (left4 m c t _ _).mpr rfl
  isplitl [H5]; · iexists _; isplitr; swap; · iexact H5
                  ipureintro; exact (left5 m c t _ _).mpr rfl
  iexists _; isplitr; swap; · iexact H6
  ipureintro; exact (left6 m c t _ _).mpr rfl

theorem run_obligation (c : Dev nD) : (rdat (F := F) m c).BodyObligation (defs₀ (F := F)) Variants.none () Set.univ := fun t Y hY => by
  rw [bigSep_W0, bigSep_W0, defs₀_row, finds0 m c t _ (hY 0), finds1 m c t _ (hY 1)]
  exact triple_restated (run_body m c t Y) rfl .rfl fun _ => .rfl

/-! ## The run -/

set_option backward.isDefEq.respectTransparency.types false in
theorem run_values : θ_run defs (onTc (τ := τ) (main (F := F))) (s₀ m ρ) (RDat.FramePost (cfgs 0) (rdat m) (V m)) :=
  RDat.θ_run_frame (Q' := _) cfgs (0 : Fin 1) launch0 defs₀ Variants.none (rdat m) m ρ main
    (hbody := run_obligation m) (hshare := fun c => (dats m 0 c).share_full fun _ => rfl)
    (howed := fun _ _ => rfl) (V := V m) (hmain := hmain m Variants.none) (hA := A_eq m) (hΦ := fun _ _ => rfl)

end Cert.Proof.KernelIdeal

end
-- ==== Proof.KernelIdealArrays.lean ====
/- What the five result arrays hold after the launch: each is made of the named blocks of the grid's points, point `i`
   having rows `128 i` to `128 i + 127` of the matrix. -/
module

public import proofs.«01_k».proof.Proof.KernelIdealLaunch
public import Idealize.ShloMosaic.Lib.Pipeline.ValueKit
public import Idealize.ShloMosaic.Lib.Pointwise

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL.Sem
open Idealize.ShloMosaic.Pipeline (Dat RDat Cfg Window BodyObligation cellOf)

variable {F : FTy → Type} [FloatOps F] [Named F]

variable (m : (ℓ : Loc nD τ sig) → Buf (Elt F) ℓ) (ρ : Dev nD → PrngReg)

/-! ## The blocks' places -/

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, t.val] := by decide +kernel
theorem idx4 : ∀ t : Fin grid0.N, win0_4.index t = ![0, t.val] := by decide +kernel
theorem idx5 : ∀ t : Fin grid0.N, win0_5.index t = ![t.val / 8, 0, 0, 0] := by decide +kernel
theorem idx6 : ∀ t : Fin grid0.N, win0_6.index t = ![t.val, 0, 0] := by decide +kernel
theorem coord0 : ∀ t : Fin grid0.N, (grid0.coords t 0).val = t.val := by decide +kernel
theorem points : cfg0.N = 56 := by decide +kernel

/-- Point number `n` of the 56. -/
def pt (n : ℕ) : Fin cfg0.N := ⟨n % 56, (Nat.mod_lt n (by omega)).trans_eq points.symm⟩

theorem pt_eq (t : Fin cfg0.N) (n : ℕ) (e : n = t.val) : pt n = t := by
  have := t.isLt
  have := points
  exact Fin.ext (by show n % 56 = t.val; omega)

/-! ## The arrays -/

def rcG (c : Dev nD) : Vec F S7168x28672 .fp8e4m3 := fun j =>
  rcB (xAt m c (pt ((j 0).val / 128))) (gAt m c (pt ((j 0).val / 128)))
    (ix2 ⟨(j 0).val % 128, Nat.mod_lt _ (by omega)⟩ (j 1))

def rsG (c : Dev nD) : Vec F S224x7168 .f32 := fun j =>
  rsB (xAt m c (pt ((j 1).val / 128))) (gAt m c (pt ((j 1).val / 128)))
    (ix2 (j 0) ⟨(j 1).val % 128, Nat.mod_lt _ (by omega)⟩)

def ccG (c : Dev nD) : Vec F S28672x7168 .fp8e4m3 := fun j =>
  ccB (xAt m c (pt ((j 1).val / 128))) (gAt m c (pt ((j 1).val / 128)))
    (ix2 (j 0) ⟨(j 1).val % 128, Nat.mod_lt _ (by omega)⟩)

def csG (c : Dev nD) : Vec F S7x224x8x128 .f32 := fun j =>
  csB (xAt m c (pt (8 * (j 0).val + (j 2).val))) (gAt m c (pt (8 * (j 0).val + (j 2).val)))
    (ix4 0 (j 1) (j 2) (j 3))

def sigG (c : Dev nD) : Vec F S56x1x128 .f32 := fun j =>
  sigB (xAt m c (pt (j 0).val)) (ix3 0 0 (j 2))

/-! ## What a point leaves -/

theorem noFetch5 (t : Fin cfg0.N) : (cfg0.win 5).fetch t = false := rfl

/-- The shared block after point `t`: every sublane up to the point's own holds the scales of its point. -/
theorem leaves5 (c : Dev nD) : ∀ (n : ℕ) (t : Fin cfg0.N) (X : Vec F S1x224x8x128 .f32), t.val = n → (rdat m c).Leaves 5 t X →
    ∀ (y : S1x224x8x128.Idx) (u : Fin cfg0.N), (y 2).val ≤ t.val % 8 → u.val = 8 * (t.val / 8) + (y 2).val →
      X y = csB (xAt m c u) (gAt m c u) y
  | n, t, X, hn, ⟨Y, hY, hX⟩, y, u, hy, hu => by
    rw [left5] at hX
    subst hX
    unfold csNext
    rw [coord0]
    by_cases h : (y 2).val = t.val % 8
    · rw [if_pos h]
      have : u = t := Fin.ext (by omega)
      rw [this]
    · rw [if_neg h]
      have h0 : t.val ≠ 0 := by omega
      rw [RDat.finds_of_pos _ (noFetch5 t) h0] at hY
      rcases hY with hf | hL
      · have := (flush0_5 _).mp hf
        dsimp only at this
        omega
      · exact leaves5 c (n - 1) _ Y (by dsimp only; omega) hL y u (by dsimp only; omega) (by dsimp only; omega)
  termination_by n => n
  decreasing_by omega

/-! ## The arrays at a block's element -/

theorem rcG_at (c : Dev nD) (t : Fin cfg0.N) (j : S7168x28672.Idx) (y : S128x28672.Idx)
    (h0 : (j 0).val = t.val * 128 + (y 0).val) (h1 : (j 1).val = (y 1).val) :
    rcG m c j = rcB (xAt m c t) (gAt m c t) y := by
  have hy : (y 0).val < 128 := (y 0).isLt
  have ht : pt ((j 0).val / 128) = t := pt_eq _ _ (by omega)
  unfold rcG
  rw [ht]
  congr 1
  funext a; apply Fin.ext
  match a with
  | 0 => show (j 0).val % 128 = (y 0).val; omega
  | 1 => exact h1

theorem rsG_at (c : Dev nD) (t : Fin cfg0.N) (j : S224x7168.Idx) (y : S224x128.Idx)
    (h1 : (j 1).val = t.val * 128 + (y 1).val) (h0 : (j 0).val = (y 0).val) :
    rsG m c j = rsB (xAt m c t) (gAt m c t) y := by
  have hy : (y 1).val < 128 := (y 1).isLt
  have ht : pt ((j 1).val / 128) = t := pt_eq _ _ (by omega)
  unfold rsG
  rw [ht]
  congr 1
  funext a; apply Fin.ext
  match a with
  | 0 => exact h0
  | 1 => show (j 1).val % 128 = (y 1).val; omega

theorem ccG_at (c : Dev nD) (t : Fin cfg0.N) (j : S28672x7168.Idx) (y : S28672x128.Idx)
    (h1 : (j 1).val = t.val * 128 + (y 1).val) (h0 : (j 0).val = (y 0).val) :
    ccG m c j = ccB (xAt m c t) (gAt m c t) y := by
  have hy : (y 1).val < 128 := (y 1).isLt
  have ht : pt ((j 1).val / 128) = t := pt_eq _ _ (by omega)
  unfold ccG
  rw [ht]
  congr 1
  funext a; apply Fin.ext
  match a with
  | 0 => exact h0
  | 1 => show (j 1).val % 128 = (y 1).val; omega

theorem csG_at (c : Dev nD) (u : Fin cfg0.N) (j : S7x224x8x128.Idx) (y : S1x224x8x128.Idx)
    (hu : u.val = 8 * (j 0).val + (j 2).val) (h1 : (j 1).val = (y 1).val) (h2 : (j 2).val = (y 2).val) (h3 : (j 3).val = (y 3).val) :
    csG m c j = csB (xAt m c u) (gAt m c u) y := by
  have hy : (y 0).val < 1 := (y 0).isLt
  have ht : pt (8 * (j 0).val + (j 2).val) = u := pt_eq _ _ hu.symm
  unfold csG
  rw [ht]
  congr 1
  funext a; apply Fin.ext
  match a with
  | 0 => show 0 = (y 0).val; omega
  | 1 => exact h1
  | 2 => exact h2
  | 3 => exact h3

theorem sigG_at (c : Dev nD) (t : Fin cfg0.N) (j : S56x1x128.Idx) (y : S1x1x128.Idx)
    (h0 : (j 0).val = t.val) (h2 : (j 2).val = (y 2).val) : sigG m c j = sigB (xAt m c t) y := by
  have hy : (y 0).val < 1 := (y 0).isLt
  have hy1 : (y 1).val < 1 := (y 1).isLt
  have ht : pt (j 0).val = t := pt_eq _ _ h0
  unfold sigG
  rw [ht]
  congr 1
  funext a; apply Fin.ext
  match a with
  | 0 => show 0 = (y 0).val; omega
  | 1 => show 0 = (y 1).val; omega
  | 2 => exact h2

/-! ## The run, read -/

section

variable (c : Dev nD) (after : (w : Fin cfg0.W) → Fin cfg0.N → (cfg0.win w).block.Idx → Elt F (cfg0.win w).elt)

theorem arr2 (h : ∀ u, (cfg0.win 2).flush u = true → (rdat m c).Leaves 2 u (after 2 u)) :
    ((rdat m c).withAfter after).arrAt 2 cfg0.N = rcG m c := by
  refine Dat.arrAt_eq_of_covers _ 2 _ (by decide +kernel) fun t hf y => ?_
  obtain ⟨Y, -, hX⟩ := h t hf
  rw [left2] at hX
  blk_simp
  rw [RDat.withAfter_after, hX]
  exact (rcG_at m c t _ _ (by blk_simp [idx2]) (by blk_simp [idx2])).symm

theorem arr3 (h : ∀ u, (cfg0.win 3).flush u = true → (rdat m c).Leaves 3 u (after 3 u)) :
    ((rdat m c).withAfter after).arrAt 3 cfg0.N = rsG m c := by
  refine Dat.arrAt_eq_of_covers _ 3 _ (by decide +kernel) fun t hf y => ?_
  obtain ⟨Y, -, hX⟩ := h t hf
  rw [left3] at hX
  blk_simp
  rw [RDat.withAfter_after, hX]
  exact (rsG_at m c t _ _ (by blk_simp [idx3]) (by blk_simp [idx3])).symm

theorem arr4 (h : ∀ u, (cfg0.win 4).flush u = true → (rdat m c).Leaves 4 u (after 4 u)) :
    ((rdat m c).withAfter after).arrAt 4 cfg0.N = ccG m c := by
  refine Dat.arrAt_eq_of_covers _ 4 _ (by decide +kernel) fun t hf y => ?_
  obtain ⟨Y, -, hX⟩ := h t hf
  rw [left4] at hX
  blk_simp
  rw [RDat.withAfter_after, hX]
  exact (ccG_at m c t _ _ (by blk_simp [idx4]) (by blk_simp [idx4])).symm

theorem arr5 (h : ∀ u, (cfg0.win 5).flush u = true → (rdat m c).Leaves 5 u (after 5 u)) :
    ((rdat m c).withAfter after).arrAt 5 cfg0.N = csG m c := by
  refine Dat.arrAt_eq_of_covers _ 5 _ (by decide +kernel) fun t hf y => ?_
  have hL := h t hf
  have hm := (flush0_5 t).mp hf
  have hy : (y 2).val < 8 := (y 2).isLt
  have hy0 : (y 0).val < 1 := (y 0).isLt
  have hN := points
  have ht := t.isLt
  blk_simp
  rw [RDat.withAfter_after, leaves5 m c t.val t (after 5 t) rfl hL _ ⟨8 * (t.val / 8) + (y 2).val, by omega⟩ (by show (y 2).val ≤ _; omega) rfl]
  exact (csG_at m c _ _ _ (by blk_simp [idx5]) (by blk_simp [idx5]) (by blk_simp [idx5]) (by blk_simp [idx5])).symm

theorem arr6 (h : ∀ u, (cfg0.win 6).flush u = true → (rdat m c).Leaves 6 u (after 6 u)) :
    ((rdat m c).withAfter after).arrAt 6 cfg0.N = sigG m c := by
  refine Dat.arrAt_eq_of_covers _ 6 _ (by decide +kernel) fun t hf y => ?_
  obtain ⟨Y, -, hX⟩ := h t hf
  rw [left6] at hX
  blk_simp
  rw [RDat.withAfter_after, hX]
  have hy0 : (y 0).val < 1 := (y 0).isLt
  exact (sigG_at m c t _ _ (by blk_simp [idx6]) (by blk_simp [idx6])).symm

end

/-- THE RUN: the five result arrays at their named contents, the arguments unchanged. -/
theorem run : θ_run defs (onTc (τ := τ) (main (F := F))) ⟨m, fun _ => 0, ρ⟩ (fun r => ∀ c : Dev nD,
      (r.2.mem ((c.tc : Thread nD τ).loc main_v3_0) = rcG m c
      ∧ r.2.mem ((c.tc : Thread nD τ).loc main_v3_1) = rsG m c
      ∧ r.2.mem ((c.tc : Thread nD τ).loc main_v3_2) = ccG m c
      ∧ r.2.mem ((c.tc : Thread nD τ).loc main_v3_3) = csG m c
      ∧ r.2.mem ((c.tc : Thread nD τ).loc main_v3_4) = sigG m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_values m ρ)
  obtain ⟨after, hL, hA⟩ := RDat.FramePost.exists_exact h c
  exact ⟨⟨(hA 2).trans (arr2 m c after (hL 2)), (hA 3).trans (arr3 m c after (hL 3)), (hA 4).trans (arr4 m c after (hL 4)),
      (hA 5).trans (arr5 m c after (hL 5)), (hA 6).trans (arr6 m c after (hL 6))⟩,
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩

/-! ## What a point reads -/

theorem xAt_apply (c : Dev nD) (t : Fin cfg0.N) (y : S128x28672.Idx) (j : S7x1024x28672.Idx)
    (h0 : t.val * 128 + (y 0).val = (j 0).val * 1024 + (j 1).val) (h2 : (y 1).val = (j 2).val) :
    xAt m c t y = (m ((c.tc : Thread nD τ).loc main_arg0) : Vec F S7x1024x28672 .bf16) j := by
  unfold xAt
  blk_simp [iblk]
  entry_read
  refine shapeCast_apply _ _ _ _ ?_
  refine (Shape.rowMajor_val_three j).trans (Eq.trans ?_ (Shape.rowMajor_val_two _).symm)
  blk_simp [idx0]
  show ((j 0).val * 1024 + (j 1).val) * 28672 + (j 2).val = (t.val * 128 + (y 0).val) * 28672 + (y 1).val
  omega

theorem gAt_apply (c : Dev nD) (t : Fin cfg0.N) (y : S1x28672.Idx) (j : S28672.Idx) (h : (y 1).val = (j 0).val) :
    gAt m c t y = extf .f32 (m ((c.tc : Thread nD τ).loc main_arg1) : Vec F S28672 .bf16) bitsLt_bf16_f32 j := by
  unfold gAt
  blk_simp [iblk]
  entry_read
  refine shapeCast_apply _ _ _ _ ?_
  refine (Shape.rowMajor_val_one j).trans (Eq.trans ?_ (Shape.rowMajor_val_two _).symm)
  blk_simp [idx1]
  exact h.symm

end Cert.Proof.KernelIdeal

end
-- ==== Proof.Scale.lean ====
/- The scale of a group, over the extended reals: the exponent found by eight comparisons against powers of two is the
   floor of the logarithm, so the kernel's two words are the two powers of two of the reference. -/
module

public import proofs.«01_k».proof.Proof.KernelIdealGroup
public import Idealize.ShloMosaic.PureOps.Ideal.Laws

@[expose] public section

set_option maxRecDepth 16384

noncomputable section

namespace Cert.Proof.Scale

open Idealize.ShloMosaic

/-! ## The words -/

/-- The float word of exponent field `k` and no fraction. -/
def word (k : ℕ) : BitVec 32 := BitVec.ofNat 32 (8388608 * k)

theorem word_toNat (k : ℕ) (h : k ≤ 255) : (word k).toNat = 8388608 * k := by
  unfold word; rw [BitVec.toNat_ofNat]; exact Nat.mod_eq_of_lt (by omega)

theorem word_fields (k : ℕ) (h : k ≤ 255) :
    (word k).extractLsb' 31 1 = 0#1 ∧ ((word k).extractLsb' 23 8).toNat = k ∧ ((word k).extractLsb' 0 23).toNat = 0 := by
  refine ⟨?_, ?_, ?_⟩
  · apply BitVec.eq_of_toNat_eq
    rw [BitVec.extractLsb'_toNat, word_toNat k h, Nat.shiftRight_eq_div_pow]
    show 8388608 * k / 2147483648 % 2 = 0
    omega
  · rw [BitVec.extractLsb'_toNat, word_toNat k h, Nat.shiftRight_eq_div_pow]
    show 8388608 * k / 8388608 % 256 = k
    omega
  · rw [BitVec.extractLsb'_toNat, word_toNat k h, Nat.shiftRight_eq_div_pow]
    show 8388608 * k / 1 % 8388608 = 0
    omega

theorem ofBits_word_zero : Ideal.ofBits .f32 (word 0) = 0 := by
  show Ideal.ieee 8 23 (word 0) = 0
  obtain ⟨h1, h2, h3⟩ := word_fields 0 (by omega)
  unfold Ideal.ieee
  simp [h1, h2, h3]

theorem ofBits_word_top : Ideal.ofBits .f32 (word 255) = ⊤ := by
  show Ideal.ieee 8 23 (word 255) = ⊤
  obtain ⟨h1, h2, h3⟩ := word_fields 255 (by omega)
  unfold Ideal.ieee
  simp [h1, h2, h3]

theorem ofBits_word (k : ℕ) (h1 : 1 ≤ k) (h2 : k ≤ 254) :
    Ideal.ofBits .f32 (word k) = (((2 : ℝ) ^ ((k : ℤ) - 127) : ℝ) : EReal) := by
  show Ideal.ieee 8 23 (word k) = _
  obtain ⟨e1, e2, e3⟩ := word_fields k (by omega)
  unfold Ideal.ieee
  simp only [Nat.reduceAdd, e1, e2, e3]
  rw [if_neg (by omega), if_neg (by omega)]
  congr 1
  have : ((k : ℤ) - (2 ^ (8 - 1) - 1) - 23) = ((k : ℤ) - 127) + (-23) := by norm_num; ring
  norm_num
  rw [show ((k : ℤ) - 127 - 23) = ((k : ℤ) - 127) + (-23) by ring, zpow_add₀ (by norm_num)]
  norm_num
  ring

theorem word_lit (k : ℕ) (b : BitVec 32) (hk : k ≤ 255) (h : b.toNat = 8388608 * k) : b = word k :=
  BitVec.eq_of_toNat_eq (h.trans (word_toNat k hk).symm)

theorem word_0 : 0x00000000#32 = word 0 := word_lit 0 _ (by omega) (by decide)
theorem word_1 : 0x00800000#32 = word 1 := word_lit 1 _ (by omega) (by decide)
theorem word_2 : 16777216#32 = word 2 := word_lit 2 _ (by omega) (by decide)
theorem word_4 : 33554432#32 = word 4 := word_lit 4 _ (by omega) (by decide)
theorem word_8 : 67108864#32 = word 8 := word_lit 8 _ (by omega) (by decide)
theorem word_16 : 134217728#32 = word 16 := word_lit 16 _ (by omega) (by decide)
theorem word_32 : 268435456#32 = word 32 := word_lit 32 _ (by omega) (by decide)
theorem word_64 : 536870912#32 = word 64 := word_lit 64 _ (by omega) (by decide)
theorem word_128 : 0x40000000#32 = word 128 := word_lit 128 _ (by omega) (by decide)
theorem word_126 : 1056964608#32 = word 126 := word_lit 126 _ (by omega) (by decide)
theorem word_127 : 0x3F800000#32 = word 127 := word_lit 127 _ (by omega) (by decide)
theorem word_253 : 2122317824#32 = word 253 := word_lit 253 _ (by omega) (by decide)
theorem word_255 : 2139095040#32 = word 255 := word_lit 255 _ (by omega) (by decide)

theorem word_add (k j : ℕ) : word k + word j = word (k + j) := by
  apply BitVec.eq_of_toNat_eq
  unfold word
  rw [BitVec.toNat_add, BitVec.toNat_ofNat, BitVec.toNat_ofNat, BitVec.toNat_ofNat, ← Nat.add_mod]
  rw [← Nat.mul_add]

theorem word_beq (k j : ℕ) (hk : k ≤ 255) (hj : j ≤ 255) : word k = word j ↔ k = j := by
  refine ⟨fun h => ?_, fun h => h ▸ rfl⟩
  have := congrArg BitVec.toNat h
  rw [word_toNat k hk, word_toNat j hj] at this
  omega

attribute [irreducible] word

theorem word_sub (k j : ℕ) (h : j ≤ k) : word k - word j = word (k - j) := by
  have := word_add (k - j) j
  rw [Nat.sub_add_cancel h] at this
  rw [← this]
  generalize word (k - j) = a
  generalize word j = b
  exact BitVec.add_sub_cancel a b

/-! ## The bin of a number -/

/-- `p` is a real number in the bin of exponent field `n`: from `2^(n-127)` up to `2^(n-126)`, and for `n = 0` from zero. -/
def Bin (p : EReal) (n : ℕ) : Prop :=
  ∃ r : ℝ, p = (r : EReal) ∧ 0 ≤ r ∧ n ≤ 252 ∧ r < (2 : ℝ) ^ ((n : ℤ) - 126) ∧ (n ≠ 0 → (2 : ℝ) ^ ((n : ℤ) - 127) ≤ r)

theorem exists_bin (p : EReal) (h0 : 0 ≤ p) (h1 : p < (((2 : ℝ) ^ (126 : ℤ) : ℝ) : EReal)) : ∃ n, Bin p n := by
  induction p using EReal.rec with
  | bot => simp at h0
  | top => simp at h1
  | coe r =>
    have h0 : 0 ≤ r := by exact_mod_cast h0
    have h1 : r < (2 : ℝ) ^ (126 : ℤ) := by exact_mod_cast h1
    have h252 : r < (2 : ℝ) ^ (((252 : ℕ) : ℤ) - 126) := by
      rw [show (((252 : ℕ) : ℤ) - 126) = 126 by norm_num]; exact h1
    have hex : ∃ n : ℕ, r < (2 : ℝ) ^ ((n : ℤ) - 126) := ⟨252, h252⟩
    refine ⟨Nat.find hex, r, rfl, h0, Nat.find_min' hex h252, Nat.find_spec hex, fun hn => ?_⟩
    have := Nat.find_min hex (m := Nat.find hex - 1) (by omega)
    rw [not_lt] at this
    rw [show ((Nat.find hex : ℕ) : ℤ) - 127 = ((Nat.find hex - 1 : ℕ) : ℤ) - 126 by omega]
    exact this

/-- A word's float is at most `p` exactly up to the bin. -/
theorem word_le (p : EReal) (n k : ℕ) (h : Bin p n) (hk : k ≤ 255) : Ideal.ofBits .f32 (word k) ≤ p ↔ k ≤ n := by
  obtain ⟨r, rfl, h0, hn, hu, hl⟩ := h
  by_cases k0 : k = 0
  · subst k0
    rw [ofBits_word_zero]
    exact ⟨fun _ => Nat.zero_le n, fun _ => by exact_mod_cast h0⟩
  by_cases k1 : k = 255
  · subst k1
    rw [ofBits_word_top]
    exact ⟨fun h => absurd (top_le_iff.mp h) (EReal.coe_ne_top r), fun h => absurd h (by omega)⟩
  rw [ofBits_word k (by omega) (by omega), EReal.coe_le_coe_iff]
  constructor
  · intro h
    have := (zpow_lt_zpow_iff_right₀ (by norm_num : (1 : ℝ) < 2)).mp (lt_of_le_of_lt h hu)
    omega
  · intro h
    refine le_trans ?_ (hl (by omega))
    exact zpow_le_zpow_right₀ (by norm_num) (by omega)

/-! ## The kernel's search -/

/-- One step of the search, on exponent fields. -/
def step (n k j : ℕ) : ℕ := if k + j ≤ n then k + j else k

/-- The eight steps find the bin. -/
theorem search_eq (n : ℕ) (hn : n ≤ 252) :
    step n (step n (step n (step n (step n (step n (step n (step n 0 128) 64) 32) 16) 8) 4) 2) 1 = n := by
  have : ∀ n : Fin 253, step n (step n (step n (step n (step n (step n (step n (step n 0 128) 64) 32) 16) 8) 4) 2) 1 = n := by decide +kernel
  exact this ⟨n, by omega⟩

open Cert.KernelIdeal Cert.KernelIdeal.Gen in
theorem ebStep_read (p : FVec Ideal S1x128 .f32) (e : IVec S1x128 32) (i : S1x128.Idx) (w : BitVec 32) :
    Cert.Proof.KernelIdeal.ebStep p e w i =
      Scalar.select (Ideal.cmp .oge (p i) (Ideal.ofBits .f32 (e i + w))) (e i + w) (e i) := rfl

open Cert.KernelIdeal Cert.KernelIdeal.Gen in
/-- One step of the kernel's search at an index. -/
theorem ebStep_at (p : FVec Ideal S1x128 .f32) (e : IVec S1x128 32) (i : S1x128.Idx) (n k j : ℕ) (h : Bin (p i) n)
    (he : e i = word k) (w : BitVec 32) (hw : w = word j) (hk : k + j ≤ 255) : Cert.Proof.KernelIdeal.ebStep p e w i = word (step n k j) := by
  rw [ebStep_read, he, hw, word_add]
  have hw := word_le (p i) n (k + j) h hk
  unfold step Scalar.select
  by_cases hn : k + j ≤ n
  · rw [if_pos hn, if_pos]
    show BitVec.ofBool (decide (Ideal.ofBits .f32 (word (k + j)) ≤ p i)) = 1
    rw [decide_eq_true (hw.mpr hn)]; rfl
  · rw [if_neg hn, if_neg]
    show ¬ BitVec.ofBool (decide (Ideal.ofBits .f32 (word (k + j)) ≤ p i)) = 1
    rw [decide_eq_false (fun h => hn (hw.mp h))]; decide

theorem step_le (n k j : ℕ) : step n k j ≤ k + j := by unfold step; split <;> omega

open Cert.KernelIdeal Cert.KernelIdeal.Gen in
/-- The kernel's search finds the bin. -/
theorem ebSearch_at (p : FVec Ideal S1x128 .f32) (i : S1x128.Idx) (n : ℕ) (h : Bin (p i) n) :
    Cert.Proof.KernelIdeal.ebSearch p i = word n := by
  have hn : n ≤ 252 := by obtain ⟨r, _, _, hn, _⟩ := h; exact hn
  have b1 := step_le n 0 128
  have b2 := step_le n (step n 0 128) 64
  have b3 := step_le n (step n (step n 0 128) 64) 32
  have b4 := step_le n (step n (step n (step n 0 128) 64) 32) 16
  have b5 := step_le n (step n (step n (step n (step n 0 128) 64) 32) 16) 8
  have b6 := step_le n (step n (step n (step n (step n (step n 0 128) 64) 32) 16) 8) 4
  have b7 := step_le n (step n (step n (step n (step n (step n (step n 0 128) 64) 32) 16) 8) 4) 2
  have e0 : (broadcast S1x128 0#32 : IVec S1x128 32) i = word 0 := word_0
  have e1 := ebStep_at p _ i n 0 128 h e0 _ word_128 (by omega)
  have e2 := ebStep_at p _ i n _ 64 h e1 _ word_64 (by omega)
  have e3 := ebStep_at p _ i n _ 32 h e2 _ word_32 (by omega)
  have e4 := ebStep_at p _ i n _ 16 h e3 _ word_16 (by omega)
  have e5 := ebStep_at p _ i n _ 8 h e4 _ word_8 (by omega)
  have e6 := ebStep_at p _ i n _ 4 h e5 _ word_4 (by omega)
  have e7 := ebStep_at p _ i n _ 2 h e6 _ word_2 (by omega)
  have e8 := ebStep_at p _ i n _ 1 h e7 _ word_1 (by omega)
  rw [search_eq n hn] at e8
  exact e8

/-- The exponent field used. -/
def used (n : ℕ) : ℕ := if n = 0 then 126 else n

open Cert.KernelIdeal Cert.KernelIdeal.Gen in
theorem ebOf_read (p : FVec Ideal S1x128 .f32) (i : S1x128.Idx) (e : BitVec 32) (h : Cert.Proof.KernelIdeal.ebSearch p i = e) :
    Cert.Proof.KernelIdeal.ebOf p i = Scalar.select (BitVec.ofBool (e == 0#32) ||| BitVec.ofBool (e == 2139095040#32)) 1056964608#32 e := by
  subst h; rfl

theorem beq_word (a b : ℕ) (ha : a ≤ 255) (hb : b ≤ 255) : (word a == word b) = decide (a = b) := by
  by_cases h : a = b
  · rw [decide_eq_true h, h]; exact beq_self_eq_true _
  · rw [decide_eq_false h]; exact beq_false_of_ne fun e => h ((word_beq a b ha hb).mp e)

open Cert.KernelIdeal Cert.KernelIdeal.Gen in
theorem ebOf_at (p : FVec Ideal S1x128 .f32) (i : S1x128.Idx) (n : ℕ) (h : Bin (p i) n) :
    Cert.Proof.KernelIdeal.ebOf p i = word (used n) := by
  have hn : n ≤ 252 := by obtain ⟨r, _, _, hn, _⟩ := h; exact hn
  rw [ebOf_read p i _ (ebSearch_at p i n h), show 0#32 = word 0 from word_0, word_255, word_126, beq_word n 0 (by omega) (by omega),
    beq_word n 255 (by omega) (by omega), decide_eq_false (p := n = 255) (by omega)]
  unfold Scalar.select used
  by_cases h0 : n = 0
  · rw [if_pos h0, decide_eq_true h0, if_pos]; rfl
  · rw [if_neg h0, decide_eq_false h0, if_neg]; decide

/-- The exponent of the scale. -/
def expo (n : ℕ) : ℤ := (used n : ℤ) - 126

open Cert.KernelIdeal Cert.KernelIdeal.Gen in
/-- The kernel's scale is `2` to the exponent. -/
theorem scale_at (v : FVec Ideal S128x128 .bf16) (i : S1x128.Idx) (n : ℕ) (h : Bin (Cert.Proof.KernelIdeal.amax v i) n) :
    Cert.Proof.KernelIdeal.scale v i = (((2 : ℝ) ^ (expo n) : ℝ) : EReal) := by
  have hn : n ≤ 252 := by obtain ⟨r, _, _, hn, _⟩ := h; exact hn
  have e : Cert.Proof.KernelIdeal.scale v i = Ideal.ofBits .f32 (Cert.Proof.KernelIdeal.ebOf (Cert.Proof.KernelIdeal.amax v) i + 8388608#32) := rfl
  have hu : used n ≤ 252 := by unfold used; split <;> omega
  rw [e, show 8388608#32 = word 1 from word_1, ebOf_at _ i n h, word_add, ofBits_word _ (by omega) (by omega)]
  congr 2; unfold expo; push_cast; ring

open Cert.KernelIdeal Cert.KernelIdeal.Gen in
/-- The kernel's reciprocal scale is `2` to minus the exponent. -/
theorem invScale_at (v : FVec Ideal S128x128 .bf16) (i : S1x128.Idx) (n : ℕ) (h : Bin (Cert.Proof.KernelIdeal.amax v i) n) :
    Cert.Proof.KernelIdeal.invScale v i = (((2 : ℝ) ^ (-expo n) : ℝ) : EReal) := by
  have hn : n ≤ 252 := by obtain ⟨r, _, _, hn, _⟩ := h; exact hn
  have e : Cert.Proof.KernelIdeal.invScale v i = Ideal.ofBits .f32 (2122317824#32 - Cert.Proof.KernelIdeal.ebOf (Cert.Proof.KernelIdeal.amax v) i) := rfl
  have hu : used n ≤ 252 := by unfold used; split <;> omega
  rw [e, word_253, ebOf_at _ i n h, word_sub _ _ (by omega), ofBits_word _ (by omega) (by omega)]
  congr 2; unfold expo; rw [Nat.cast_sub (by omega)]; push_cast; ring

/-! ## The reference's exponent -/

/-- The exponent by logarithms: zero below the normal range. -/
def refE (p : EReal) : EReal :=
  Scalar.select (Ideal.cmp .olt p (Ideal.ofBits .f32 0x00800000#32)) (Ideal.ofBits .f32 0x00000000#32)
    (Ideal.liftRound Int.floor (Ideal.div (Ideal.log p) (Ideal.log (Ideal.ofBits .f32 0x40000000#32))) + Ideal.ofBits .f32 0x3F800000#32)

theorem ofBits_two : Ideal.ofBits .f32 0x40000000#32 = ((2 : ℝ) : EReal) := by
  have := ofBits_word 128 (by omega) (by omega)
  rw [word_128, this]; norm_num

theorem ofBits_one : Ideal.ofBits .f32 0x3F800000#32 = ((1 : ℝ) : EReal) := by
  have := ofBits_word 127 (by omega) (by omega)
  rw [word_127, this]; norm_num

theorem ofBits_zero : Ideal.ofBits .f32 0x00000000#32 = ((0 : ℝ) : EReal) := by
  rw [word_0, ofBits_word_zero]; rfl

theorem refE_eq (p : EReal) (n : ℕ) (h : Bin p n) : refE p = ((expo n : ℝ) : EReal) := by
  have hw := word_le p n 1 h (by omega)
  obtain ⟨r, rfl, h0, hn, hu, hl⟩ := h
  unfold refE Scalar.select
  rw [word_1]
  by_cases hz : n = 0
  · subst hz
    rw [if_pos, ofBits_zero]
    · norm_num [expo, used]
    · show BitVec.ofBool (decide ((r : EReal) < Ideal.ofBits .f32 (word 1))) = 1
      rw [decide_eq_true (not_le.mp fun h => absurd (hw.mp h) (by omega))]; rfl
  · rw [if_neg]
    swap
    · show ¬ BitVec.ofBool (decide ((r : EReal) < Ideal.ofBits .f32 (word 1))) = 1
      rw [decide_eq_false (not_lt.mpr (hw.mpr (by omega)))]; decide
    have hl := hl hz
    have hpos : 0 < r := lt_of_lt_of_le (by positivity) hl
    have l2 : 0 < Real.log 2 := Real.log_pos (by norm_num)
    rw [ofBits_two, ofBits_one, Ideal.log_coe, Ideal.log_coe, if_neg (not_le.mpr hpos), if_neg (by norm_num), Ideal.div_coe l2.ne', ← EReal.coe_mul,
      mul_one_div]
    have hfl : ⌊Real.log r / Real.log 2⌋ = (n : ℤ) - 127 := by
      rw [Int.floor_eq_iff]
      constructor
      · rw [le_div_iff₀ l2, ← Real.log_zpow]
        exact Real.log_le_log (by positivity) hl
      · rw [div_lt_iff₀ l2, show (((n : ℤ) - 127 : ℤ) : ℝ) + 1 = (((n : ℤ) - 126 : ℤ) : ℝ) by push_cast; ring, ← Real.log_zpow]
        exact Real.log_lt_log hpos hu
    have : Ideal.liftRound Int.floor ((Real.log r / Real.log 2 : ℝ) : EReal) = (((⌊Real.log r / Real.log 2⌋ : ℤ) : ℝ) : EReal) := rfl
    rw [this, hfl, ← EReal.coe_add]
    congr 1
    unfold expo used
    rw [if_neg hz]; push_cast; ring

theorem ref_scale (p : EReal) (n : ℕ) (h : Bin p n) :
    Ideal.pow (Ideal.ofBits .f32 0x40000000#32) (refE p) = (((2 : ℝ) ^ (expo n) : ℝ) : EReal) := by
  rw [refE_eq p n h, ofBits_two, Ideal.pow_coe_coe]
  congr 1
  exact Real.rpow_intCast 2 (expo n)

theorem ref_inv (p : EReal) (n : ℕ) (h : Bin p n) :
    Ideal.pow (Ideal.ofBits .f32 0x40000000#32) (-(refE p)) = (((2 : ℝ) ^ (-expo n) : ℝ) : EReal) := by
  rw [refE_eq p n h, ofBits_two, ← EReal.coe_neg, Ideal.pow_coe_coe]
  congr 1
  have := Real.rpow_intCast 2 (-expo n)
  rw [Int.cast_neg] at this
  exact this

end Cert.Proof.Scale

end
-- ==== Proof.Spec.lean ====
/- The mathematics of the problem over the extended reals, on arrays indexed by natural numbers: the normalised rows, the scale
   and the codes of a group of 128 numbers; and the bound that keeps every group's scale in the range of the search. -/
module

public import proofs.«01_k».proof.Proof.Scale

@[expose] public section

set_option maxRecDepth 16384

noncomputable section

namespace Cert.Proof.Spec

open Idealize.ShloMosaic Cert.Proof.Scale

/-- The sum of the squares of row `r`. -/
def rowSum (X : ℕ → ℕ → EReal) (r : ℕ) : EReal := ∑ c ∈ Finset.range 28672, X r c * X r c

/-- The reciprocal root mean square of row `r`. -/
def rsig (X : ℕ → ℕ → EReal) (r : ℕ) : EReal :=
  Ideal.rsqrt (rowSum X r * ((1 / 28672 : ℝ) : EReal) + Ideal.ofBits .f32 0x3727C5AC#32)

/-- The normalised element. -/
def yv (X : ℕ → ℕ → EReal) (γ : ℕ → EReal) (r c : ℕ) : EReal := X r c * rsig X r * γ c

/-- The largest absolute value of 128 numbers. -/
def big (f : Fin 128 → EReal) : EReal := (Finset.univ : Finset (Fin 128)).fold max ⊥ (fun k => max (f k) (-(f k)))

/-- What the scale is taken from: the largest absolute value times the rounded 1/448. -/
def pOf (f : Fin 128 → EReal) : EReal := big f * Ideal.ofBits .f32 0x3B124925#32

/-- The scale of 128 numbers. -/
def sc (f : Fin 128 → EReal) : EReal := Ideal.pow (Ideal.ofBits .f32 0x40000000#32) (refE (pOf f))

/-- Its reciprocal. -/
def inv (f : Fin 128 → EReal) : EReal := Ideal.pow (Ideal.ofBits .f32 0x40000000#32) (-(refE (pOf f)))

/-- The code of `v` by the reciprocal scale `i`: clipped to ±448. -/
def code (v i : EReal) : EReal :=
  min (Ideal.ofBits .f32 0x43E00000#32) (max (Ideal.ofBits .f32 0xC3E00000#32) (v * i))

/-- The group of row `r` at columns `128 g` to `128 g + 127`. -/
def rowGrp (X : ℕ → ℕ → EReal) (γ : ℕ → EReal) (r g : ℕ) : Fin 128 → EReal := fun k => yv X γ r (128 * g + k.val)

/-- The group of column `c` at rows `128 b` to `128 b + 127`. -/
def colGrp (X : ℕ → ℕ → EReal) (γ : ℕ → EReal) (b c : ℕ) : Fin 128 → EReal := fun k => yv X γ (128 * b + k.val) c

/-! ## The bound -/

theorem ieee_eps : ∃ e : ℝ, 0 < e ∧ Ideal.ofBits .f32 0x3727C5AC#32 = (e : EReal) := by
  refine ⟨((2 ^ 23 + 2606508 : ℕ) : ℝ) * (2 : ℝ) ^ ((110 : ℤ) - 127 - 23), by positivity, ?_⟩
  show Ideal.ieee 8 23 (0x3727C5AC#32) = _
  have e1 : (0x3727C5AC#32).extractLsb' 31 1 = 0#1 := by decide
  have e2 : ((0x3727C5AC#32).extractLsb' 23 8).toNat = 110 := by decide
  have e3 : ((0x3727C5AC#32).extractLsb' 0 23).toNat = 2606508 := by decide
  unfold Ideal.ieee
  simp only [Nat.reduceAdd, e1, e2, e3]
  rw [if_neg (by omega), if_neg (by omega)]
  congr 1
  norm_num

theorem ieee_448 : ∃ e : ℝ, 0 < e ∧ 170 * e < 1 ∧ Ideal.ofBits .f32 0x3B124925#32 = (e : EReal) := by
  refine ⟨((2 ^ 23 + 1198373 : ℕ) : ℝ) * (2 : ℝ) ^ ((118 : ℤ) - 127 - 23), by positivity, by norm_num, ?_⟩
  show Ideal.ieee 8 23 (0x3B124925#32) = _
  have e1 : (0x3B124925#32).extractLsb' 31 1 = 0#1 := by decide
  have e2 : ((0x3B124925#32).extractLsb' 23 8).toNat = 118 := by decide
  have e3 : ((0x3B124925#32).extractLsb' 0 23).toNat = 1198373 := by decide
  unfold Ideal.ieee
  simp only [Nat.reduceAdd, e1, e2, e3]
  rw [if_neg (by omega), if_neg (by omega)]
  congr 1
  norm_num

theorem ofBits_bound : Ideal.ofBits .f32 0x7E800000#32 = (((2 : ℝ) ^ (126 : ℤ) : ℝ) : EReal) := by
  rw [word_lit 253 0x7E800000#32 (by omega) (by decide), ofBits_word 253 (by omega) (by omega)]
  norm_num

theorem sq_nonneg (x : EReal) : 0 ≤ x * x := by
  induction x using EReal.rec with
  | bot => rw [EReal.bot_mul_bot]; exact le_top
  | top => rw [EReal.top_mul_top]; exact le_top
  | coe r => rw [← EReal.coe_mul]; exact_mod_cast mul_self_nonneg r

theorem rowSum_nonneg (X : ℕ → ℕ → EReal) (r : ℕ) : 0 ≤ rowSum X r := Finset.sum_nonneg fun c _ => sq_nonneg (X r c)

theorem sq_le_rowSum (X : ℕ → ℕ → EReal) (r c : ℕ) (hc : c < 28672) : X r c * X r c ≤ rowSum X r :=
  Finset.single_le_sum (f := fun c => X r c * X r c) (fun c _ => sq_nonneg (X r c)) (Finset.mem_range.mpr hc)

theorem abs_le (x : EReal) (b : ℝ) (h : max x (-x) ≤ (b : EReal)) : ∃ r : ℝ, x = (r : EReal) ∧ |r| ≤ b := by
  obtain ⟨h1, h2⟩ := max_le_iff.mp h
  induction x using EReal.rec with
  | bot => rw [EReal.neg_bot] at h2; exact absurd (top_le_iff.mp h2) (EReal.coe_ne_top b)
  | top => exact absurd (top_le_iff.mp h1) (EReal.coe_ne_top b)
  | coe r =>
    rw [← EReal.coe_neg] at h2
    exact ⟨r, rfl, abs_le'.mpr ⟨by exact_mod_cast h1, by exact_mod_cast h2⟩⟩

/-- A normalised element times a `γ` of at most `2^126` is at most `170 · 2^126`. -/
theorem yv_le (X : ℕ → ℕ → EReal) (γ : ℕ → EReal) (hγ : ∀ c, max (γ c) (-(γ c)) ≤ Ideal.ofBits .f32 0x7E800000#32)
    (r c : ℕ) (hc : c < 28672) : max (yv X γ r c) (-(yv X γ r c)) ≤ ((170 * (2 : ℝ) ^ (126 : ℤ) : ℝ) : EReal) := by
  obtain ⟨e, he, hee⟩ := ieee_eps
  have h0 := rowSum_nonneg X r
  have h1 := sq_le_rowSum X r c hc
  obtain ⟨g, hg, hgb⟩ := abs_le (γ c) _ (ofBits_bound ▸ hγ c)
  unfold yv rsig
  rw [hee, hg]
  generalize rowSum X r = S at h0 h1
  induction S using EReal.rec with
  | bot => simp at h0
  | top =>
    rw [EReal.top_mul_coe_of_pos (by norm_num), EReal.top_add_coe]
    have : Ideal.rsqrt ⊤ = 0 := rfl
    rw [this, mul_zero, zero_mul, neg_zero, max_self]
    have : (0 : ℝ) ≤ 170 * (2 : ℝ) ^ (126 : ℤ) := by positivity
    exact_mod_cast this
  | coe s =>
    have h0 : 0 ≤ s := by exact_mod_cast h0
    generalize X r c = x at h1
    induction x using EReal.rec with
    | bot => rw [EReal.bot_mul_bot] at h1; exact absurd (top_le_iff.mp h1) (EReal.coe_ne_top s)
    | top => rw [EReal.top_mul_top] at h1; exact absurd (top_le_iff.mp h1) (EReal.coe_ne_top s)
    | coe x =>
      rw [← EReal.coe_mul] at h1
      have h1 : x * x ≤ s := by exact_mod_cast h1
      have ht : 0 < s * (1 / 28672) + e := by positivity
      have hq : 0 < Real.sqrt (s * (1 / 28672) + e) := Real.sqrt_pos.mpr ht
      have hr : Ideal.rsqrt ((s * (1 / 28672) + e : ℝ) : EReal) = (((Real.sqrt (s * (1 / 28672) + e))⁻¹ : ℝ) : EReal) := by
        rw [Ideal.rsqrt_coe, if_neg (not_lt.mpr ht.le), if_neg ht.ne']
      rw [← EReal.coe_mul, ← EReal.coe_add, hr, ← EReal.coe_mul, ← EReal.coe_mul, ← EReal.coe_neg]
      have hx : |x * (Real.sqrt (s * (1 / 28672) + e))⁻¹| ≤ 170 := by
        rw [abs_mul, abs_of_pos (inv_pos.mpr hq), ← div_eq_mul_inv, div_le_iff₀ hq]
        apply abs_le_of_sq_le_sq _ (by positivity)
        rw [mul_pow, Real.sq_sqrt ht.le]
        nlinarith
      have hy : |x * (Real.sqrt (s * (1 / 28672) + e))⁻¹ * g| ≤ 170 * (2 : ℝ) ^ (126 : ℤ) := by
        rw [abs_mul]; exact mul_le_mul hx hgb (abs_nonneg _) (by norm_num)
      obtain ⟨ha, hb⟩ := abs_le'.mp hy
      exact max_le (EReal.coe_le_coe_iff.mpr ha) (EReal.coe_le_coe_iff.mpr hb)

theorem max_neg_nonneg (x : EReal) : 0 ≤ max x (-x) := by
  rcases le_total 0 x with h | h
  · exact le_trans h (le_max_left _ _)
  · exact le_trans (EReal.neg_nonneg.mpr h) (le_max_right _ _)

/-- A group of elements so bounded has its scale in the range of the search. -/
theorem pOf_bin (f : Fin 128 → EReal) (hf : ∀ k, max (f k) (-(f k)) ≤ ((170 * (2 : ℝ) ^ (126 : ℤ) : ℝ) : EReal)) :
    ∃ n, Bin (pOf f) n := by
  obtain ⟨e, he, h170, hee⟩ := ieee_448
  have hb : big f ≤ ((170 * (2 : ℝ) ^ (126 : ℤ) : ℝ) : EReal) := (Finset.fold_max_le _).mpr ⟨bot_le, fun k _ => hf k⟩
  have h0 : 0 ≤ big f := (Finset.le_fold_max _).mpr (Or.inr ⟨0, Finset.mem_univ _, max_neg_nonneg _⟩)
  have hp : pOf f = big f * (e : EReal) := by unfold pOf; rw [hee]
  generalize big f = b at hb h0 hp
  induction b using EReal.rec with
  | bot => simp at h0
  | top => exact absurd (top_le_iff.mp hb) (EReal.coe_ne_top _)
  | coe b =>
    have h0 : 0 ≤ b := by exact_mod_cast h0
    have hb : b ≤ 170 * (2 : ℝ) ^ (126 : ℤ) := EReal.coe_le_coe_iff.mp hb
    rw [← EReal.coe_mul] at hp
    apply exists_bin
    · rw [hp]; exact_mod_cast mul_nonneg h0 he.le
    · rw [hp, EReal.coe_lt_coe_iff]
      have hP : (0 : ℝ) < (2 : ℝ) ^ (126 : ℤ) := by positivity
      calc b * e ≤ 170 * (2 : ℝ) ^ (126 : ℤ) * e := mul_le_mul_of_nonneg_right hb he.le
        _ = (170 * e) * (2 : ℝ) ^ (126 : ℤ) := by ring
        _ < 1 * (2 : ℝ) ^ (126 : ℤ) := mul_lt_mul_of_pos_right h170 hP
        _ = _ := one_mul _

end Cert.Proof.Spec

end
-- ==== Proof.IdealSums.lean ====
/- The sums of squares over the extended reals: the seven chunks of eight slabs of 32 tiles, transposed and halved, are the sum
   over a row's 28672 columns. -/
module

public import proofs.«01_k».proof.Proof.KernelIdealRun
public import proofs.«01_k».proof.Proof.Spec
public import Idealize.ShloMosaic.Lib.Pipeline.ValueKit.Tiles

@[expose] public section

set_option maxRecDepth 16384
set_option maxHeartbeats 400000

noncomputable section

namespace Cert.Proof.KernelIdeal

open Cert.KernelIdeal Cert.KernelIdeal.Gen
open Idealize.ShloMosaic

theorem trips_t1 : k0_t1_loop.trips = 7 := by decide

/-- Consecutive runs of `b` terms are one run of `a * b`. -/
theorem sum_runs (a b : ℕ) (f : ℕ → EReal) :
    ∑ k ∈ Finset.range a, ∑ l ∈ Finset.range b, f (b * k + l) = ∑ n ∈ Finset.range (a * b), f n := by
  induction a with
  | zero => rw [Nat.zero_mul, Finset.range_zero, Finset.sum_empty, Finset.sum_empty]
  | succ a ih => rw [Finset.sum_range_succ, ih, Nat.succ_mul, Finset.sum_range_add, Nat.mul_comm b a]

theorem sq_at (v : Vec Ideal S16x128 .bf16) (i : S16x128.Idx) : sq (F := Ideal) v i = v i * v i := by
  have e : shapeCast S16x128 v shapeCasts_S16x128_S16x128 i = v i := shapeCast_apply v _ i i rfl
  show shapeCast S16x128 v shapeCasts_S16x128_S16x128 i * shapeCast S16x128 v shapeCasts_S16x128_S16x128 i = _
  rw [e]

theorem slabTo_at (t : Fin 32 → Vec Ideal S16x128 .bf16) (i : S16x128.Idx) (q : ℕ → EReal)
    (hq : ∀ k (h : k < 32), t ⟨k, h⟩ i * t ⟨k, h⟩ i = q k) :
    ∀ (n : ℕ) (h : n < 32), slabTo (F := Ideal) t n h i = ∑ k ∈ Finset.range (n + 1), q k
  | 0, h => by
    rw [Finset.sum_range_one, ← hq 0 h]; exact sq_at _ i
  | n + 1, h => by
    rw [Finset.sum_range_succ, ← slabTo_at t i q hq n (Nat.lt_of_succ_lt h), ← hq (n + 1) h, ← sq_at]; rfl

theorem slab_at (t : Fin 32 → Vec Ideal S16x128 .bf16) (i : S16x128.Idx) (q : ℕ → EReal)
    (hq : ∀ k (h : k < 32), t ⟨k, h⟩ i * t ⟨k, h⟩ i = q k) : slab (F := Ideal) t i = ∑ k ∈ Finset.range 32, q k :=
  slabTo_at t i q hq 31 (by decide)

/-- A stack of eight slabs at an index. -/
theorem stack_at (f : Fin 8 → FVec Ideal S16x128 .f32) (j : S128x128.Idx) (n : Fin 8) (y : S16x128.Idx)
    (h : (j 1).val = 16 * n.val + (y 0).val) (h1 : (y 1).val = (j 0).val) :
    stack (F := Ideal) (f 0) (f 1) (f 2) (f 3) (f 4) (f 5) (f 6) (f 7) j = f n y := by
  have hy : (y 0).val < 16 := (y 0).isLt
  refine (transpose_apply [1, 0] _ transposes_S128x128_p1_0_S128x128 j (ix2 ⟨(j 1).val, (j 1).isLt⟩ ⟨(j 0).val, (j 0).isLt⟩) (fun b => ?_)).trans ?_
  · match b with
    | 0 => rfl
    | 1 => rfl
  · refine concatenate_ofFn_apply (t := S128x128) (s₁ := S16x128) 0 f
      concatenates_S16x128_S16x128_S16x128_S16x128_S16x128_S16x128_S16x128_S16x128_S128x128_d0 rfl 16 rfl _ n ?_ y ?_ (fun b hb => ?_)
    · show (j 1).val / 16 = n.val; omega
    · show (y 0).val = (j 1).val % 16; omega
    · match b with
      | 0 => exact absurd rfl hb
      | 1 => exact h1

/-- The sum over the sublanes of a 128 by 128 block. -/
theorem by_at (T : FVec Ideal S128x128 .f32) (i : S1x128.Idx) (q : ℕ → EReal)
    (hq : ∀ l (h : l < 128), T (ix2 ⟨l, h⟩ (i 1)) = q l) :
    by1 (F := Ideal) (by2 (by4 (by8 T))) i = ∑ l ∈ Finset.range 128, q l := by
  obtain ⟨B, hB⟩ : ∃ B : ℕ → EReal, ∀ s, B s = ∑ g ∈ Finset.range 16, q (8 * g + s) := ⟨_, fun _ => rfl⟩
  have e8 : ∀ s (h : s < 8), by8 (F := Ideal) T (ix2 ⟨s, h⟩ (i 1)) = B s := by
    intro s h
    rw [hB s]
    have p : ∀ (g : ℕ) (hg : g < 16) (hs : S128x128.Slices ![8 * g, 0] S8x128),
        extractStridedSlice S8x128 ![8 * g, 0] T hs (ix2 ⟨s, h⟩ (i 1)) = q (8 * g + s) := by
      intro g hg hs
      rw [← hq (8 * g + s) (by omega)]
      refine extractStridedSlice_apply _ _ _ _ _ (fun a => ?_)
      match a with
      | 0 => rfl
      | 1 => exact (Nat.zero_add _).symm
    simp only [Finset.sum_range_succ, Finset.sum_range_zero, zero_add]
    rw [← p 0 (by omega) slices_S128x128_o0_0_S8x128, ← p 1 (by omega) slices_S128x128_o8_0_S8x128,
      ← p 2 (by omega) slices_S128x128_o16_0_S8x128, ← p 3 (by omega) slices_S128x128_o24_0_S8x128,
      ← p 4 (by omega) slices_S128x128_o32_0_S8x128, ← p 5 (by omega) slices_S128x128_o40_0_S8x128,
      ← p 6 (by omega) slices_S128x128_o48_0_S8x128, ← p 7 (by omega) slices_S128x128_o56_0_S8x128,
      ← p 8 (by omega) slices_S128x128_o64_0_S8x128, ← p 9 (by omega) slices_S128x128_o72_0_S8x128,
      ← p 10 (by omega) slices_S128x128_o80_0_S8x128, ← p 11 (by omega) slices_S128x128_o88_0_S8x128,
      ← p 12 (by omega) slices_S128x128_o96_0_S8x128, ← p 13 (by omega) slices_S128x128_o104_0_S8x128,
      ← p 14 (by omega) slices_S128x128_o112_0_S8x128, ← p 15 (by omega) slices_S128x128_o120_0_S8x128]
    rfl
  generalize by8 (F := Ideal) T = T8 at e8
  have e4 : ∀ s (h : s < 4), by4 (F := Ideal) T8 (ix2 ⟨s, h⟩ (i 1)) = T8 (ix2 ⟨s, by omega⟩ (i 1)) + T8 (ix2 ⟨4 + s, by omega⟩ (i 1)) := by
    intro s h
    refine congrArg₂ (fun a b : EReal => a + b) ?_ ?_
    · refine extractStridedSlice_apply _ _ _ _ _ (fun a => ?_)
      match a with
      | 0 => exact (Nat.zero_add _).symm
      | 1 => exact (Nat.zero_add _).symm
    · refine extractStridedSlice_apply _ _ _ _ _ (fun a => ?_)
      match a with
      | 0 => rfl
      | 1 => exact (Nat.zero_add _).symm
  have e2 : ∀ (T4 : FVec Ideal S4x128 .f32) s (h : s < 2), by2 (F := Ideal) T4 (ix2 ⟨s, h⟩ (i 1)) = T4 (ix2 ⟨s, by omega⟩ (i 1)) + T4 (ix2 ⟨2 + s, by omega⟩ (i 1)) := by
    intro T4 s h
    refine congrArg₂ (fun a b : EReal => a + b) ?_ ?_
    · refine extractStridedSlice_apply _ _ _ _ _ (fun a => ?_)
      match a with
      | 0 => exact (Nat.zero_add _).symm
      | 1 => exact (Nat.zero_add _).symm
    · refine extractStridedSlice_apply _ _ _ _ _ (fun a => ?_)
      match a with
      | 0 => rfl
      | 1 => exact (Nat.zero_add _).symm
  have e1 : ∀ (T2 : FVec Ideal S2x128 .f32), by1 (F := Ideal) T2 i = T2 (ix2 0 (i 1)) + T2 (ix2 1 (i 1)) := by
    intro T2
    have h0 : (i 0).val = 0 := by have h : (i 0).val < 1 := (i 0).isLt; omega
    refine congrArg₂ (fun a b : EReal => a + b) ?_ ?_
    · refine extractStridedSlice_apply _ _ _ _ _ (fun a => ?_)
      match a with
      | 0 => show 0 = 0 + (i 0).val; omega
      | 1 => exact (Nat.zero_add _).symm
    · refine extractStridedSlice_apply _ _ _ _ _ (fun a => ?_)
      match a with
      | 0 => show 1 = 1 + (i 0).val; omega
      | 1 => exact (Nat.zero_add _).symm
  have hs := sum_runs 16 8 q
  rw [show 16 * 8 = 128 from rfl] at hs
  rw [← hs, Finset.sum_comm, Finset.sum_congr rfl fun y _ => (hB y).symm, e1]
  have a0 := e2 (by4 (F := Ideal) T8) 0 (by omega)
  have a1 := e2 (by4 (F := Ideal) T8) 1 (by omega)
  rw [e4, e4] at a0 a1
  rw [e8, e8, e8, e8] at a0 a1
  refine (congrArg₂ (fun a b : EReal => a + b) a0 a1).trans ?_
  rw [Finset.sum_range_succ, Finset.sum_range_succ, Finset.sum_range_succ, Finset.sum_range_succ, Finset.sum_range_succ,
    Finset.sum_range_succ, Finset.sum_range_succ, Finset.sum_range_succ, Finset.sum_range_zero, zero_add]
  show (B 0 + B 4 + (B 2 + B 6)) + (B 1 + B 5 + (B 3 + B 7)) = _
  ac_rfl

/-- A tile of a block of `x` at an index. -/
theorem tile_at (x : Vec Ideal S128x28672 .bf16) (off : Fin 2 → ℕ) (inb) (a b : ℕ) (e : off = ![a, b]) (y : S16x128.Idx) (i : S128x28672.Idx)
    (h0 : (i 0).val = a + (y 0).val) (h1 : (i 1).val = b + (y 1).val) :
    View.ld x (Rect.unit (s := S128x28672) off S16x128.size inb) y = x i := by
  subst e
  refine View.ld_unit_apply_of x _ _ inb y i (fun c => ?_)
  match c with
  | 0 => exact h0
  | 1 => exact h1

/-- A chunk's stack at an index. -/
theorem chunkX_at (x : Vec Ideal S128x28672 .bf16) (k : Fin k0_t1_loop.trips) (j : S128x128.Idx) (q : ℕ → EReal)
    (hq : ∀ c (h : c < 28672), x (ix2 ⟨(j 1).val, (j 1).isLt⟩ ⟨c, h⟩) * x (ix2 ⟨(j 1).val, (j 1).isLt⟩ ⟨c, h⟩) = q c) :
    chunkX (F := Ideal) x k j = ∑ t ∈ Finset.range 32, q (4096 * k.val + 128 * t + (j 0).val) := by
  have hj : (j 1).val < 128 := (j 1).isLt
  have hj0 : (j 0).val < 128 := (j 0).isLt
  have hk : k.val < 7 := lt_of_lt_of_eq k.isLt trips_t1
  let f : Fin 8 → FVec Ideal S16x128 .f32 := ![
    slab fun r => View.ld x (Rect.unit (s := S128x28672) (k0_off1 k (BitVec.ofNat 32 r.val)) S16x128.size (k0_off1_inb k r)),
    slab fun r => View.ld x (Rect.unit (s := S128x28672) (k0_off2 k (BitVec.ofNat 32 r.val)) S16x128.size (k0_off2_inb k r)),
    slab fun r => View.ld x (Rect.unit (s := S128x28672) (k0_off3 k (BitVec.ofNat 32 r.val)) S16x128.size (k0_off3_inb k r)),
    slab fun r => View.ld x (Rect.unit (s := S128x28672) (k0_off4 k (BitVec.ofNat 32 r.val)) S16x128.size (k0_off4_inb k r)),
    slab fun r => View.ld x (Rect.unit (s := S128x28672) (k0_off5 k (BitVec.ofNat 32 r.val)) S16x128.size (k0_off5_inb k r)),
    slab fun r => View.ld x (Rect.unit (s := S128x28672) (k0_off6 k (BitVec.ofNat 32 r.val)) S16x128.size (k0_off6_inb k r)),
    slab fun r => View.ld x (Rect.unit (s := S128x28672) (k0_off7 k (BitVec.ofNat 32 r.val)) S16x128.size (k0_off7_inb k r)),
    slab fun r => View.ld x (Rect.unit (s := S128x28672) (k0_off8 k (BitVec.ofNat 32 r.val)) S16x128.size (k0_off8_inb k r))]
  have tile : ∀ (n : ℕ) (hn : n = (j 1).val / 16) (off : Fin 32 → Fin 2 → ℕ) (inb : ∀ (r : Fin 32) (a : Fin 2), off r a + S16x128.size a ≤ S128x28672.size a) (he : ∀ r, off r = ![16 * n, 4096 * k.val + 128 * r.val]),
      slab (F := Ideal) (fun r => View.ld x (Rect.unit (s := S128x28672) (off r) S16x128.size (inb r)))
        (ix2 ⟨(j 1).val % 16, by omega⟩ ⟨(j 0).val, hj0⟩) = ∑ t ∈ Finset.range 32, q (4096 * k.val + 128 * t + (j 0).val) := by
    intro n hn off inb he
    refine slab_at _ _ _ (fun t ht => ?_)
    rw [← hq (4096 * k.val + 128 * t + (j 0).val) (by omega)]
    have e := tile_at x (off ⟨t, ht⟩) (inb ⟨t, ht⟩) _ _ (he ⟨t, ht⟩) (ix2 ⟨(j 1).val % 16, by omega⟩ ⟨(j 0).val, hj0⟩)
      (ix2 ⟨(j 1).val, (j 1).isLt⟩ ⟨4096 * k.val + 128 * t + (j 0).val, by omega⟩)
      (by show (j 1).val = 16 * n + (j 1).val % 16; omega) rfl
    exact congrArg₂ (fun a b : EReal => a * b) e e
  have e : chunkX (F := Ideal) x k j = f ⟨(j 1).val / 16, by omega⟩ (ix2 ⟨(j 1).val % 16, by omega⟩ ⟨(j 0).val, hj0⟩) :=
    stack_at f j ⟨(j 1).val / 16, by omega⟩ _ (by show (j 1).val = 16 * ((j 1).val / 16) + (j 1).val % 16; omega) rfl
  rw [e]
  have hcase : ∀ n : Fin 8, n.val = (j 1).val / 16 → f n (ix2 ⟨(j 1).val % 16, by omega⟩ ⟨(j 0).val, hj0⟩) =
      ∑ t ∈ Finset.range 32, q (4096 * k.val + 128 * t + (j 0).val) := by
    intro n hn
    match n with
    | 0 => exact tile 0 hn _ (fun r => k0_off1_inb k r) (fun r => k0_off1_eq k r)
    | 1 => exact tile 1 hn _ (fun r => k0_off2_inb k r) (fun r => k0_off2_eq k r)
    | 2 => exact tile 2 hn _ (fun r => k0_off3_inb k r) (fun r => k0_off3_eq k r)
    | 3 => exact tile 3 hn _ (fun r => k0_off4_inb k r) (fun r => k0_off4_eq k r)
    | 4 => exact tile 4 hn _ (fun r => k0_off5_inb k r) (fun r => k0_off5_eq k r)
    | 5 => exact tile 5 hn _ (fun r => k0_off6_inb k r) (fun r => k0_off6_eq k r)
    | 6 => exact tile 6 hn _ (fun r => k0_off7_inb k r) (fun r => k0_off7_eq k r)
    | 7 => exact tile 7 hn _ (fun r => k0_off8_inb k r) (fun r => k0_off8_eq k r)
  exact hcase _ rfl

/-- The sums over the first `n` chunks. -/
theorem sumTo_at (x : Vec Ideal S128x28672 .bf16) (i : S1x128.Idx) (q : ℕ → EReal)
    (hq : ∀ c (h : c < 28672), x (ix2 ⟨(i 1).val, (i 1).isLt⟩ ⟨c, h⟩) * x (ix2 ⟨(i 1).val, (i 1).isLt⟩ ⟨c, h⟩) = q c) :
    ∀ n, n ≤ 7 → sumTo (F := Ideal) x n i = ∑ k ∈ Finset.range n, ∑ c ∈ Finset.range 4096, q (4096 * k + c)
  | 0, _ => Ideal.ofBits_zero_f32
  | n + 1, h => by
    have hn : n < k0_t1_loop.trips := by rw [trips_t1]; omega
    rw [Finset.sum_range_succ, ← sumTo_at x i q hq n (by omega), sumTo, dif_pos hn]
    refine congrArg (fun b : EReal => sumTo (F := Ideal) x n i + b) ?_
    rw [by_at (chunkX (F := Ideal) x ⟨n, hn⟩) i (fun l => ∑ t ∈ Finset.range 32, q (4096 * n + 128 * t + l))
      (fun l hl => chunkX_at x ⟨n, hn⟩ (ix2 ⟨l, hl⟩ (i 1)) q hq), Finset.sum_comm]
    have := sum_runs 32 128 (fun c => q (4096 * n + c))
    rw [show 32 * 128 = 4096 from rfl] at this
    rw [← this]
    refine Finset.sum_congr rfl fun a _ => Finset.sum_congr rfl fun b _ => ?_
    rw [Nat.add_assoc]

/-- The sums of the squares of the rows of a block. -/
theorem sums_at (x : Vec Ideal S128x28672 .bf16) (i : S1x128.Idx) (q : ℕ → EReal)
    (hq : ∀ c (h : c < 28672), x (ix2 ⟨(i 1).val, (i 1).isLt⟩ ⟨c, h⟩) * x (ix2 ⟨(i 1).val, (i 1).isLt⟩ ⟨c, h⟩) = q c) :
    sums (F := Ideal) x i = ∑ c ∈ Finset.range 28672, q c := by
  unfold sums
  rw [trips_t1, sumTo_at x i q hq 7 le_rfl, sum_runs 7 4096 q]

end Cert.Proof.KernelIdeal

end
-- ==== Proof.IdealBlock.lean ====
/- What the kernel's body computes of one block, over the extended reals: rounding to odd is the identity, and the codes, the
   scales and `rsigma` of the block are the mathematics' at the block's rows. -/
module

public import proofs.«01_k».proof.Proof.IdealSums

@[expose] public section

set_option maxRecDepth 16384
set_option maxHeartbeats 400000

noncomputable section

namespace Cert.Proof.KernelIdeal

open Cert.KernelIdeal Cert.KernelIdeal.Gen
open Idealize.ShloMosaic
open Cert.Proof.Spec

/-! ## One group of 128 by 128 -/

theorem select_oeq (y t w : FVec Ideal S128x128 .f32) (h : t = y) : select (cmpf .oeq y t) t w = y := by
  subst h
  funext i
  show Scalar.select (BitVec.ofBool (decide (t i = t i))) (t i) (w i) = t i
  rw [decide_eq_true rfl]; rfl

/-- Rounding to odd changes nothing: every number is its own cut. -/
theorem toOdd_eq (y : FVec Ideal S128x128 .f32) : toOdd (F := Ideal) y = y := by
  have hc : cut16 (F := Ideal) y = y := by funext i; rfl
  unfold toOdd
  generalize select (cmpf .oeq (absf y) _) _ _ = w
  have h := select_oeq y (cut16 (F := Ideal) y) w hc
  generalize select (cmpf .oeq y (cut16 (F := Ideal) y)) (cut16 (F := Ideal) y) w = u at h
  funext i
  exact congrFun h i

theorem mul_at (a : FVec Ideal S1x128 .f32) (c : Ideal .f32) (i : S1x128.Idx) : mulf a (broadcast S1x128 c) i = (a i * c : EReal) := rfl

theorem ext_at (a : FVec Ideal S1x128 .bf16) (i : S1x128.Idx) : extf .f32 a bitsLt_bf16_f32 i = a i := rfl

/-- What a column's scale is taken from. -/
theorem amax_at (v : FVec Ideal S128x128 .bf16) (i : S1x128.Idx) :
    amax (F := Ideal) v i = pOf (fun k => v (ix2 k (i 1))) := by
  have hi : (i 0).val = 0 := by have h : (i 0).val < 1 := (i 0).isLt; omega
  have e : shapeCast S1x128 (multiReduction (F := Ideal) .maximumf [0] S128 (absf v) 0xFF80#16 reduces_S128x128_S128 (.inr rfl) rfl) shapeCasts_S128_S1x128 i
      = multiReduction (F := Ideal) .maximumf [0] S128 (absf v) 0xFF80#16 reduces_S128x128_S128 (.inr rfl) rfl (ix1 (i 1)) := by
    refine shapeCast_apply _ _ i (ix1 (i 1)) ?_
    refine (Shape.rowMajor_val_one _).trans (Eq.trans ?_ (Shape.rowMajor_val_two _).symm)
    show (i 1).val = (i 0).val * 128 + (i 1).val
    omega
  unfold amax
  refine (mul_at _ _ _).trans ?_
  rw [ext_at, e]
  refine (congrArg (fun z : EReal => z * Ideal.ofBits .f32 0x3B124925#32)
    (Ideal.multiReduction_maximumf_single (absf v) 0xFF80#16 reduces_S128x128_S128 (.inr rfl) rfl (ix1 (i 1)))).trans ?_
  unfold pOf big
  show Finset.fold max (FloatOps.ofBits .bf16 (0xFF80#16) : Ideal .bf16) _ _ * _ = _
  have hb : (FloatOps.ofBits .bf16 (0xFF80#16) : Ideal .bf16) = (⊥ : EReal) := by
    show Ideal.ieee 8 7 (0xFF80#16) = ⊥
    have e1 : (0xFF80#16).extractLsb' 15 1 = 1#1 := by decide
    have e2 : ((0xFF80#16).extractLsb' 7 8).toNat = 255 := by decide
    have e3 : ((0xFF80#16).extractLsb' 0 7).toNat = 0 := by decide
    unfold Ideal.ieee
    simp [e1, e2, e3]
  rw [hb]
  refine congrArg (fun z : EReal => z * Ideal.ofBits .f32 0x3B124925#32) ?_
  refine Finset.fold_congr fun k _ => ?_
  have hl : (reduces_S128x128_S128.lift (ix1 (i 1)) k) = ix2 k (i 1) := by
    funext a
    match a with
    | 0 => rfl
    | 1 => rfl
  show max (v (reduces_S128x128_S128.lift (ix1 (i 1)) k)) (-(v (reduces_S128x128_S128.lift (ix1 (i 1)) k))) = _
  rw [hl]
  rfl

/-- The codes at an index. -/
theorem codes_at (v : FVec Ideal S128x128 .bf16) (j : S128x128.Idx) :
    codes (F := Ideal) v j = code (v (ix2 (j 1) (j 0))) (invScale (F := Ideal) v (ix2 0 (j 0))) := by
  show transpose S128x128 [1, 0]
    (minimumf (broadcast S128x128 (Scalar.truncf (F := Ideal) .bf16 bitsLt_bf16_f32 (Scalar.ofBits .f32 0x43E00000#32)))
      (maximumf (broadcast S128x128 (Scalar.truncf (F := Ideal) .bf16 bitsLt_bf16_f32 (Scalar.ofBits .f32 0xC3E00000#32)))
        (mulf v (broadcastTo S128x128 (invScale (F := Ideal) v) broadcasts_S1x128_S128x128))))
    transposes_S128x128_p1_0_S128x128 j = _
  refine (transpose_apply [1, 0] _ transposes_S128x128_p1_0_S128x128 j (ix2 (j 1) (j 0)) (fun b => ?_)).trans ?_
  · match b with
    | 0 => rfl
    | 1 => rfl
  · have e : broadcastTo S128x128 (invScale (F := Ideal) v) broadcasts_S1x128_S128x128 (ix2 (j 1) (j 0)) = invScale (F := Ideal) v (ix2 0 (j 0)) := by
      refine broadcastTo_apply _ _ _ _ (fun b => ?_)
      match b with
      | 0 => rfl
      | 1 => rfl
    show min _ (max _ (v (ix2 (j 1) (j 0)) * broadcastTo S128x128 (invScale (F := Ideal) v) broadcasts_S1x128_S128x128 (ix2 (j 1) (j 0)))) = _
    rw [e]; rfl

/-- A column within the bound has the mathematics' scale, -/
theorem scale_sc (v : FVec Ideal S128x128 .bf16) (i : S1x128.Idx) (f : Fin 128 → EReal) (e : (fun k => v (ix2 k (i 1))) = f)
    (hf : ∀ k, max (f k) (-(f k)) ≤ ((170 * (2 : ℝ) ^ (126 : ℤ) : ℝ) : EReal)) : scale (F := Ideal) v i = sc f := by
  obtain ⟨n, hn⟩ := pOf_bin f hf
  have ha : amax (F := Ideal) v i = pOf f := by rw [amax_at, e]
  rw [Scale.scale_at v i n (ha ▸ hn)]
  exact (Scale.ref_scale _ n hn).symm

/-- and its reciprocal. -/
theorem invScale_inv (v : FVec Ideal S128x128 .bf16) (i : S1x128.Idx) (f : Fin 128 → EReal) (e : (fun k => v (ix2 k (i 1))) = f)
    (hf : ∀ k, max (f k) (-(f k)) ≤ ((170 * (2 : ℝ) ^ (126 : ℤ) : ℝ) : EReal)) : invScale (F := Ideal) v i = inv f := by
  obtain ⟨n, hn⟩ := pOf_bin f hf
  have ha : amax (F := Ideal) v i = pOf f := by rw [amax_at, e]
  rw [Scale.invScale_at v i n (ha ▸ hn)]
  exact (Scale.ref_inv _ n hn).symm

theorem tr_at (v : FVec Ideal S128x128 .bf16) (a b : Fin 128) : tr (F := Ideal) v (ix2 a b) = v (ix2 b a) := by
  refine transpose_apply [1, 0] v transposes_S128x128_p1_0_S128x128 (ix2 a b) (ix2 b a) (fun c => ?_)
  match c with
  | 0 => rfl
  | 1 => rfl

/-! ## The block -/

/-- `x` is the block of `X` at rows `128 b` on. -/
def IsBlock (x : Vec Ideal S128x28672 .bf16) (X : ℕ → ℕ → EReal) (b : ℕ) : Prop :=
  ∀ r c (hr : r < 128) (hc : c < 28672), x (ix2 ⟨r, hr⟩ ⟨c, hc⟩) = X (128 * b + r) c

/-- `g` is `γ`. -/
def IsGamma (g : Vec Ideal S1x28672 .f32) (γ : ℕ → EReal) : Prop := ∀ c (hc : c < 28672), g (ix2 0 ⟨c, hc⟩) = γ c

/-- The block's `rsigma`. -/
theorem pay3_at (x : Vec Ideal S128x28672 .bf16) (X : ℕ → ℕ → EReal) (b : ℕ) (hx : IsBlock x X b) (i : S1x128.Idx) :
    k0_pay3 (F := Ideal) (sums x) i = rsig X (128 * b + (i 1).val) := by
  have e : sums (F := Ideal) x i = rowSum X (128 * b + (i 1).val) :=
    sums_at x i (fun c => X (128 * b + (i 1).val) c * X (128 * b + (i 1).val) c) (fun c h => congrArg₂ (fun a b : EReal => a * b) (hx (i 1).val c (i 1).isLt h) (hx (i 1).val c (i 1).isLt h))
  show Ideal.rsqrt (sums (F := Ideal) x i * ((1 / 28672 : ℝ) : EReal) + Ideal.ofBits .f32 0x3727C5AC#32) = _
  rw [e]; rfl

theorem pay5_at (s : FVec Ideal S1x128 .f32) (y : S128x128.Idx) : k0_pay5 (F := Ideal) s y = k0_pay3 (F := Ideal) s (ix2 0 (y 0)) := by
  show shapeCast S128x128 (transpose S128x128 [1, 0] (broadcastTo S128x128 (shapeCast S1x128 (k0_pay3 (F := Ideal) s) shapeCasts_S1x128_S1x128)
    broadcasts_S1x128_S128x128) transposes_S128x128_p1_0_S128x128) shapeCasts_S128x128_S128x128 y = _
  refine (shapeCast_apply _ shapeCasts_S128x128_S128x128 y y rfl).trans ?_
  refine (transpose_apply [1, 0] _ transposes_S128x128_p1_0_S128x128 y (ix2 (y 1) (y 0)) (fun b => ?_)).trans ?_
  · match b with
    | 0 => rfl
    | 1 => rfl
  refine (broadcastTo_apply _ broadcasts_S1x128_S128x128 _ (ix2 0 (y 0)) (fun b => ?_)).trans ?_
  · match b with
    | 0 => rfl
    | 1 => rfl
  exact shapeCast_apply _ shapeCasts_S1x128_S1x128 _ _ rfl

theorem ldX_at (x : Vec Ideal S128x28672 .bf16) (off : Fin 2 → ℕ) (inb) (a b : ℕ) (e : off = ![a, b]) (y : S128x128.Idx) (i : S128x28672.Idx)
    (h0 : (i 0).val = a + (y 0).val) (h1 : (i 1).val = b + (y 1).val) :
    View.ld x (Rect.unit (s := S128x28672) off S128x128.size inb) y = x i := by
  subst e
  refine View.ld_unit_apply_of x _ _ inb y i (fun c => ?_)
  match c with
  | 0 => exact h0
  | 1 => exact h1

theorem ldG_at (x : Vec Ideal S1x28672 .f32) (off : Fin 2 → ℕ) (inb) (a b : ℕ) (e : off = ![a, b]) (y : S1x128.Idx) (i : S1x28672.Idx)
    (h0 : (i 0).val = a + (y 0).val) (h1 : (i 1).val = b + (y 1).val) :
    View.ld x (Rect.unit (s := S1x28672) off S1x128.size inb) y = x i := by
  subst e
  refine View.ld_unit_apply_of x _ _ inb y i (fun c => ?_)
  match c with
  | 0 => exact h0
  | 1 => exact h1

/-- A group's elements. -/
theorem grp_at (x : Vec Ideal S128x28672 .bf16) (g : Vec Ideal S1x28672 .f32) (X : ℕ → ℕ → EReal) (γ : ℕ → EReal) (b : ℕ)
    (hx : IsBlock x X b) (hg : IsGamma g γ) (k : Fin k0_t2_loop.trips) (r : Fin 4) (p q : Fin 128) :
    grpB (F := Ideal) x g k r (ix2 p q) = yv X γ (128 * b + p.val) (512 * k.val + 128 * r.val + q.val) := by
  have hk : k.val < 56 := lt_of_lt_of_eq k.isLt trips_t2
  have hr : r.val < 4 := r.isLt
  have hq : q.val < 128 := q.isLt
  unfold grpB grpX
  rw [toOdd_eq]
  have e1 : View.ld x (Rect.unit (s := S128x28672) (k0_off9 k (BitVec.ofNat 32 r.val)) S128x128.size (k0_off9_inb k r)) (ix2 p q)
      = X (128 * b + p.val) (512 * k.val + 128 * r.val + q.val) := by
    rw [← hx p.val (512 * k.val + 128 * r.val + q.val) p.isLt (by omega)]
    exact ldX_at x _ _ _ _ (k0_off9_eq k r) _ _ (Nat.zero_add _).symm rfl
  have e2 : View.ld g (Rect.unit (s := S1x28672) (k0_off10 k (BitVec.ofNat 32 r.val)) S1x128.size (k0_off10_inb k r)) (ix2 0 q)
      = γ (512 * k.val + 128 * r.val + q.val) := by
    rw [← hg (512 * k.val + 128 * r.val + q.val) (by omega)]
    exact ldG_at g _ _ _ _ (k0_off10_eq k r) _ _ rfl rfl
  generalize View.ld x (Rect.unit (s := S128x28672) (k0_off9 k (BitVec.ofNat 32 r.val)) S128x128.size (k0_off9_inb k r)) = xv at e1
  generalize View.ld g (Rect.unit (s := S1x28672) (k0_off10 k (BitVec.ofNat 32 r.val)) S1x128.size (k0_off10_inb k r)) = gv at e2
  have e3 : broadcastTo S128x128 (shapeCast S1x128 gv shapeCasts_S1x128_S1x128) broadcasts_S1x128_S128x128 (ix2 p q) = gv (ix2 0 q) := by
    refine (broadcastTo_apply _ broadcasts_S1x128_S128x128 _ (ix2 0 q) (fun b => ?_)).trans (shapeCast_apply _ shapeCasts_S1x128_S1x128 _ _ rfl)
    match b with
    | 0 => rfl
    | 1 => rfl
  have e4 : shapeCast S128x128 xv shapeCasts_S128x128_S128x128 (ix2 p q) = xv (ix2 p q) := shapeCast_apply _ shapeCasts_S128x128_S128x128 _ _ rfl
  show shapeCast S128x128 xv shapeCasts_S128x128_S128x128 (ix2 p q) * k0_pay5 (F := Ideal) (sums x) (ix2 p q)
    * broadcastTo S128x128 (shapeCast S1x128 gv shapeCasts_S1x128_S1x128) broadcasts_S1x128_S128x128 (ix2 p q) = _
  rw [e3, e4, e1, e2, pay5_at, pay3_at x X b hx]
  rfl

section results

variable (x : Vec Ideal S128x28672 .bf16) (g : Vec Ideal S1x28672 .f32) (X : ℕ → ℕ → EReal) (γ : ℕ → EReal) (b : ℕ)
  (hx : IsBlock x X b) (hg : IsGamma g γ) (hγ : ∀ c, max (γ c) (-(γ c)) ≤ Ideal.ofBits .f32 0x7E800000#32)

include hx hg hγ

/-- A row group of a block is within the bound. -/
theorem row_le (r q : ℕ) (hq : q < 224) (k : Fin 128) :
    max (rowGrp X γ r q k) (-(rowGrp X γ r q k)) ≤ ((170 * (2 : ℝ) ^ (126 : ℤ) : ℝ) : EReal) :=
  yv_le X γ hγ r _ (by have := k.isLt; omega)

theorem col_le (c : ℕ) (hc : c < 28672) (k : Fin 128) :
    max (colGrp X γ b c k) (-(colGrp X γ b c k)) ≤ ((170 * (2 : ℝ) ^ (126 : ℤ) : ℝ) : EReal) :=
  yv_le X γ hγ _ c hc

theorem tr_col (k : Fin k0_t2_loop.trips) (r : Fin 4) (i : S1x128.Idx) :
    (fun l => tr (F := Ideal) (grpB x g k r) (ix2 l (i 1))) = rowGrp X γ (128 * b + (i 1).val) (4 * k.val + r.val) := by
  funext l
  refine (tr_at _ l (i 1)).trans ((grp_at x g X γ b hx hg k r (i 1) l).trans ?_)
  unfold rowGrp
  congr 1
  ring

theorem grp_col (k : Fin k0_t2_loop.trips) (r : Fin 4) (i : S1x128.Idx) :
    (fun l => grpB (F := Ideal) x g k r (ix2 l (i 1))) = colGrp X γ b (512 * k.val + 128 * r.val + (i 1).val) := by
  funext l
  exact grp_at x g X γ b hx hg k r l (i 1)

/-- The block's row codes. -/
theorem rcB_at (j : S128x28672.Idx) :
    rcB (F := Ideal) x g j = code (yv X γ (128 * b + (j 0).val) (j 1).val) (inv (rowGrp X γ (128 * b + (j 0).val) ((j 1).val / 128))) := by
  have h1 : (j 1).val < 28672 := (j 1).isLt
  unfold rcB wide
  refine (codes_at _ _).trans ?_
  rw [invScale_inv _ _ _ (tr_col x g X γ b hx hg hγ _ _ _) (row_le x g X γ b hx hg hγ _ _ (by show 4 * ((j 1).val / 512) + (j 1).val / 128 % 4 < 224; omega))]
  refine congrArg₂ code ?_ ?_
  · refine (tr_at _ _ _).trans ((grp_at x g X γ b hx hg _ _ _ _).trans ?_)
    show yv X γ (128 * b + (j 0).val) (512 * ((j 1).val / 512) + 128 * ((j 1).val / 128 % 4) + (j 1).val % 128) = _
    congr 1; omega
  · show inv (rowGrp X γ (128 * b + (j 0).val) (4 * ((j 1).val / 512) + (j 1).val / 128 % 4)) = _
    congr 2; omega

/-- The block's column codes. -/
theorem ccB_at (j : S28672x128.Idx) :
    ccB (F := Ideal) x g j = code (yv X γ (128 * b + (j 1).val) (j 0).val) (inv (colGrp X γ b (j 0).val)) := by
  have h0 : (j 0).val < 28672 := (j 0).isLt
  unfold ccB tall
  refine (codes_at _ _).trans ?_
  rw [invScale_inv _ _ _ (grp_col x g X γ b hx hg hγ _ _ _) (col_le x g X γ b hx hg hγ _ (by
    show 512 * ((j 0).val / 512) + 128 * ((j 0).val / 128 % 4) + (j 0).val % 128 < 28672; omega))]
  refine congrArg₂ code ?_ ?_
  · refine (grp_at x g X γ b hx hg _ _ _ _).trans ?_
    show yv X γ (128 * b + (j 1).val) (512 * ((j 0).val / 512) + 128 * ((j 0).val / 128 % 4) + (j 0).val % 128) = _
    congr 1; omega
  · show inv (colGrp X γ b (512 * ((j 0).val / 512) + 128 * ((j 0).val / 128 % 4) + (j 0).val % 128)) = _
    congr 2; omega

/-- The block's row scales. -/
theorem rsB_at (j : S224x128.Idx) :
    rsB (F := Ideal) x g j = sc (rowGrp X γ (128 * b + (j 1).val) (j 0).val) := by
  have h0 : (j 0).val < 224 := (j 0).isLt
  unfold rsB rows
  refine (scale_sc _ _ _ (tr_col x g X γ b hx hg hγ _ _ _) (row_le x g X γ b hx hg hγ _ _ (by show 4 * ((j 0).val / 4) + (j 0).val % 4 < 224; omega))).trans ?_
  show sc (rowGrp X γ (128 * b + (j 1).val) (4 * ((j 0).val / 4) + (j 0).val % 4)) = _
  congr 2; omega

/-- The block's column scales. -/
theorem csB_at (j : S1x224x8x128.Idx) :
    csB (F := Ideal) x g j = sc (colGrp X γ b (128 * (j 1).val + (j 3).val)) := by
  have h1 : (j 1).val < 224 := (j 1).isLt
  have h3 : (j 3).val < 128 := (j 3).isLt
  unfold csB lines
  refine (scale_sc _ _ _ (grp_col x g X γ b hx hg hγ _ _ _) (col_le x g X γ b hx hg hγ _ (by
    show 512 * ((j 1).val / 4) + 128 * ((j 1).val % 4) + (j 3).val < 28672; omega))).trans ?_
  show sc (colGrp X γ b (512 * ((j 1).val / 4) + 128 * ((j 1).val % 4) + (j 3).val)) = _
  congr 2; omega

end results

/-- The block's `rsigma`, as stored. -/
theorem sigB_at (x : Vec Ideal S128x28672 .bf16) (X : ℕ → ℕ → EReal) (b : ℕ) (hx : IsBlock x X b) (j : S1x1x128.Idx) :
    sigB (F := Ideal) x j = rsig X (128 * b + (j 2).val) := by
  have h0 : (j 0).val < 1 := (j 0).isLt
  have h1 : (j 1).val < 1 := (j 1).isLt
  refine (shapeCast_apply _ shapeCasts_S1x128_S1x1x128 j (ix2 0 (j 2)) ?_).trans (pay3_at x X b hx _)
  refine (Shape.rowMajor_val_two _).trans (Eq.trans ?_ (Shape.rowMajor_val_three _).symm)
  show 0 * 128 + (j 2).val = ((j 0).val * 1 + (j 1).val) * 128 + (j 2).val
  omega

end Cert.Proof.KernelIdeal

end
-- ==== Proof.ReferenceTerms.lean ====
/- The reference's five results as terms of its two arguments, over the extended reals, and each at an index: the mathematics. -/
module

public import proofs.«01_k».proof.Proof.Gen.ReferenceIdeal.Run
public import proofs.«01_k».proof.Proof.Spec
public import Idealize.ShloMosaic.Lib.Pipeline.Value
public import Idealize.ShloMosaic.PureOps.Reduce
public import Idealize.ShloMosaic.Lib.Pointwise

@[expose] public section

set_option maxRecDepth 16384
set_option maxHeartbeats 400000

noncomputable section

namespace Cert.Proof.Reference

open Cert.ReferenceIdeal Cert.ReferenceIdeal.Gen
open Idealize.ShloMosaic
open Cert.Proof.Spec

/-! ## The arguments as functions of natural numbers -/

/-- The rows of `x`. -/
def matX (a : Vec Ideal S7x1024x28672 .bf16) (r c : ℕ) : EReal :=
  a (ix3 ⟨r / 1024 % 7, Nat.mod_lt _ (by decide)⟩ ⟨r % 1024, Nat.mod_lt _ (by decide)⟩ ⟨c % 28672, Nat.mod_lt _ (by decide)⟩)

/-- `gamma`. -/
def vecG (a : Vec Ideal S28672 .bf16) (c : ℕ) : EReal := a (ix1 ⟨c % 28672, Nat.mod_lt _ (by decide)⟩)

/-! ## The terms -/

/-- The rows as float32. -/
def xf (a : Vec Ideal S7x1024x28672 .bf16) : FVec Ideal S7168x28672 .f32 :=
  extf .f32 (shapeCast S7168x28672 a shapeCasts_S7x1024x28672_S7168x28672) bitsLt_bf16_f32

/-- The reciprocal root mean squares. -/
def rsq (a : Vec Ideal S7x1024x28672 .bf16) : FVec Ideal S7168 .f32 :=
  Host.rsqrt (addf (Host.divf (Host.reduceAdd (mulf (xf a) (xf a)) (constant S_ .f32 0x00000000#32) reducesTo_S7168x28672_S7168_d1 h_S_)
    (broadcastInDim S7168 ![] bcast_S_S7168 (constant S_ .f32 0x46E00000#32))) (broadcastInDim S7168 ![] bcast_S_S7168 (constant S_ .f32 0x3727C5AC#32)))

/-- The normalised rows. -/
def yArr (a : Vec Ideal S7x1024x28672 .bf16) (g : Vec Ideal S28672 .bf16) : FVec Ideal S7168x28672 .f32 :=
  mulf (mulf (xf a) (broadcastInDim S7168x28672 ![0, 1] bcast_S7168x1_S7168x28672_0_1 (broadcastInDim S7168x1 ![0] bcast_S7168_S7168x1_0 (rsq a))))
    (broadcastInDim S7168x28672 ![0, 1] bcast_S1x28672_S7168x28672_0_1 (broadcastInDim S1x28672 ![1] bcast_S28672_S1x28672_1 (extf .f32 g bitsLt_bf16_f32)))

/-- The row groups' numbers, -/
def pRow (v : FVec Ideal S7168x224x128 .f32) : FVec Ideal S7168x224 .f32 :=
  mulf (Host.reduce FloatOps.maximumf (Host.absf v) (constant S_ .f32 0xFF800000#32) reducesTo_S7168x224x128_S7168x224_d2 h_S_)
    (broadcastInDim S7168x224 ![] bcast_S_S7168x224 (constant S_ .f32 0x3B124925#32))
/-- and their exponents. -/
def eRow (p : FVec Ideal S7168x224 .f32) : FVec Ideal S7168x224 .f32 :=
  select (cmpf .olt p (broadcastInDim S7168x224 ![] bcast_S_S7168x224 (constant S_ .f32 0x00800000#32)))
    (broadcastInDim S7168x224 ![] bcast_S_S7168x224 (id (constant S_ .f32 0x00000000#32)))
    (addf (Host.floor (Host.divf (Host.log p) (Host.log (broadcastInDim S7168x224 ![] bcast_S_S7168x224 (constant S_ .f32 0x40000000#32)))))
      (broadcastInDim S7168x224 ![] bcast_S_S7168x224 (constant S_ .f32 0x3F800000#32)))

/-- The column groups' numbers, -/
def pCol (v : FVec Ideal S28672x56x128 .f32) : FVec Ideal S28672x56 .f32 :=
  mulf (Host.reduce FloatOps.maximumf (Host.absf v) (constant S_ .f32 0xFF800000#32) reducesTo_S28672x56x128_S28672x56_d2 h_S_)
    (broadcastInDim S28672x56 ![] bcast_S_S28672x56 (constant S_ .f32 0x3B124925#32))
/-- and their exponents. -/
def eCol (p : FVec Ideal S28672x56 .f32) : FVec Ideal S28672x56 .f32 :=
  select (cmpf .olt p (broadcastInDim S28672x56 ![] bcast_S_S28672x56 (constant S_ .f32 0x00800000#32)))
    (broadcastInDim S28672x56 ![] bcast_S_S28672x56 (id (constant S_ .f32 0x00000000#32)))
    (addf (Host.floor (Host.divf (Host.log p) (Host.log (broadcastInDim S28672x56 ![] bcast_S_S28672x56 (constant S_ .f32 0x40000000#32)))))
      (broadcastInDim S28672x56 ![] bcast_S_S28672x56 (constant S_ .f32 0x3F800000#32)))

/-- The groups along the rows. -/
def vRow (y : FVec Ideal S7168x28672 .f32) : FVec Ideal S7168x224x128 .f32 := shapeCast S7168x224x128 y shapeCasts_S7168x28672_S7168x224x128
/-- The groups along the columns. -/
def vCol (y : FVec Ideal S7168x28672 .f32) : FVec Ideal S28672x56x128 .f32 :=
  shapeCast S28672x56x128 (transpose S28672x7168 [1, 0] y transposes_S7168x28672_S28672x7168_1_0) shapeCasts_S28672x7168_S28672x56x128

/-- The row codes, grouped. -/
def cRow (v : FVec Ideal S7168x224x128 .f32) : FVec Ideal S7168x224x128 .f32 :=
  minimumf (broadcastInDim S7168x224x128 ![] bcast_S_S7168x224x128 (id (constant S_ .f32 0x43E00000#32)))
    (maximumf (broadcastInDim S7168x224x128 ![] bcast_S_S7168x224x128 (id (constant S_ .f32 0xC3E00000#32)))
      (mulf v (broadcastInDim S7168x224x128 ![0, 1, 2] bcast_S7168x224x1_S7168x224x128_0_1_2 (broadcastInDim S7168x224x1 ![0, 1] bcast_S7168x224_S7168x224x1_0_1
        (Host.powf (broadcastInDim S7168x224 ![] bcast_S_S7168x224 (constant S_ .f32 0x40000000#32)) (Host.negf (eRow (pRow v))))))))
/-- The column codes, grouped. -/
def cCol (v : FVec Ideal S28672x56x128 .f32) : FVec Ideal S28672x56x128 .f32 :=
  minimumf (broadcastInDim S28672x56x128 ![] bcast_S_S28672x56x128 (id (constant S_ .f32 0x43E00000#32)))
    (maximumf (broadcastInDim S28672x56x128 ![] bcast_S_S28672x56x128 (id (constant S_ .f32 0xC3E00000#32)))
      (mulf v (broadcastInDim S28672x56x128 ![0, 1, 2] bcast_S28672x56x1_S28672x56x128_0_1_2 (broadcastInDim S28672x56x1 ![0, 1] bcast_S28672x56_S28672x56x1_0_1
        (Host.powf (broadcastInDim S28672x56 ![] bcast_S_S28672x56 (constant S_ .f32 0x40000000#32)) (Host.negf (eCol (pCol v))))))))

/-- The five results. -/
def out0 (a : Vec Ideal S7x1024x28672 .bf16) (g : Vec Ideal S28672 .bf16) : Vec Ideal S7168x28672 .fp8e4m3 :=
  shapeCast S7168x28672 (Host.convertf .fp8e4m3 (cRow (vRow (yArr a g)))) shapeCasts_S7168x224x128_S7168x28672
def out1 (a : Vec Ideal S7x1024x28672 .bf16) (g : Vec Ideal S28672 .bf16) : Vec Ideal S224x7168 .f32 :=
  transpose S224x7168 [1, 0] (Host.powf (broadcastInDim S7168x224 ![] bcast_S_S7168x224 (constant S_ .f32 0x40000000#32)) (eRow (pRow (vRow (yArr a g)))))
    transposes_S7168x224_S224x7168_1_0
def out2 (a : Vec Ideal S7x1024x28672 .bf16) (g : Vec Ideal S28672 .bf16) : Vec Ideal S28672x7168 .fp8e4m3 :=
  shapeCast S28672x7168 (Host.convertf .fp8e4m3 (cCol (vCol (yArr a g)))) shapeCasts_S28672x56x128_S28672x7168
def out3 (a : Vec Ideal S7x1024x28672 .bf16) (g : Vec Ideal S28672 .bf16) : Vec Ideal S7x224x8x128 .f32 :=
  transpose S7x224x8x128 [2, 0, 3, 1] (shapeCast S224x128x7x8 (Host.powf (broadcastInDim S28672x56 ![] bcast_S_S28672x56 (constant S_ .f32 0x40000000#32))
    (eCol (pCol (vCol (yArr a g))))) shapeCasts_S28672x56_S224x128x7x8) transposes_S224x128x7x8_S7x224x8x128_2_0_3_1
def out4 (a : Vec Ideal S7x1024x28672 .bf16) : Vec Ideal S56x1x128 .f32 := shapeCast S56x1x128 (rsq a) shapeCasts_S7168_S56x1x128

end Cert.Proof.Reference

end
-- ==== Proof.ReferenceValue.lean ====
/- The reference's five results at an index: the mathematics. -/
module

public import proofs.«01_k».proof.Proof.ReferenceTerms

@[expose] public section

set_option maxRecDepth 16384
set_option maxHeartbeats 400000

noncomputable section

namespace Cert.Proof.Reference

open Cert.ReferenceIdeal Cert.ReferenceIdeal.Gen
open Idealize.ShloMosaic
open Cert.Proof.Spec

/-! ## The normalised rows -/

theorem matX_eq (a : Vec Ideal S7x1024x28672 .bf16) (r c : ℕ) (j : S7x1024x28672.Idx) (h0 : r = (j 0).val * 1024 + (j 1).val) (h2 : c = (j 2).val) :
    matX a r c = a j := by
  have h0' : (j 0).val < 7 := (j 0).isLt
  have h1' : (j 1).val < 1024 := (j 1).isLt
  have h2' : (j 2).val < 28672 := (j 2).isLt
  unfold matX
  refine congrArg a (funext fun b => Fin.ext ?_)
  match b with
  | 0 => show r / 1024 % 7 = (j 0).val; omega
  | 1 => show r % 1024 = (j 1).val; omega
  | 2 => show c % 28672 = (j 2).val; omega

theorem vecG_eq (a : Vec Ideal S28672 .bf16) (c : ℕ) (j : S28672.Idx) (h : c = (j 0).val) : vecG a c = a j := by
  have h0' : (j 0).val < 28672 := (j 0).isLt
  unfold vecG
  refine congrArg a (funext fun b => Fin.ext ?_)
  match b with
  | 0 => show c % 28672 = (j 0).val; omega

theorem xf_at (a : Vec Ideal S7x1024x28672 .bf16) (r : Fin 7168) (c : Fin 28672) : xf a (ix2 r c) = matX a r.val c.val := by
  have hr := r.isLt
  have hc := c.isLt
  unfold matX
  refine shapeCast_apply a shapeCasts_S7x1024x28672_S7168x28672 (ix2 r c) _ ?_
  refine (Shape.rowMajor_val_three _).trans (Eq.trans ?_ (Shape.rowMajor_val_two _).symm)
  show (r.val / 1024 % 7 * 1024 + r.val % 1024) * 28672 + c.val % 28672 = r.val * 28672 + c.val
  omega

theorem ofBits_28672 : Ideal.ofBits .f32 0x46E00000#32 = ((28672 : ℝ) : EReal) := by
  show Ideal.ieee 8 23 (0x46E00000#32) = _
  have e1 : (0x46E00000#32).extractLsb' 31 1 = 0#1 := by decide
  have e2 : ((0x46E00000#32).extractLsb' 23 8).toNat = 141 := by decide
  have e3 : ((0x46E00000#32).extractLsb' 0 23).toNat = 6291456 := by decide
  unfold Ideal.ieee
  simp only [Nat.reduceAdd, e1, e2, e3]
  rw [if_neg (by omega), if_neg (by omega)]
  congr 1
  norm_num

theorem reduces_row : Shape.Reduces S7168x28672 [1] S7168 := by decide

theorem rsq_at (a : Vec Ideal S7x1024x28672 .bf16) (r : Fin 7168) : rsq a (ix1 r) = rsig (matX a) r.val := by
  have e : Ideal.hostReduceAdd reducesTo_S7168x28672_S7168_d1 (mulf (xf a) (xf a)) (Ideal.ofBits .f32 0x00000000#32) (ix1 r)
      = rowSum (matX a) r.val := by
    rw [Ideal.hostReduceAdd_single reducesTo_S7168x28672_S7168_d1 reduces_row, Scale.ofBits_zero, EReal.coe_zero, zero_add]
    unfold rowSum
    rw [Finset.sum_range]
    refine Finset.sum_congr rfl fun k _ => ?_
    have hl : reduces_row.lift (ix1 r) k = ix2 r k := by
      funext b
      match b with
      | 0 => rfl
      | 1 => rfl
    rw [hl]
    exact congrArg₂ (fun a b : EReal => a * b) (xf_at a r k) (xf_at a r k)
  have s : rsq a (ix1 r) = Ideal.rsqrt (Ideal.div (Ideal.hostReduceAdd reducesTo_S7168x28672_S7168_d1 (mulf (xf a) (xf a))
      (Ideal.ofBits .f32 0x00000000#32) (ix1 r)) (Ideal.ofBits .f32 0x46E00000#32) + Ideal.ofBits .f32 0x3727C5AC#32) := rfl
  rw [s, e, ofBits_28672, Ideal.div_coe (by norm_num)]
  rfl

theorem y_at (a : Vec Ideal S7x1024x28672 .bf16) (g : Vec Ideal S28672 .bf16) (r : Fin 7168) (c : Fin 28672) :
    yArr a g (ix2 r c) = yv (matX a) (vecG g) r.val c.val := by
  have e1 : broadcastInDim S7168x28672 ![0, 1] bcast_S7168x1_S7168x28672_0_1 (broadcastInDim S7168x1 ![0] bcast_S7168_S7168x1_0 (rsq a)) (ix2 r c)
      = rsig (matX a) r.val := by
    refine (broadcastInDim_apply _ _ _ _ (ix2 r 0) (fun b => ?_)).trans ((broadcastInDim_apply _ _ _ _ (ix1 r) (fun b => ?_)).trans (rsq_at a r))
    · match b with
      | 0 => rfl
      | 1 => rfl
    · match b with
      | 0 => rfl
  have e2 : broadcastInDim S7168x28672 ![0, 1] bcast_S1x28672_S7168x28672_0_1 (broadcastInDim S1x28672 ![1] bcast_S28672_S1x28672_1
      (extf (F := Ideal) (φ := .bf16) .f32 g bitsLt_bf16_f32)) (ix2 r c) = vecG g c.val := by
    refine (broadcastInDim_apply _ _ _ _ (ix2 0 c) (fun b => ?_)).trans ((broadcastInDim_apply _ _ _ _ (ix1 c) (fun b => ?_)).trans
      (vecG_eq g c.val (ix1 c) rfl).symm)
    · match b with
      | 0 => rfl
      | 1 => rfl
    · match b with
      | 0 => rfl
  exact congrArg₂ (fun a b : EReal => a * b) (congrArg₂ (fun a b : EReal => a * b) (xf_at a r c) e1) e2

/-! ## The groups -/

theorem vRow_at (y : FVec Ideal S7168x28672 .f32) (r : Fin 7168) (q : Fin 224) (k : Fin 128) (c : Fin 28672) (h : c.val = 128 * q.val + k.val) :
    vRow y (ix3 r q k) = y (ix2 r c) := by
  refine shapeCast_apply y shapeCasts_S7168x28672_S7168x224x128 (ix3 r q k) _ ?_
  refine (Shape.rowMajor_val_two _).trans (Eq.trans ?_ (Shape.rowMajor_val_three _).symm)
  show r.val * 28672 + c.val = (r.val * 224 + q.val) * 128 + k.val
  omega

theorem vCol_at (y : FVec Ideal S7168x28672 .f32) (c : Fin 28672) (q : Fin 56) (k : Fin 128) (r : Fin 7168) (h : r.val = 128 * q.val + k.val) :
    vCol y (ix3 c q k) = y (ix2 r c) := by
  refine (shapeCast_apply _ shapeCasts_S28672x7168_S28672x56x128 (ix3 c q k) (ix2 c r) ?_).trans ?_
  · refine (Shape.rowMajor_val_two _).trans (Eq.trans ?_ (Shape.rowMajor_val_three _).symm)
    show c.val * 7168 + r.val = (c.val * 56 + q.val) * 128 + k.val
    omega
  · refine transpose_apply [1, 0] y transposes_S7168x28672_S28672x7168_1_0 (ix2 c r) (ix2 r c) (fun b => ?_)
    match b with
    | 0 => rfl
    | 1 => rfl

theorem ofBits_bot : (FloatOps.ofBits .f32 (0xFF800000#32) : Ideal .f32) = (⊥ : EReal) := by
  show Ideal.ieee 8 23 (0xFF800000#32) = ⊥
  have e1 : (0xFF800000#32).extractLsb' 31 1 = 1#1 := by decide
  have e2 : ((0xFF800000#32).extractLsb' 23 8).toNat = 255 := by decide
  have e3 : ((0xFF800000#32).extractLsb' 0 23).toNat = 0 := by decide
  unfold Ideal.ieee
  simp [e1, e2, e3]

instance : Std.Commutative (FloatOps.maximumf (F := Ideal) (φ := .f32)) := ⟨fun a b => max_comm (a : EReal) b⟩
instance : Std.Associative (FloatOps.maximumf (F := Ideal) (φ := .f32)) := ⟨fun a b c => max_assoc (a : EReal) b c⟩

theorem fold_max_eq (n : ℕ) (b : EReal) (f : Fin n → EReal) :
    (Finset.univ : Finset (Fin n)).fold (FloatOps.maximumf (F := Ideal) (φ := .f32)) b f = (Finset.univ : Finset (Fin n)).fold max b f := rfl

theorem constant_read (i : S_.Idx) : constant (F := Ideal) S_ .f32 0xFF800000#32 i = (⊥ : EReal) := ofBits_bot

theorem reduces_rowGrp : Shape.Reduces S7168x224x128 [2] S7168x224 := by decide
theorem reduces_colGrp : Shape.Reduces S28672x56x128 [2] S28672x56 := by decide

theorem pRow_read (w : FVec Ideal S7168x224 .f32) (i : S7168x224.Idx) :
    mulf w (broadcastInDim S7168x224 ![] bcast_S_S7168x224 (constant (F := Ideal) S_ .f32 0x3B124925#32)) i = (w i * Ideal.ofBits .f32 0x3B124925#32 : EReal) := rfl

theorem absfRow_read (v : FVec Ideal S7168x224x128 .f32) (i : S7168x224x128.Idx) : Host.absf v i = max (v i) (-(v i)) := rfl

theorem pRow_at (v : FVec Ideal S7168x224x128 .f32) (r : Fin 7168) (q : Fin 224) :
    pRow v (ix2 r q) = pOf (fun k => v (ix3 r q k)) := by
  unfold pRow pOf big
  rw [pRow_read, Host.reduce_eq_fold_single (FloatOps.maximumf (F := Ideal) (φ := .f32)) (Host.absf v) (constant (F := Ideal) S_ .f32 0xFF800000#32)
    reducesTo_S7168x224x128_S7168x224_d2 reduces_rowGrp h_S_ (ix2 r q), constant_read]
  refine congrArg (fun z : EReal => z * Ideal.ofBits .f32 0x3B124925#32) ?_
  rw [fold_max_eq]
  refine Finset.fold_congr fun k _ => ?_
  have hl : reduces_rowGrp.lift (ix2 r q) k = ix3 r q k := by
    funext b
    match b with
    | 0 => rfl
    | 1 => rfl
    | 2 => rfl
  exact (absfRow_read v _).trans (by rw [hl]; rfl)

theorem pCol_read (w : FVec Ideal S28672x56 .f32) (i : S28672x56.Idx) :
    mulf w (broadcastInDim S28672x56 ![] bcast_S_S28672x56 (constant (F := Ideal) S_ .f32 0x3B124925#32)) i = (w i * Ideal.ofBits .f32 0x3B124925#32 : EReal) := rfl

theorem absfCol_read (v : FVec Ideal S28672x56x128 .f32) (i : S28672x56x128.Idx) : Host.absf v i = max (v i) (-(v i)) := rfl

theorem pCol_at (v : FVec Ideal S28672x56x128 .f32) (r : Fin 28672) (q : Fin 56) :
    pCol v (ix2 r q) = pOf (fun k => v (ix3 r q k)) := by
  unfold pCol pOf big
  rw [pCol_read, Host.reduce_eq_fold_single (FloatOps.maximumf (F := Ideal) (φ := .f32)) (Host.absf v) (constant (F := Ideal) S_ .f32 0xFF800000#32)
    reducesTo_S28672x56x128_S28672x56_d2 reduces_colGrp h_S_ (ix2 r q), constant_read]
  refine congrArg (fun z : EReal => z * Ideal.ofBits .f32 0x3B124925#32) ?_
  rw [fold_max_eq]
  refine Finset.fold_congr fun k _ => ?_
  have hl : reduces_colGrp.lift (ix2 r q) k = ix3 r q k := by
    funext b
    match b with
    | 0 => rfl
    | 1 => rfl
    | 2 => rfl
  exact (absfCol_read v _).trans (by rw [hl]; rfl)

theorem eRow_at (p : FVec Ideal S7168x224 .f32) (i : S7168x224.Idx) : eRow p i = Scale.refE (p i) := rfl
theorem eCol_at (p : FVec Ideal S28672x56 .f32) (i : S28672x56.Idx) : eCol p i = Scale.refE (p i) := rfl

theorem powRow_read (e : FVec Ideal S7168x224 .f32) (i : S7168x224.Idx) :
    Host.powf (broadcastInDim S7168x224 ![] bcast_S_S7168x224 (constant (F := Ideal) S_ .f32 0x40000000#32)) e i = Ideal.pow (Ideal.ofBits .f32 0x40000000#32) (e i) := rfl

theorem negRow_read (e : FVec Ideal S7168x224 .f32) (i : S7168x224.Idx) : Host.negf e i = -(e i : EReal) := rfl

theorem clipRow_read (u w : FVec Ideal S7168x224x128 .f32) (i : S7168x224x128.Idx) :
    minimumf (broadcastInDim S7168x224x128 ![] bcast_S_S7168x224x128 (id (constant (F := Ideal) S_ .f32 0x43E00000#32)))
      (maximumf (broadcastInDim S7168x224x128 ![] bcast_S_S7168x224x128 (id (constant (F := Ideal) S_ .f32 0xC3E00000#32))) (mulf u w)) i
      = code (u i) (w i) := rfl

theorem scRow_at (v : FVec Ideal S7168x224x128 .f32) (r : Fin 7168) (q : Fin 224) (f : Fin 128 → EReal) (hf : (fun k => v (ix3 r q k)) = f) :
    Host.powf (broadcastInDim S7168x224 ![] bcast_S_S7168x224 (constant (F := Ideal) S_ .f32 0x40000000#32)) (eRow (pRow v)) (ix2 r q) = sc f := by
  rw [powRow_read, eRow_at, pRow_at, hf]
  rfl

theorem powCol_read (e : FVec Ideal S28672x56 .f32) (i : S28672x56.Idx) :
    Host.powf (broadcastInDim S28672x56 ![] bcast_S_S28672x56 (constant (F := Ideal) S_ .f32 0x40000000#32)) e i = Ideal.pow (Ideal.ofBits .f32 0x40000000#32) (e i) := rfl

theorem negCol_read (e : FVec Ideal S28672x56 .f32) (i : S28672x56.Idx) : Host.negf e i = -(e i : EReal) := rfl

theorem clipCol_read (u w : FVec Ideal S28672x56x128 .f32) (i : S28672x56x128.Idx) :
    minimumf (broadcastInDim S28672x56x128 ![] bcast_S_S28672x56x128 (id (constant (F := Ideal) S_ .f32 0x43E00000#32)))
      (maximumf (broadcastInDim S28672x56x128 ![] bcast_S_S28672x56x128 (id (constant (F := Ideal) S_ .f32 0xC3E00000#32))) (mulf u w)) i
      = code (u i) (w i) := rfl

theorem scCol_at (v : FVec Ideal S28672x56x128 .f32) (r : Fin 28672) (q : Fin 56) (f : Fin 128 → EReal) (hf : (fun k => v (ix3 r q k)) = f) :
    Host.powf (broadcastInDim S28672x56 ![] bcast_S_S28672x56 (constant (F := Ideal) S_ .f32 0x40000000#32)) (eCol (pCol v)) (ix2 r q) = sc f := by
  rw [powCol_read, eCol_at, pCol_at, hf]
  rfl

theorem cRow_at (v : FVec Ideal S7168x224x128 .f32) (r : Fin 7168) (q : Fin 224) (k : Fin 128) (f : Fin 128 → EReal) (hf : (fun k => v (ix3 r q k)) = f) :
    cRow v (ix3 r q k) = code (f k) (inv f) := by
  have e : broadcastInDim S7168x224x128 ![0, 1, 2] bcast_S7168x224x1_S7168x224x128_0_1_2 (broadcastInDim S7168x224x1 ![0, 1] bcast_S7168x224_S7168x224x1_0_1
      (Host.powf (broadcastInDim S7168x224 ![] bcast_S_S7168x224 (constant (F := Ideal) S_ .f32 0x40000000#32)) (Host.negf (eRow (pRow v))))) (ix3 r q k)
      = inv f := by
    refine (broadcastInDim_apply _ _ _ _ (ix3 r q 0) (fun b => ?_)).trans ((broadcastInDim_apply _ _ _ _ (ix2 r q) (fun b => ?_)).trans ?_)
    · match b with
      | 0 => rfl
      | 1 => rfl
      | 2 => rfl
    · match b with
      | 0 => rfl
      | 1 => rfl
    · rw [powRow_read, negRow_read, eRow_at, pRow_at, hf]
      rfl
  have hv : v (ix3 r q k) = f k := congrFun hf k
  unfold cRow
  rw [clipRow_read, e, hv]

theorem cCol_at (v : FVec Ideal S28672x56x128 .f32) (r : Fin 28672) (q : Fin 56) (k : Fin 128) (f : Fin 128 → EReal) (hf : (fun k => v (ix3 r q k)) = f) :
    cCol v (ix3 r q k) = code (f k) (inv f) := by
  have e : broadcastInDim S28672x56x128 ![0, 1, 2] bcast_S28672x56x1_S28672x56x128_0_1_2 (broadcastInDim S28672x56x1 ![0, 1] bcast_S28672x56_S28672x56x1_0_1
      (Host.powf (broadcastInDim S28672x56 ![] bcast_S_S28672x56 (constant (F := Ideal) S_ .f32 0x40000000#32)) (Host.negf (eCol (pCol v))))) (ix3 r q k)
      = inv f := by
    refine (broadcastInDim_apply _ _ _ _ (ix3 r q 0) (fun b => ?_)).trans ((broadcastInDim_apply _ _ _ _ (ix2 r q) (fun b => ?_)).trans ?_)
    · match b with
      | 0 => rfl
      | 1 => rfl
      | 2 => rfl
    · match b with
      | 0 => rfl
      | 1 => rfl
    · rw [powCol_read, negCol_read, eCol_at, pCol_at, hf]
      rfl
  have hv : v (ix3 r q k) = f k := congrFun hf k
  unfold cCol
  rw [clipCol_read, e, hv]

/-! ## The results -/

variable (a : Vec Ideal S7x1024x28672 .bf16) (g : Vec Ideal S28672 .bf16)

theorem row_grp (r : Fin 7168) (q : Fin 224) : (fun k => vRow (yArr a g) (ix3 r q k)) = rowGrp (matX a) (vecG g) r.val q.val := by
  funext k
  have hq := q.isLt
  have hk := k.isLt
  exact (vRow_at _ r q k ⟨128 * q.val + k.val, by omega⟩ rfl).trans (y_at a g r _)

theorem col_grp (c : Fin 28672) (q : Fin 56) : (fun k => vCol (yArr a g) (ix3 c q k)) = colGrp (matX a) (vecG g) q.val c.val := by
  funext k
  have hq := q.isLt
  have hk := k.isLt
  exact (vCol_at _ c q k ⟨128 * q.val + k.val, by omega⟩ rfl).trans (y_at a g _ c)

theorem out0_at (j : S7168x28672.Idx) :
    out0 a g j = code (yv (matX a) (vecG g) (j 0).val (j 1).val) (inv (rowGrp (matX a) (vecG g) (j 0).val ((j 1).val / 128))) := by
  have h0 : (j 0).val < 7168 := (j 0).isLt
  have h1 : (j 1).val < 28672 := (j 1).isLt
  refine (shapeCast_apply _ shapeCasts_S7168x224x128_S7168x28672 j
    (ix3 ⟨(j 0).val, h0⟩ ⟨(j 1).val / 128, by omega⟩ ⟨(j 1).val % 128, by omega⟩) ?_).trans ?_
  · refine (Shape.rowMajor_val_three _).trans (Eq.trans ?_ (Shape.rowMajor_val_two _).symm)
    show ((j 0).val * 224 + (j 1).val / 128) * 128 + (j 1).val % 128 = (j 0).val * 28672 + (j 1).val
    omega
  · refine (cRow_at _ _ _ _ _ (row_grp a g _ _)).trans ?_
    refine congrArg₂ code ?_ rfl
    show yv (matX a) (vecG g) (j 0).val (128 * ((j 1).val / 128) + (j 1).val % 128) = _
    rw [Nat.div_add_mod]

theorem out1_at (j : S224x7168.Idx) : out1 a g j = sc (rowGrp (matX a) (vecG g) (j 1).val (j 0).val) := by
  refine (transpose_apply [1, 0] _ transposes_S7168x224_S224x7168_1_0 j (ix2 (j 1) (j 0)) (fun b => ?_)).trans
    (scRow_at _ _ _ _ (row_grp a g _ _))
  match b with
  | 0 => rfl
  | 1 => rfl

theorem out2_at (j : S28672x7168.Idx) :
    out2 a g j = code (yv (matX a) (vecG g) (j 1).val (j 0).val) (inv (colGrp (matX a) (vecG g) ((j 1).val / 128) (j 0).val)) := by
  have h0 : (j 0).val < 28672 := (j 0).isLt
  have h1 : (j 1).val < 7168 := (j 1).isLt
  refine (shapeCast_apply _ shapeCasts_S28672x56x128_S28672x7168 j
    (ix3 ⟨(j 0).val, h0⟩ ⟨(j 1).val / 128, by omega⟩ ⟨(j 1).val % 128, by omega⟩) ?_).trans ?_
  · refine (Shape.rowMajor_val_three _).trans (Eq.trans ?_ (Shape.rowMajor_val_two _).symm)
    show ((j 0).val * 56 + (j 1).val / 128) * 128 + (j 1).val % 128 = (j 0).val * 7168 + (j 1).val
    omega
  · refine (cCol_at _ _ _ _ _ (col_grp a g _ _)).trans ?_
    refine congrArg₂ code ?_ rfl
    show yv (matX a) (vecG g) (128 * ((j 1).val / 128) + (j 1).val % 128) (j 0).val = _
    rw [Nat.div_add_mod]

theorem out3_at (j : S7x224x8x128.Idx) :
    out3 a g j = sc (colGrp (matX a) (vecG g) (8 * (j 0).val + (j 2).val) (128 * (j 1).val + (j 3).val)) := by
  have h0 : (j 0).val < 7 := (j 0).isLt
  have h1 : (j 1).val < 224 := (j 1).isLt
  have h2 : (j 2).val < 8 := (j 2).isLt
  have h3 : (j 3).val < 128 := (j 3).isLt
  refine (transpose_apply [2, 0, 3, 1] _ transposes_S224x128x7x8_S7x224x8x128_2_0_3_1 j (ix4 (j 1) (j 3) (j 0) (j 2)) (fun b => ?_)).trans ?_
  · match b with
    | 0 => rfl
    | 1 => rfl
    | 2 => rfl
    | 3 => rfl
  refine (shapeCast_apply _ shapeCasts_S28672x56_S224x128x7x8 (ix4 (j 1) (j 3) (j 0) (j 2))
    (ix2 ⟨128 * (j 1).val + (j 3).val, by omega⟩ ⟨8 * (j 0).val + (j 2).val, by omega⟩) ?_).trans (scCol_at _ _ _ _ (col_grp a g _ _))
  refine (Shape.rowMajor_val_two _).trans (Eq.trans ?_ (Shape.rowMajor_val_four _).symm)
  show (128 * (j 1).val + (j 3).val) * 56 + (8 * (j 0).val + (j 2).val) = (((j 1).val * 128 + (j 3).val) * 7 + (j 0).val) * 8 + (j 2).val
  omega

theorem out4_at (j : S56x1x128.Idx) : out4 a j = rsig (matX a) (128 * (j 0).val + (j 2).val) := by
  have h0 : (j 0).val < 56 := (j 0).isLt
  have h1 : (j 1).val < 1 := (j 1).isLt
  have h2 : (j 2).val < 128 := (j 2).isLt
  refine (shapeCast_apply _ shapeCasts_S7168_S56x1x128 j (ix1 ⟨128 * (j 0).val + (j 2).val, by omega⟩) ?_).trans (rsq_at a _)
  refine (Shape.rowMajor_val_one _).trans (Eq.trans ?_ (Shape.rowMajor_val_three _).symm)
  show 128 * (j 0).val + (j 2).val = ((j 0).val * 1 + (j 1).val) * 128 + (j 2).val
  omega

end Cert.Proof.Reference

end
-- ==== Proof.IdealEquations.lean ====
/- The five equations: each array the kernel's launch leaves is the reference's result of the same arguments, where every
   `gamma` is at most `2^126` in absolute value. -/
module

public import proofs.«01_k».proof.Proof.KernelIdealArrays
public import proofs.«01_k».proof.Proof.IdealBlock
public import proofs.«01_k».proof.Proof.ReferenceValue

@[expose] public section

set_option maxRecDepth 16384
set_option maxHeartbeats 400000

noncomputable section

namespace Cert.Proof.KernelIdeal

open Cert.KernelIdeal Cert.KernelIdeal.Gen
open Idealize.ShloMosaic Idealize.ShloMosaic.TcCoe
open Cert.Proof.Spec Cert.Proof.Reference

variable (m : (ℓ : Loc nD τ sig) → Buf (Elt Ideal) ℓ) (c : Dev nD)

/-- The first argument, -/
abbrev argX : Vec Ideal S7x1024x28672 .bf16 := m ((c.tc : Thread nD τ).loc main_arg0)
/-- and the second. -/
abbrev argG : Vec Ideal S28672 .bf16 := m ((c.tc : Thread nD τ).loc main_arg1)

/-- A grid point's block of `x` is the matrix at its 128 rows. -/
theorem xAt_block (t : Fin cfg0.N) : IsBlock (xAt (F := Ideal) m c t) (matX (argX m c)) t.val := by
  intro r k hr hk
  have ht : t.val < 56 := lt_of_lt_of_eq t.isLt points
  have e := xAt_apply (F := Ideal) m c t (ix2 ⟨r, hr⟩ ⟨k, hk⟩)
    (ix3 ⟨(t.val * 128 + r) / 1024, by omega⟩ ⟨(t.val * 128 + r) % 1024, by omega⟩ ⟨k, hk⟩)
    (by show t.val * 128 + r = (t.val * 128 + r) / 1024 * 1024 + (t.val * 128 + r) % 1024; omega) rfl
  refine e.trans (matX_eq (argX m c) _ _ _ ?_ rfl).symm
  show 128 * t.val + r = (t.val * 128 + r) / 1024 * 1024 + (t.val * 128 + r) % 1024
  omega

/-- A grid point's block of `gamma` is all of it. -/
theorem gAt_gamma (t : Fin cfg0.N) : IsGamma (gAt (F := Ideal) m c t) (vecG (argG m c)) := by
  intro k hk
  exact (gAt_apply (F := Ideal) m c t (ix2 0 ⟨k, hk⟩) (ix1 ⟨k, hk⟩) rfl).trans (vecG_eq (argG m c) k (ix1 ⟨k, hk⟩) rfl).symm

theorem pt_val (n : ℕ) (h : n < 56) : (pt n).val = n := Nat.mod_eq_of_lt h

variable (hγ : ∀ k, max (vecG (argG m c) k) (-(vecG (argG m c) k)) ≤ Ideal.ofBits .f32 0x7E800000#32)

include hγ

theorem rcG_eq : rcG (F := Ideal) m c = out0 (argX m c) (argG m c) := by
  funext j
  have h0 : (j 0).val < 7168 := (j 0).isLt
  refine (rcB_at _ _ _ _ _ (xAt_block m c _) (gAt_gamma m c _) hγ _).trans (Eq.trans ?_ (out0_at (argX m c) (argG m c) j).symm)
  show code (yv _ _ (128 * (pt ((j 0).val / 128)).val + (j 0).val % 128) (j 1).val)
    (inv (rowGrp _ _ (128 * (pt ((j 0).val / 128)).val + (j 0).val % 128) ((j 1).val / 128))) = _
  rw [pt_val _ (by omega), Nat.div_add_mod]

theorem rsG_eq : rsG (F := Ideal) m c = out1 (argX m c) (argG m c) := by
  funext j
  have h1 : (j 1).val < 7168 := (j 1).isLt
  refine (rsB_at _ _ _ _ _ (xAt_block m c _) (gAt_gamma m c _) hγ _).trans (Eq.trans ?_ (out1_at (argX m c) (argG m c) j).symm)
  show sc (rowGrp _ _ (128 * (pt ((j 1).val / 128)).val + (j 1).val % 128) (j 0).val) = _
  rw [pt_val _ (by omega), Nat.div_add_mod]

theorem ccG_eq : ccG (F := Ideal) m c = out2 (argX m c) (argG m c) := by
  funext j
  have h1 : (j 1).val < 7168 := (j 1).isLt
  refine (ccB_at _ _ _ _ _ (xAt_block m c _) (gAt_gamma m c _) hγ _).trans (Eq.trans ?_ (out2_at (argX m c) (argG m c) j).symm)
  show code (yv _ _ (128 * (pt ((j 1).val / 128)).val + (j 1).val % 128) (j 0).val)
    (inv (colGrp _ _ (pt ((j 1).val / 128)).val (j 0).val)) = _
  rw [pt_val _ (by omega), Nat.div_add_mod]

theorem csG_eq : csG (F := Ideal) m c = out3 (argX m c) (argG m c) := by
  funext j
  have h0 : (j 0).val < 7 := (j 0).isLt
  have h2 : (j 2).val < 8 := (j 2).isLt
  refine (csB_at _ _ _ _ _ (xAt_block m c _) (gAt_gamma m c _) hγ _).trans (Eq.trans ?_ (out3_at (argX m c) (argG m c) j).symm)
  show sc (colGrp _ _ (pt (8 * (j 0).val + (j 2).val)).val (128 * (j 1).val + (j 3).val)) = _
  rw [pt_val _ (by omega)]

omit hγ in
theorem sigG_eq : sigG (F := Ideal) m c = out4 (argX m c) := by
  funext j
  have h0 : (j 0).val < 56 := (j 0).isLt
  refine (sigB_at _ _ _ (xAt_block m c _) _).trans (Eq.trans ?_ (out4_at (argX m c) j).symm)
  show rsig _ (128 * (pt (j 0).val).val + (j 2).val) = _
  rw [pt_val _ h0]

end Cert.Proof.KernelIdeal

end
-- ==== Proof.ReferenceRun.lean ====
/- The reference's run, its five results by name. -/
module

public import proofs.«01_k».proof.Proof.ReferenceTerms

@[expose] public section

set_option maxRecDepth 16384
set_option maxHeartbeats 400000

noncomputable section

namespace Cert.Proof.Reference

open Cert.ReferenceIdeal Cert.ReferenceIdeal.Gen
open Idealize.ShloMosaic Idealize.ShloMosaic.TcCoe Idealize.SL.Sem

/-- Every run of the reference ends with the five results and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v39) = out0 (m ((c.tc : Thread nD τ).loc main_arg0)) (m ((c.tc : Thread nD τ).loc main_arg1))
      ∧ r.2.mem ((c.tc : Thread nD τ).loc main_v65) = out1 (m ((c.tc : Thread nD τ).loc main_arg0)) (m ((c.tc : Thread nD τ).loc main_arg1))
      ∧ r.2.mem ((c.tc : Thread nD τ).loc main_v64) = out2 (m ((c.tc : Thread nD τ).loc main_arg0)) (m ((c.tc : Thread nD τ).loc main_arg1))
      ∧ r.2.mem ((c.tc : Thread nD τ).loc main_v67) = out3 (m ((c.tc : Thread nD τ).loc main_arg0)) (m ((c.tc : Thread nD τ).loc main_arg1))
      ∧ r.2.mem ((c.tc : Thread nD τ).loc main_v68) = out4 (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.ReferenceIdeal.Value.run (F := Ideal) m ρ)
  obtain ⟨h0, h1, h2, h3, h4, ha, hb⟩ := h c
  have e0 : Cert.ReferenceIdeal.Value.res_main_v39 m c = out0 (m ((c.tc : Thread nD τ).loc main_arg0)) (m ((c.tc : Thread nD τ).loc main_arg1)) := by
    unfold Cert.ReferenceIdeal.Value.res_main_v39 out0 cRow vRow eRow pRow yArr rsq xf
    rfl
  have e2 : Cert.ReferenceIdeal.Value.res_main_v64 m c = out2 (m ((c.tc : Thread nD τ).loc main_arg0)) (m ((c.tc : Thread nD τ).loc main_arg1)) := by
    unfold Cert.ReferenceIdeal.Value.res_main_v64 out2 cCol vCol eCol pCol yArr rsq xf
    rfl
  refine ⟨⟨h0.trans e0, h1.trans ?_, h2.trans e2, h3.trans ?_, h4.trans ?_⟩, ha, hb⟩
  · unfold out1 vRow eRow pRow yArr rsq xf
    rfl
  · unfold out3 vCol eCol pCol yArr rsq xf
    rfl
  · unfold out4 rsq xf
    rfl

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_gamma_in_range
public import proofs.«01_k».proof.Proof.KernelFrame
public import proofs.«01_k».proof.Proof.KernelIdealFrame
public import proofs.«01_k».proof.Proof.IdealEquations
public import proofs.«01_k».proof.Proof.ReferenceRun
public import Idealize.ShloMosaic.Adequacy
public import Idealize.ShloMosaic.Init

@[expose] public section

noncomputable section

namespace Cert.Proof

open Idealize.ShloMosaic Idealize.SL.Sem

/-- The reference runs, leaves its arguments unchanged, and has no semaphore that could end off zero. -/
theorem frame_ReferenceIdeal (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.2.2.2.2.1, (h c).2.2.2.2.2.2⟩, sem_eq_zero_of_no_sems (by decide) r.2⟩)
    (Cert.ReferenceIdeal.Value.run m g)

/-- The idealization's two rewrites: the named constant and the bf16 half of a word. -/
theorem preserves : Cert.preserves_Kernel_KernelIdeal :=
  ⟨IdealRules.named_const.statement Cert.KernelIdeal.κ "inv_d" .f32 0x38124925#32 ((1 / 28672 : ℝ) : EReal) rfl,
    IdealRules.bf16_pack.statement Cert.KernelIdeal.S128x128⟩

/-- The precondition at a channel: `gamma` is at most `2^126` in absolute value. -/
theorem gamma_le (a : Vec Ideal Cert.Pre_gamma_in_range.S7x1024x28672 .bf16) (g : Vec Ideal Cert.Pre_gamma_in_range.S28672 .bf16)
    (h : (haveI := Cert.Pre_gamma_in_range.Gen.facts; Cert.Pre_gamma_in_range.fn (F := Ideal) a g) = fun _ => 1#1) (k : ℕ) :
    max (Cert.Proof.Reference.vecG g k) (-(Cert.Proof.Reference.vecG g k)) ≤ Ideal.ofBits .f32 0x7E800000#32 := by
  have e : BitVec.ofBool (decide (max (Cert.Proof.Reference.vecG g k) (-(Cert.Proof.Reference.vecG g k)) ≤ Ideal.ofBits .f32 0x7E800000#32)) = 1#1 :=
    congrFun h _
  by_contra hn
  rw [decide_eq_false hn] at e
  exact absurd e (by decide)

/-- From equal arguments, with every `gamma` in range, the kernel and the reference leave the same five arrays. -/
theorem algebraic : Cert.algebraic_KernelIdeal_ReferenceIdeal_pre_gamma_in_range (hKernelIdeal := Cert.KernelIdeal.Gen.facts)
    (hReferenceIdeal := Cert.ReferenceIdeal.Gen.facts) (hPre_gamma_in_range := Cert.Pre_gamma_in_range.Gen.facts) := by
  intro m g m' g' hpre hm
  have hγ := fun c => gamma_le _ _ (hpre c)
  refine ⟨fun c => Cert.Proof.KernelIdeal.rcG m c, fun c => Cert.Proof.KernelIdeal.rsG m c, fun c => Cert.Proof.KernelIdeal.ccG m c,
    fun c => Cert.Proof.KernelIdeal.csG m c, fun c => Cert.Proof.KernelIdeal.sigG m c, ?_, ?_⟩
  · refine (θ_run Cert.KernelIdeal.defs _ _).mono (fun r h c => ?_) (Cert.Proof.KernelIdeal.run m g)
    obtain ⟨⟨h0, h1, h2, h3, h4⟩, ha, hb⟩ := h c
    exact ⟨h0, h1, h2, h3, h4, ha, hb⟩
  · refine (θ_run Cert.ReferenceIdeal.defs _ _).mono (fun r h c => ?_) (Cert.Proof.Reference.run m' g')
    obtain ⟨⟨h0, h1, h2, h3, h4⟩, ha, hb⟩ := h c
    obtain ⟨e0, e1⟩ := hm c
    exact ⟨(h0.trans (congrArg₂ Cert.Proof.Reference.out0 e0 e1)).trans (Cert.Proof.KernelIdeal.rcG_eq m c (hγ c)).symm,
      (h1.trans (congrArg₂ Cert.Proof.Reference.out1 e0 e1)).trans (Cert.Proof.KernelIdeal.rsG_eq m c (hγ c)).symm,
      (h2.trans (congrArg₂ Cert.Proof.Reference.out2 e0 e1)).trans (Cert.Proof.KernelIdeal.ccG_eq m c (hγ c)).symm,
      (h3.trans (congrArg₂ Cert.Proof.Reference.out3 e0 e1)).trans (Cert.Proof.KernelIdeal.csG_eq m c (hγ c)).symm,
      (h4.trans (congrArg Cert.Proof.Reference.out4 e0)).trans (Cert.Proof.KernelIdeal.sigG_eq m c).symm, ha, hb⟩

theorem claim : Cert.Claim :=
  ⟨Cert.Kernel.Gen.facts, Cert.KernelIdeal.Gen.facts, Cert.ReferenceIdeal.Gen.facts, Cert.Pre_gamma_in_range.Gen.facts,
    fun m g _ => Cert.Proof.Kernel.frame m g, fun m g _ => Cert.Proof.KernelIdeal.frame m g,
    fun m g _ => Cert.Proof.KernelIdeal.frame m g, fun m g _ => frame_ReferenceIdeal m g,
    fun m g _ => frame_ReferenceIdeal m g, preserves, algebraic⟩

end Cert.Proof

end
